-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_in_range [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_experts_in_range [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v40)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v40) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v73) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v72) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v23_0)) (v1 : (c : Dev Cert.ProjIdeal.nD) → Buf (Elt Ideal) ((c.tc : Thread Cert.ProjIdeal.nD Cert.ProjIdeal.τ).loc Cert.ProjIdeal.main_v23_1)) (v2 : (c : Dev Cert.ProjIdeal.nD) → Buf (Elt Ideal) ((c.tc : Thread Cert.ProjIdeal.nD Cert.ProjIdeal.τ).loc Cert.ProjIdeal.main_v23_2)) (v3 : (c : Dev Cert.ProjIdeal.nD) → Buf (Elt Ideal) ((c.tc : Thread Cert.ProjIdeal.nD Cert.ProjIdeal.τ).loc Cert.ProjIdeal.main_v23_3)) (v4 : (c : Dev Cert.ProjIdeal.nD) → Buf (Elt Ideal) ((c.tc : Thread Cert.ProjIdeal.nD Cert.ProjIdeal.τ).loc Cert.ProjIdeal.main_v23_4)) (v5 : (c : Dev Cert.ProjIdeal.nD) → Buf (Elt Ideal) ((c.tc : Thread Cert.ProjIdeal.nD Cert.ProjIdeal.τ).loc Cert.ProjIdeal.main_v23_5)) (v6 : (c : Dev Cert.ProjIdeal.nD) → Buf (Elt Ideal) ((c.tc : Thread Cert.ProjIdeal.nD Cert.ProjIdeal.τ).loc Cert.ProjIdeal.main_v23_6)) (v7 : (c : Dev Cert.ProjIdeal.nD) → Buf (Elt Ideal) ((c.tc : Thread Cert.ProjIdeal.nD Cert.ProjIdeal.τ).loc Cert.ProjIdeal.main_v23_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v23_0) = v0 c
          ∧ r.2.mem ((c.tc : Thread Cert.ProjIdeal.nD Cert.ProjIdeal.τ).loc Cert.ProjIdeal.main_v23_1) = v1 c
          ∧ r.2.mem ((c.tc : Thread Cert.ProjIdeal.nD Cert.ProjIdeal.τ).loc Cert.ProjIdeal.main_v23_2) = v2 c
          ∧ r.2.mem ((c.tc : Thread Cert.ProjIdeal.nD Cert.ProjIdeal.τ).loc Cert.ProjIdeal.main_v23_3) = v3 c
          ∧ r.2.mem ((c.tc : Thread Cert.ProjIdeal.nD Cert.ProjIdeal.τ).loc Cert.ProjIdeal.main_v23_4) = v4 c
          ∧ r.2.mem ((c.tc : Thread Cert.ProjIdeal.nD Cert.ProjIdeal.τ).loc Cert.ProjIdeal.main_v23_5) = v5 c
          ∧ r.2.mem ((c.tc : Thread Cert.ProjIdeal.nD Cert.ProjIdeal.τ).loc Cert.ProjIdeal.main_v23_6) = v6 c
          ∧ r.2.mem ((c.tc : Thread Cert.ProjIdeal.nD Cert.ProjIdeal.τ).loc Cert.ProjIdeal.main_v23_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v98) = v0 c
          ∧ r.2.mem ((c.tc : Thread Cert.ProjRefIdeal.nD Cert.ProjRefIdeal.τ).loc Cert.ProjRefIdeal.main_v99) = v1 c
          ∧ r.2.mem ((c.tc : Thread Cert.ProjRefIdeal.nD Cert.ProjRefIdeal.τ).loc Cert.ProjRefIdeal.main_v100) = v2 c
          ∧ r.2.mem ((c.tc : Thread Cert.ProjRefIdeal.nD Cert.ProjRefIdeal.τ).loc Cert.ProjRefIdeal.main_v97) = v3 c
          ∧ r.2.mem ((c.tc : Thread Cert.ProjRefIdeal.nD Cert.ProjRefIdeal.τ).loc Cert.ProjRefIdeal.main_v101) = v4 c
          ∧ r.2.mem ((c.tc : Thread Cert.ProjRefIdeal.nD Cert.ProjRefIdeal.τ).loc Cert.ProjRefIdeal.main_v102) = v5 c
          ∧ r.2.mem ((c.tc : Thread Cert.ProjRefIdeal.nD Cert.ProjRefIdeal.τ).loc Cert.ProjRefIdeal.main_v103) = v6 c
          ∧ r.2.mem ((c.tc : Thread Cert.ProjRefIdeal.nD Cert.ProjRefIdeal.τ).loc Cert.ProjRefIdeal.main_v29) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)) →
    ∃ (v0 : (c : Dev Cert.OutIdeal.nD) → Buf (Elt Ideal) ((c.tc : Thread Cert.OutIdeal.nD Cert.OutIdeal.τ).loc Cert.OutIdeal.main_v13_0)) (v1 : (c : Dev Cert.OutIdeal.nD) → Buf (Elt Ideal) ((c.tc : Thread Cert.OutIdeal.nD Cert.OutIdeal.τ).loc Cert.OutIdeal.main_v13_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v13_0) = v0 c
          ∧ r.2.mem ((c.tc : Thread Cert.OutIdeal.nD Cert.OutIdeal.τ).loc Cert.OutIdeal.main_v13_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_v27) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12))

def Claim : Prop :=
  ∃ (hAttn : Cert.Attn.Facts) (hAttnIdeal : Cert.AttnIdeal.Facts) (hAttnRefIdeal : Cert.AttnRefIdeal.Facts) (hExperts : Cert.Experts.Facts) (hExpertsIdeal : Cert.ExpertsIdeal.Facts) (hExpertsRefIdeal : Cert.ExpertsRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hPre_attn_finite : Cert.Pre_attn_finite.Facts) (hPre_experts_in_range : Cert.Pre_experts_in_range.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal)
    ∧ quiescent_ExpertsRefIdeal_pre_experts_in_range (hExpertsRefIdeal := hExpertsRefIdeal) (hPre_experts_in_range := hPre_experts_in_range)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
-- ==== Pre_attn_finite.lean ====
abbrev S8x4096x512 : Shape := ⟨3, ![8, 4096, 512]⟩
abbrev S8x192 : Shape := ⟨2, ![8, 192]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x192 : S_.BroadcastsInDim S8x192 (![] : Fin 0 → Fin S8x192.rank)
  reducesTo_S8x192_S_d0_1 : S8x192.ReducesTo [0, 1] S_

variable [Facts]

def fn {F : FTy → Type} [FloatOps F] (main_arg0 : FVec F S8x4096x512 .f32) (main_arg1 : FVec F S8x4096x512 .f32) (main_arg2 : FVec F S8x4096x512 .f32) (main_arg3 : FVec F S8x192 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x192 .f32 := Host.absf main_arg3
  let main_cst_2 : FVec F S_ .f32 := constant S_ .f32 0x7F800000#32
  let main_v10 : FVec F S8x192 .f32 := broadcastInDim S8x192 ![] bcast_S_S8x192 main_cst_2
  let main_v11 : IVec S8x192 1 := cmpf .olt main_v9 main_v10
  let main_c_3 : IVec S_ 1 := constantI S_ 1 1#1
  let main_v12 : IVec S_ 1 := (fun x v => Host.reduce IntOp.andi x v reducesTo_S8x192_S_d0_1 h_S_) main_v11 main_c_3
  let main_v13 : IVec S_ 1 := andi main_v8 main_v12
  main_v13
-- ==== Pre_experts_in_range.lean ====
abbrev S160 : Shape := ⟨1, ![160]⟩
abbrev S2 : Shape := ⟨1, ![2]⟩
abbrev S655360x128 : Shape := ⟨2, ![655360, 128]⟩
abbrev S4x32x1024x256 : Shape := ⟨4, ![4, 32, 1024, 256]⟩
abbrev S4x32x256x1024 : Shape := ⟨4, ![4, 32, 256, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel

variable [Facts]

def fn {F : FTy → Type} [FloatOps F] (main_arg0 : IVec S160 32) (main_arg1 : IVec S2 32) (main_arg2 : FVec F S655360x128 .f32) (main_arg3 : FVec F S4x32x1024x256 .f32) (main_arg4 : FVec F S4x32x1024x256 .f32) (main_arg5 : FVec F S4x32x256x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  main_v5
-- ==== Attn.lean ====
abbrev S8x4096x512 : Shape := ⟨3, ![8, 4096, 512]⟩
abbrev S8x192 : Shape := ⟨2, ![8, 192]⟩
abbrev S1024 : Shape := ⟨1, ![1024]⟩
abbrev S_ : Shape := ⟨0, ![]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1024x1 : Shape := ⟨2, ![1024, 1]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S1x256x768 : Shape := ⟨3, ![1, 256, 768]⟩
abbrev S1x256x512 : Shape := ⟨3, ![1, 256, 512]⟩
abbrev S1x128 : Shape := ⟨2, ![1, 128]⟩
abbrev S768x128 : Shape := ⟨2, ![768, 128]⟩
abbrev S1x256x128 : Shape := ⟨3, ![1, 256, 128]⟩
abbrev S256x128 : Shape := ⟨2, ![256, 128]⟩
abbrev S768x256 : Shape := ⟨2, ![768, 256]⟩
abbrev S256x256 : Shape := ⟨2, ![256, 256]⟩

abbrev nBuf : Space → Nat
  | .hbm => 91
  | .vmem => 17
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x192, .f32⟩
  | .hbm, ⟨4, _⟩ => ⟨S1024, .i32⟩
  | .hbm, ⟨5, _⟩ => ⟨S1024, .i1⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x512, .f32⟩
  | .hbm, ⟨11, _⟩ => ⟨S8x4096x512, .f32⟩
  | .hbm, ⟨12, _⟩ => ⟨S8x4096x512, .bf16⟩
  | .hbm, ⟨13, _⟩ => ⟨S8x4096x512, .bf16⟩
  | .hbm, ⟨14, _⟩ => ⟨S8x4096x512, .bf16⟩
  | .hbm, ⟨15, _⟩ => ⟨S256, .i32⟩
  | .hbm, ⟨16, _⟩ => ⟨S256x1, .i32⟩
  | .hbm, ⟨17, _⟩ => ⟨S768, .i32⟩
  | .hbm, ⟨18, _⟩ => ⟨S1x768, .i32⟩
  | .hbm, ⟨19, _⟩ => ⟨S_, .i32⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S256x1, .i32⟩
  | .hbm, ⟨28, _⟩ => ⟨S256x1, .i32⟩
  | .hbm, ⟨29, _⟩ => ⟨S_, .i32⟩
  | .hbm, ⟨30, _⟩ => ⟨S256x1, .i32⟩
  | .hbm, ⟨31, _⟩ => ⟨S256x1, .i1⟩
  | .hbm, ⟨32, _⟩ => ⟨S256x1, .i1⟩
  | .hbm, ⟨33, _⟩ => ⟨S_, .i32⟩
  | .hbm, ⟨34, _⟩ => ⟨S256x1, .i32⟩
  | .hbm, ⟨35, _⟩ => ⟨S256x1, .i32⟩
  | .hbm, ⟨36, _⟩ => ⟨S256x1, .i32⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S_, .i32⟩
  | .hbm, ⟨41, _⟩ => ⟨S_, .i32⟩
  | .hbm, ⟨42, _⟩ => ⟨S1x768, .i32⟩
  | .hbm, ⟨43, _⟩ => ⟨S1x768, .i32⟩
  | .hbm, ⟨44, _⟩ => ⟨S1x768, .i32⟩
  | .hbm, ⟨45, _⟩ => ⟨S_, .i32⟩
  | .hbm, ⟨46, _⟩ => ⟨S1x768, .i32⟩
  | .hbm, ⟨47, _⟩ => ⟨S1x768, .i1⟩
  | .hbm, ⟨48, _⟩ => ⟨S1x768, .i32⟩
  | .hbm, ⟨49, _⟩ => ⟨S1x768, .i32⟩
  | .hbm, ⟨50, _⟩ => ⟨S_, .i32⟩
  | .hbm, ⟨51, _⟩ => ⟨S1x768, .i32⟩
  | .hbm, ⟨52, _⟩ => ⟨S1x768, .i1⟩
  | .hbm, ⟨53, _⟩ => ⟨S1x768, .i1⟩
  | .hbm, ⟨54, _⟩ => ⟨S_, .i32⟩
  | .hbm, ⟨55, _⟩ => ⟨S1x768, .i32⟩
  | .hbm, ⟨56, _⟩ => ⟨S1x768, .i32⟩
  | .hbm, ⟨57, _⟩ => ⟨S1x768, .i32⟩
  | .hbm, ⟨58, _⟩ => ⟨S_, .i32⟩
  | .hbm, ⟨59, _⟩ => ⟨S256x1, .i32⟩
  | .hbm, ⟨60, _⟩ => ⟨S256x1, .i32⟩
  | .hbm, ⟨61, _⟩ => ⟨S256x768, .i32⟩
  | .hbm, ⟨62, _⟩ => ⟨S256x768, .i32⟩
  | .hbm, ⟨63, _⟩ => ⟨S256x768, .i1⟩
  | .hbm, ⟨64, _⟩ => ⟨S256x768, .i32⟩
  | .hbm, ⟨65, _⟩ => ⟨S256x768, .i32⟩
  | .hbm, ⟨66, _⟩ => ⟨S256x768, .i1⟩
  | .hbm, ⟨67, _⟩ => ⟨S256x768, .i1⟩
  | .hbm, ⟨68, _⟩ => ⟨S_, .i32⟩
  | .hbm, ⟨69, _⟩ => ⟨S1024, .i32⟩
  | .hbm, ⟨70, _⟩ => ⟨S1024, .i32⟩
  | .hbm, ⟨71, _⟩ => ⟨S1024, .i32⟩
  | .hbm, ⟨72, _⟩ => ⟨S1024x1, .i32⟩
  | .hbm, ⟨73, _⟩ => ⟨S8x1024, .f32⟩
  | .hbm, ⟨74, _⟩ => ⟨S1x8x1x1024, .f32⟩
  | .hbm, ⟨75, _⟩ => ⟨S1x8x256x1024, .f32⟩
  | .hbm, ⟨76, _⟩ => ⟨S8x262144, .f32⟩
  | .hbm, ⟨77, _⟩ => ⟨S8x261888, .f32⟩
  | .hbm, ⟨78, _⟩ => ⟨S8x256x1023, .f32⟩
  | .hbm, ⟨79, _⟩ => ⟨S8x256x768, .f32⟩
  | .hbm, ⟨80, _⟩ => ⟨S1x256x768, .i1⟩
  | .hbm, ⟨81, _⟩ => ⟨S_, .f32⟩
  | .hbm, ⟨82, _⟩ => ⟨S_, .f32⟩
  | .hbm, ⟨83, _⟩ => ⟨S8x256x768, .f32⟩
  | .hbm, ⟨84, _⟩ => ⟨S8x256x768, .f32⟩
  | .hbm, ⟨85, _⟩ => ⟨S_, .f32⟩
  | .hbm, ⟨86, _⟩ => ⟨S_, .f32⟩
  | .hbm, ⟨87, _⟩ => ⟨S8x256x768, .i1⟩
  | .hbm, ⟨88, _⟩ => ⟨S8x256x768, .f32⟩
  | .hbm, ⟨89, _⟩ => ⟨S8x256x768, .f32⟩
  | .hbm, ⟨90, _⟩ => ⟨S8x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S8x256x768, .f32⟩
  | .local _ .vmem, ⟨15, _⟩ => ⟨S1x256x512, .bf16⟩
  | .local _ .vmem, ⟨16, _⟩ => ⟨S1x256x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v11 : Ref sig .tc := ⟨.hbm, 36, rfl⟩
abbrev main_c_3 : Ref sig .tc := ⟨.hbm, 37, rfl⟩
abbrev main_v12 : Ref sig .tc := ⟨.hbm, 38, rfl⟩
abbrev main_v13 : Ref sig .tc := ⟨.hbm, 39, rfl⟩
abbrev main_c_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v14 : Ref sig .tc := ⟨.hbm, 57, rfl⟩
abbrev main_c_5 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_c_6 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_7 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_8 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v39 : Ref sig .tc := ⟨.hbm, 89, rfl⟩
abbrev main_v40 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c2_i32 : BitVec 32 := 2#32
  let v4 : BitVec 1 := Scalar.cmpi .slt arg1 c2_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c2_i32_0 : BitVec 32 := 2#32
  let v7 : BitVec 1 := Scalar.cmpi .sge arg1 c2_i32_0
  let v8 : BitVec 32 := Scalar.extui v7
  let c0_i32_1 : BitVec 32 := 0#32
  let v9 : BitVec 1 := Scalar.cmpi .ne v8 c0_i32_1
  v9

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8x4096x512 : Shape := ⟨3, ![8, 4096, 512]⟩
abbrev S8x192 : Shape := ⟨2, ![8, 192]⟩
abbrev S8x64x64x8x64 : Shape := ⟨5, ![8, 64, 64, 8, 64]⟩
abbrev S_ : Shape := ⟨0, ![]⟩
abbrev S8x72x64x8x64 : Shape := ⟨5, ![8, 72, 64, 8, 64]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S8x64x9x64x8x64 : Shape := ⟨6, ![8, 64, 9, 64, 8, 64]⟩
abbrev S8x64x576x8x64 : Shape := ⟨5, ![8, 64, 576, 8, 64]⟩
abbrev S64x9x64 : Shape := ⟨3, ![64, 9, 64]⟩
abbrev S64x576 : Shape := ⟨2, ![64, 576]⟩
abbrev S576 : Shape := ⟨1, ![576]⟩
abbrev S1x576 : Shape := ⟨2, ![1, 576]⟩
abbrev S64x576x1 : Shape := ⟨3, ![64, 576, 1]⟩
abbrev S8x64x576 : Shape := ⟨3, ![8, 64, 576]⟩
abbrev S8x64x8x64x576 : Shape := ⟨5, ![8, 64, 8, 64, 576]⟩
abbrev S1x1x8x64x576 : Shape := ⟨5, ![1, 1, 8, 64, 576]⟩
abbrev S1x64x1x1x576 : Shape := ⟨5, ![1, 64, 1, 1, 576]⟩
abbrev S8x64x8x64 : Shape := ⟨4, ![8, 64, 8, 64]⟩
abbrev S8x64x8x64x1 : Shape := ⟨5, ![8, 64, 8, 64, 1]⟩
abbrev S8x64x8x64x64 : Shape := ⟨5, ![8, 64, 8, 64, 64]⟩

abbrev nBuf : Space → Nat
  | .hbm => 106
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x192, .f32⟩
  | .hbm, ⟨4, _⟩ => ⟨S8x64x64x8x64, .f32⟩
  | .hbm, ⟨5, _⟩ => ⟨S8x64x64x8x64, .f32⟩
  | .hbm, ⟨6, _⟩ => ⟨S_, .i32⟩
  | .hbm, ⟨7, _⟩ => ⟨S_, .f32⟩
  | .hbm, ⟨8, _⟩ => ⟨S8x72x64x8x64, .f32⟩
  | .hbm, ⟨9, _⟩ => ⟨S8x64x64x8x64, .f32⟩
  | .hbm, ⟨10, _⟩ => ⟨S_, .i32⟩
  | .hbm, ⟨11, _⟩ => ⟨S_, .f32⟩
  | .hbm, ⟨12, _⟩ => ⟨S8x72x64x8x64, .f32⟩
  | .hbm, ⟨13, _⟩ => ⟨S64, .i32⟩
  | .hbm, ⟨14, _⟩ => ⟨S64x1, .i32⟩
  | .hbm, ⟨15, _⟩ => ⟨S9, .i32⟩
  | .hbm, ⟨16, _⟩ => ⟨S1x9, .i32⟩
  | .hbm, ⟨17, _⟩ => ⟨S64x9, .i32⟩
  | .hbm, ⟨18, _⟩ => ⟨S64x9, .i32⟩
  | .hbm, ⟨19, _⟩ => ⟨S64x9, .i32⟩
  | .hbm, ⟨20, _⟩ => ⟨S_, .i32⟩
  | .hbm, ⟨21, _⟩ => ⟨S64x9, .i32⟩
  | .hbm, ⟨22, _⟩ => ⟨S64x9, .i1⟩
  | .hbm, ⟨23, _⟩ => ⟨S_, .i32⟩
  | .hbm, ⟨24, _⟩ => ⟨S64x9, .i32⟩
  | .hbm, ⟨25, _⟩ => ⟨S64x9, .i32⟩
  | .hbm, ⟨26, _⟩ => ⟨S64x9, .i32⟩
  | .hbm, ⟨27, _⟩ => ⟨S64x9x1, .i32⟩
  | .hbm, ⟨28, _⟩ => ⟨S8x64x9x64x8x64, .f32⟩
  | .hbm, ⟨29, _⟩ => ⟨S8x64x576x8x64, .f32⟩
  | .hbm, ⟨30, _⟩ => ⟨S_, .i32⟩
  | .hbm, ⟨31, _⟩ => ⟨S64x9, .i32⟩
  | .hbm, ⟨32, _⟩ => ⟨S64x9, .i1⟩
  | .hbm, ⟨33, _⟩ => ⟨S_, .i32⟩
  | .hbm, ⟨34, _⟩ => ⟨S64x9, .i32⟩
  | .hbm, ⟨35, _⟩ => ⟨S64x9, .i32⟩
  | .hbm, ⟨36, _⟩ => ⟨S64x9, .i32⟩
  | .hbm, ⟨37, _⟩ => ⟨S64x9x1, .i32⟩
  | .hbm, ⟨38, _⟩ => ⟨S8x64x9x64x8x64, .f32⟩
  | .hbm, ⟨39, _⟩ => ⟨S8x64x576x8x64, .f32⟩
  | .hbm, ⟨40, _⟩ => ⟨S_, .i32⟩
  | .hbm, ⟨41, _⟩ => ⟨S64x9, .i32⟩
  | .hbm, ⟨42, _⟩ => ⟨S64x9, .i1⟩
  | .hbm, ⟨43, _⟩ => ⟨S64x9x64, .i1⟩
  | .hbm, ⟨44, _⟩ => ⟨S64x576, .i1⟩
  | .hbm, ⟨45, _⟩ => ⟨S576, .i32⟩
  | .hbm, ⟨46, _⟩ => ⟨S_, .i32⟩
  | .hbm, ⟨47, _⟩ => ⟨S576, .i32⟩
  | .hbm, ⟨48, _⟩ => ⟨S576, .i32⟩
  | .hbm, ⟨49, _⟩ => ⟨S1x576, .i32⟩
  | .hbm, ⟨50, _⟩ => ⟨S64, .i32⟩
  | .hbm, ⟨51, _⟩ => ⟨S64x1, .i32⟩
  | .hbm, ⟨52, _⟩ => ⟨S64x576, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S64x576, .i32⟩
  | .hbm, ⟨59, _⟩ => ⟨S64x576, .i32⟩
  | .hbm, ⟨60, _⟩ => ⟨S_, .i32⟩
  | .hbm, ⟨61, _⟩ => ⟨S64x576, .i32⟩
  | .hbm, ⟨62, _⟩ => ⟨S64x576, .i32⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S_, .i32⟩
  | .hbm, ⟨67, _⟩ => ⟨S64x576, .i32⟩
  | .hbm, ⟨68, _⟩ => ⟨S64x576, .i1⟩
  | .hbm, ⟨69, _⟩ => ⟨S_, .i32⟩
  | .hbm, ⟨70, _⟩ => ⟨S64x576, .i32⟩
  | .hbm, ⟨71, _⟩ => ⟨S64x576, .i32⟩
  | .hbm, ⟨72, _⟩ => ⟨S64x576, .i32⟩
  | .hbm, ⟨73, _⟩ => ⟨S64x576x1, .i32⟩
  | .hbm, ⟨74, _⟩ => ⟨S8x64x576, .f32⟩
  | .hbm, ⟨75, _⟩ => ⟨S8x64x8x64x576, .f32⟩
  | .hbm, ⟨76, _⟩ => ⟨S_, .f32⟩
  | .hbm, ⟨77, _⟩ => ⟨S8x64x8x64x576, .f32⟩
  | .hbm, ⟨78, _⟩ => ⟨S8x64x8x64x576, .f32⟩
  | .hbm, ⟨79, _⟩ => ⟨S1x1x8x64x576, .f32⟩
  | .hbm, ⟨80, _⟩ => ⟨S8x64x8x64x576, .f32⟩
  | .hbm, ⟨81, _⟩ => ⟨S8x64x8x64x576, .f32⟩
  | .hbm, ⟨82, _⟩ => ⟨S1x64x1x1x576, .i1⟩
  | .hbm, ⟨83, _⟩ => ⟨S_, .f32⟩
  | .hbm, ⟨84, _⟩ => ⟨S_, .f32⟩
  | .hbm, ⟨85, _⟩ => ⟨S8x64x8x64x576, .i1⟩
  | .hbm, ⟨86, _⟩ => ⟨S8x64x8x64x576, .f32⟩
  | .hbm, ⟨87, _⟩ => ⟨S8x64x8x64x576, .f32⟩
  | .hbm, ⟨88, _⟩ => ⟨S_, .f32⟩
  | .hbm, ⟨89, _⟩ => ⟨S8x64x8x64, .f32⟩
  | .hbm, ⟨90, _⟩ => ⟨S_, .f32⟩
  | .hbm, ⟨91, _⟩ => ⟨S8x64x8x64, .f32⟩
  | .hbm, ⟨92, _⟩ => ⟨S8x64x8x64, .f32⟩
  | .hbm, ⟨93, _⟩ => ⟨S8x64x8x64x1, .f32⟩
  | .hbm, ⟨94, _⟩ => ⟨S8x64x8x64x576, .f32⟩
  | .hbm, ⟨95, _⟩ => ⟨S8x64x8x64x576, .f32⟩
  | .hbm, ⟨96, _⟩ => ⟨S8x64x8x64x576, .f32⟩
  | .hbm, ⟨97, _⟩ => ⟨S_, .f32⟩
  | .hbm, ⟨98, _⟩ => ⟨S8x64x8x64, .f32⟩
  | .hbm, ⟨99, _⟩ => ⟨S8x64x8x64x1, .f32⟩
  | .hbm, ⟨100, _⟩ => ⟨S8x64x8x64x576, .f32⟩
  | .hbm, ⟨101, _⟩ => ⟨S8x64x8x64x576, .f32⟩
  | .hbm, ⟨102, _⟩ => ⟨S8x64x8x64x64, .f32⟩
  | .hbm, ⟨103, _⟩ => ⟨S8x64x64x8x64, .f32⟩
  | .hbm, ⟨104, _⟩ => ⟨S8x4096x512, .f32⟩
  | .hbm, ⟨105, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_c_8 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]
-- ==== Experts.lean ====
abbrev S160 : Shape := ⟨1, ![160]⟩
abbrev S2 : Shape := ⟨1, ![2]⟩
abbrev S655360x128 : Shape := ⟨2, ![655360, 128]⟩
abbrev S4x32x1024x256 : Shape := ⟨4, ![4, 32, 1024, 256]⟩
abbrev S4x32x256x1024 : Shape := ⟨4, ![4, 32, 256, 1024]⟩
abbrev S4096x128 : Shape := ⟨2, ![4096, 128]⟩
abbrev S1x1x1024x256 : Shape := ⟨4, ![1, 1, 1024, 256]⟩
abbrev S1 : Shape := ⟨1, ![1]⟩
abbrev S1x1x256x1024 : Shape := ⟨4, ![1, 1, 256, 1024]⟩
abbrev S512x128 : Shape := ⟨2, ![512, 128]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S655360x128, .f32⟩
  | .hbm, ⟨1, _⟩ => ⟨S4x32x1024x256, .f32⟩
  | .hbm, ⟨2, _⟩ => ⟨S4x32x1024x256, .f32⟩
  | .hbm, ⟨3, _⟩ => ⟨S4x32x256x1024, .f32⟩
  | .hbm, ⟨4, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S4096x128, .f32⟩
  | .local _ .vmem, ⟨9, _⟩ => ⟨S4096x128, .f32⟩
  | .local _ .smem, ⟨0, _⟩ => ⟨S160, .i32⟩
  | .local _ .smem, ⟨1, _⟩ => ⟨S2, .i32⟩
  | _, _ => ⟨S655360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S160 : Shape := ⟨1, ![160]⟩
abbrev S2 : Shape := ⟨1, ![2]⟩
abbrev S655360x128 : Shape := ⟨2, ![655360, 128]⟩
abbrev S4x32x1024x256 : Shape := ⟨4, ![4, 32, 1024, 256]⟩
abbrev S4x32x256x1024 : Shape := ⟨4, ![4, 32, 256, 1024]⟩
abbrev S1x32x1024x256 : Shape := ⟨4, ![1, 32, 1024, 256]⟩
abbrev S32x1024x256 : Shape := ⟨3, ![32, 1024, 256]⟩
abbrev S1x32x256x1024 : Shape := ⟨4, ![1, 32, 256, 1024]⟩
abbrev S32x256x1024 : Shape := ⟨3, ![32, 256, 1024]⟩
abbrev S81920x1024 : Shape := ⟨2, ![81920, 1024]⟩
abbrev S1 : Shape := ⟨1, ![1]⟩
abbrev S_ : Shape := ⟨0, ![]⟩
abbrev S160x1 : Shape := ⟨2, ![160, 1]⟩
abbrev S1x32 : Shape := ⟨2, ![1, 32]⟩
abbrev S160x32 : Shape := ⟨2, ![160, 32]⟩
abbrev S160x512x32 : Shape := ⟨3, ![160, 512, 32]⟩
abbrev S81920x32 : Shape := ⟨2, ![81920, 32]⟩
abbrev S8x1024x256 : Shape := ⟨3, ![8, 1024, 256]⟩
abbrev S81920x8x256 : Shape := ⟨3, ![81920, 8, 256]⟩
abbrev S81920x8 : Shape := ⟨2, ![81920, 8]⟩
abbrev S81920x8x1 : Shape := ⟨3, ![81920, 8, 1]⟩
abbrev S8x256x1024 : Shape := ⟨3, ![8, 256, 1024]⟩

abbrev nBuf : Space → Nat
  | .hbm => 117
  | .vmem => 0
  | .smem => 0
  | _ => 0

abbrev bufTy : (tb : Table) → Fin (tcTables nBuf tb) → BufTy
  | .hbm, ⟨0, _⟩ => ⟨S160, .i32⟩
  | .hbm, ⟨1, _⟩ => ⟨S2, .i32⟩
  | .hbm, ⟨2, _⟩ => ⟨S655360x128, .f32⟩
  | .hbm, ⟨3, _⟩ => ⟨S4x32x1024x256, .f32⟩
  | .hbm, ⟨4, _⟩ => ⟨S4x32x1024x256, .f32⟩
  | .hbm, ⟨5, _⟩ => ⟨S4x32x256x1024, .f32⟩
  | .hbm, ⟨6, _⟩ => ⟨S1x32x1024x256, .f32⟩
  | .hbm, ⟨7, _⟩ => ⟨S32x1024x256, .f32⟩
  | .hbm, ⟨8, _⟩ => ⟨S1x32x1024x256, .f32⟩
  | .hbm, ⟨9, _⟩ => ⟨S32x1024x256, .f32⟩
  | .hbm, ⟨10, _⟩ => ⟨S1x32x256x1024, .f32⟩
  | .hbm, ⟨11, _⟩ => ⟨S32x256x1024, .f32⟩
  | .hbm, ⟨12, _⟩ => ⟨S81920x1024, .f32⟩
  | .hbm, ⟨13, _⟩ => ⟨S160, .i32⟩
  | .hbm, ⟨14, _⟩ => ⟨S1, .i32⟩
  | .hbm, ⟨15, _⟩ => ⟨S_, .i32⟩
  | .hbm, ⟨16, _⟩ => ⟨S160, .i32⟩
  | .hbm, ⟨17, _⟩ => ⟨S160, .i1⟩
  | .hbm, ⟨18, _⟩ => ⟨S160, .f32⟩
  | .hbm, ⟨19, _⟩ => ⟨S160x1, .i32⟩
  | .hbm, ⟨20, _⟩ => ⟨S1x32, .i32⟩
  | .hbm, ⟨21, _⟩ => ⟨S160x32, .i32⟩
  | .hbm, ⟨22, _⟩ => ⟨S160x32, .i32⟩
  | .hbm, ⟨23, _⟩ => ⟨S160x32, .i1⟩
  | .hbm, ⟨24, _⟩ => ⟨S160x32, .f32⟩
  | .hbm, ⟨25, _⟩ => ⟨S160x1, .f32⟩
  | .hbm, ⟨26, _⟩ => ⟨S160x32, .f32⟩
  | .hbm, ⟨27, _⟩ => ⟨S160x32, .f32⟩
  | .hbm, ⟨28, _⟩ => ⟨S160x512x32, .f32⟩
  | .hbm, ⟨29, _⟩ => ⟨S81920x32, .f32⟩
  | .hbm, ⟨30, _⟩ => ⟨S_, .f32⟩
  | .hbm, ⟨31, _⟩ => ⟨S81920x1024, .f32⟩
  | .hbm, ⟨32, _⟩ => ⟨S8x1024x256, .f32⟩
  | .hbm, ⟨33, _⟩ => ⟨S81920x8x256, .f32⟩
  | .hbm, ⟨34, _⟩ => ⟨S8x1024x256, .f32⟩
  | .hbm, ⟨35, _⟩ => ⟨S81920x8x256, .f32⟩
  | .hbm, ⟨36, _⟩ => ⟨S81920x8x256, .f32⟩
  | .hbm, ⟨37, _⟩ => ⟨S81920x8x256, .f32⟩
  | .hbm, ⟨38, _⟩ => ⟨S_, .f32⟩
  | .hbm, ⟨39, _⟩ => ⟨S81920x8x256, .f32⟩
  | .hbm, ⟨40, _⟩ => ⟨S81920x8x256, .f32⟩
  | .hbm, ⟨41, _⟩ => ⟨S_, .f32⟩
  | .hbm, ⟨42, _⟩ => ⟨S81920x8x256, .f32⟩
  | .hbm, ⟨43, _⟩ => ⟨S81920x8x256, .f32⟩
  | .hbm, ⟨44, _⟩ => ⟨S81920x8x256, .f32⟩
  | .hbm, ⟨45, _⟩ => ⟨S81920x8x256, .f32⟩
  | .hbm, ⟨46, _⟩ => ⟨S81920x8, .f32⟩
  | .hbm, ⟨47, _⟩ => ⟨S81920x8x1, .f32⟩
  | .hbm, ⟨48, _⟩ => ⟨S81920x8x256, .f32⟩
  | .hbm, ⟨49, _⟩ => ⟨S81920x8x256, .f32⟩
  | .hbm, ⟨50, _⟩ => ⟨S8x256x1024, .f32⟩
  | .hbm, ⟨51, _⟩ => ⟨S81920x1024, .f32⟩
  | .hbm, ⟨52, _⟩ => ⟨S81920x1024, .f32⟩
  | .hbm, ⟨53, _⟩ => ⟨S8x1024x256, .f32⟩
  | .hbm, ⟨54, _⟩ => ⟨S81920x8x256, .f32⟩
  | .hbm, ⟨55, _⟩ => ⟨S8x1024x256, .f32⟩
  | .hbm, ⟨56, _⟩ => ⟨S81920x8x256, .f32⟩
  | .hbm, ⟨57, _⟩ => ⟨S81920x8x256, .f32⟩
  | .hbm, ⟨58, _⟩ => ⟨S81920x8x256, .f32⟩
  | .hbm, ⟨59, _⟩ => ⟨S_, .f32⟩
  | .hbm, ⟨60, _⟩ => ⟨S81920x8x256, .f32⟩
  | .hbm, ⟨61, _⟩ => ⟨S81920x8x256, .f32⟩
  | .hbm, ⟨62, _⟩ => ⟨S_, .f32⟩
  | .hbm, ⟨63, _⟩ => ⟨S81920x8x256, .f32⟩
  | .hbm, ⟨64, _⟩ => ⟨S81920x8x256, .f32⟩
  | .hbm, ⟨65, _⟩ => ⟨S81920x8x256, .f32⟩
  | .hbm, ⟨66, _⟩ => ⟨S81920x8x256, .f32⟩
  | .hbm, ⟨67, _⟩ => ⟨S81920x8, .f32⟩
  | .hbm, ⟨68, _⟩ => ⟨S81920x8x1, .f32⟩
  | .hbm, ⟨69, _⟩ => ⟨S81920x8x256, .f32⟩
  | .hbm, ⟨70, _⟩ => ⟨S81920x8x256, .f32⟩
  | .hbm, ⟨71, _⟩ => ⟨S8x256x1024, .f32⟩
  | .hbm, ⟨72, _⟩ => ⟨S81920x1024, .f32⟩
  | .hbm, ⟨73, _⟩ => ⟨S81920x1024, .f32⟩
  | .hbm, ⟨74, _⟩ => ⟨S8x1024x256, .f32⟩
  | .hbm, ⟨75, _⟩ => ⟨S81920x8x256, .f32⟩
  | .hbm, ⟨76, _⟩ => ⟨S8x1024x256, .f32⟩
  | .hbm, ⟨77, _⟩ => ⟨S81920x8x256, .f32⟩
  | .hbm, ⟨78, _⟩ => ⟨S81920x8x256, .f32⟩
  | .hbm, ⟨79, _⟩ => ⟨S81920x8x256, .f32⟩
  | .hbm, ⟨80, _⟩ => ⟨S_, .f32⟩
  | .hbm, ⟨81, _⟩ => ⟨S81920x8x256, .f32⟩
  | .hbm, ⟨82, _⟩ => ⟨S81920x8x256, .f32⟩
  | .hbm, ⟨83, _⟩ => ⟨S_, .f32⟩
  | .hbm, ⟨84, _⟩ => ⟨S81920x8x256, .f32⟩
  | .hbm, ⟨85, _⟩ => ⟨S81920x8x256, .f32⟩
  | .hbm, ⟨86, _⟩ => ⟨S81920x8x256, .f32⟩
  | .hbm, ⟨87, _⟩ => ⟨S81920x8x256, .f32⟩
  | .hbm, ⟨88, _⟩ => ⟨S81920x8, .f32⟩
  | .hbm, ⟨89, _⟩ => ⟨S81920x8x1, .f32⟩
  | .hbm, ⟨90, _⟩ => ⟨S81920x8x256, .f32⟩
  | .hbm, ⟨91, _⟩ => ⟨S81920x8x256, .f32⟩
  | .hbm, ⟨92, _⟩ => ⟨S8x256x1024, .f32⟩
  | .hbm, ⟨93, _⟩ => ⟨S81920x1024, .f32⟩
  | .hbm, ⟨94, _⟩ => ⟨S81920x1024, .f32⟩
  | .hbm, ⟨95, _⟩ => ⟨S8x1024x256, .f32⟩
  | .hbm, ⟨96, _⟩ => ⟨S81920x8x256, .f32⟩
  | .hbm, ⟨97, _⟩ => ⟨S8x1024x256, .f32⟩
  | .hbm, ⟨98, _⟩ => ⟨S81920x8x256, .f32⟩
  | .hbm, ⟨99, _⟩ => ⟨S81920x8x256, .f32⟩
  | .hbm, ⟨100, _⟩ => ⟨S81920x8x256, .f32⟩
  | .hbm, ⟨101, _⟩ => ⟨S_, .f32⟩
  | .hbm, ⟨102, _⟩ => ⟨S81920x8x256, .f32⟩
  | .hbm, ⟨103, _⟩ => ⟨S81920x8x256, .f32⟩
  | .hbm, ⟨104, _⟩ => ⟨S_, .f32⟩
  | .hbm, ⟨105, _⟩ => ⟨S81920x8x256, .f32⟩
  | .hbm, ⟨106, _⟩ => ⟨S81920x8x256, .f32⟩
  | .hbm, ⟨107, _⟩ => ⟨S81920x8x256, .f32⟩
  | .hbm, ⟨108, _⟩ => ⟨S81920x8x256, .f32⟩
  | .hbm, ⟨109, _⟩ => ⟨S81920x8, .f32⟩
  | .hbm, ⟨110, _⟩ => ⟨S81920x8x1, .f32⟩
  | .hbm, ⟨111, _⟩ => ⟨S81920x8x256, .f32⟩
  | .hbm, ⟨112, _⟩ => ⟨S81920x8x256, .f32⟩
  | .hbm, ⟨113, _⟩ => ⟨S8x256x1024, .f32⟩
  | .hbm, ⟨114, _⟩ => ⟨S81920x1024, .f32⟩
  | .hbm, ⟨115, _⟩ => ⟨S81920x1024, .f32⟩
  | .hbm, ⟨116, _⟩ => ⟨S655360x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call3_v0 : Ref sig .tc := ⟨.hbm, 78, rfl⟩
abbrev main_call3_v1 : Ref sig .tc := ⟨.hbm, 79, rfl⟩
abbrev main_call3_cst : Ref sig .tc := ⟨.hbm, 80, rfl⟩
abbrev main_call3_v2 : Ref sig .tc := ⟨.hbm, 81, rfl⟩
abbrev main_call3_v3 : Ref sig .tc := ⟨.hbm, 82, rfl⟩
abbrev main_call3_cst_0 : Ref sig .tc := ⟨.hbm, 83, rfl⟩
abbrev main_call3_v4 : Ref sig .tc := ⟨.hbm, 84, rfl⟩
abbrev main_call3_v5 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call4_v0 : Ref sig .tc := ⟨.hbm, 99, rfl⟩
abbrev main_call4_v1 : Ref sig .tc := ⟨.hbm, 100, rfl⟩
abbrev main_call4_cst : Ref sig .tc := ⟨.hbm, 101, rfl⟩
abbrev main_call4_v2 : Ref sig .tc := ⟨.hbm, 102, rfl⟩
abbrev main_call4_v3 : Ref sig .tc := ⟨.hbm, 103, rfl⟩
abbrev main_call4_cst_0 : Ref sig .tc := ⟨.hbm, 104, rfl⟩
abbrev main_call4_v4 : Ref sig .tc := ⟨.hbm, 105, rfl⟩
abbrev main_call4_v5 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩

abbrev nD : Nat := 1
abbrev τ : Topo := Topo.v7x

variable {F : FTy → Type} [FloatOps F]
-- ==== Proj.lean ====
abbrev S8x4096x1024 : Shape := ⟨3, ![8, 4096, 1024]⟩
abbrev S8x1x1024 : Shape := ⟨3, ![8, 1, 1024]⟩
abbrev S1x1024 : Shape := ⟨2, ![1, 1024]⟩
abbrev S1024x2816 : Shape := ⟨2, ![1024, 2816]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x8x32 : Shape := ⟨4, ![1, 4096, 8, 32]⟩
abbrev S4096x256 : Shape := ⟨2, ![4096, 256]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S8x4096x512 : Shape := ⟨3, ![8, 4096, 512]⟩
abbrev S4096x2048 : Shape := ⟨2, ![4096, 2048]⟩
abbrev S8x4096x256 : Shape := ⟨3, ![8, 4096, 256]⟩
abbrev S1x512x1024 : Shape := ⟨3, ![1, 512, 1024]⟩
abbrev S1x1x1024 : Shape := ⟨3, ![1, 1, 1024]⟩
abbrev S512x256 : Shape := ⟨2, ![512, 256]⟩
abbrev S1x512x512 : Shape := ⟨3, ![1, 512, 512]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩

abbrev nBuf : Space → Nat
  | .hbm => 38
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1024x2816, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S1x4096x1x32, .f32⟩
  | .hbm, ⟨21, _⟩ => ⟨S1x4096x8x32, .f32⟩
  | .hbm, ⟨22, _⟩ => ⟨S4096x256, .f32⟩
  | .hbm, ⟨23, _⟩ => ⟨S4096x32, .f32⟩
  | .hbm, ⟨24, _⟩ => ⟨S4096x32, .f32⟩
  | .hbm, ⟨25, _⟩ => ⟨S4096x64, .f32⟩
  | .hbm, ⟨26, _⟩ => ⟨S1x4096x1x64, .f32⟩
  | .hbm, ⟨27, _⟩ => ⟨S1x4096x4x64, .f32⟩
  | .hbm, ⟨28, _⟩ => ⟨S4096x256, .f32⟩
  | .hbm, ⟨29, _⟩ => ⟨S1024x2816, .bf16⟩
  | .hbm, ⟨30, _⟩ => ⟨S8x4096x512, .bf16⟩
  | .hbm, ⟨31, _⟩ => ⟨S8x4096x512, .bf16⟩
  | .hbm, ⟨32, _⟩ => ⟨S8x4096x512, .bf16⟩
  | .hbm, ⟨33, _⟩ => ⟨S4096x2048, .f32⟩
  | .hbm, ⟨34, _⟩ => ⟨S8x4096x256, .bf16⟩
  | .hbm, ⟨35, _⟩ => ⟨S8x4096x256, .bf16⟩
  | .hbm, ⟨36, _⟩ => ⟨S8x4096x256, .bf16⟩
  | .hbm, ⟨37, _⟩ => ⟨S8x4096x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2816, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S512x256, .f32⟩
  | .local _ .vmem, ⟨19, _⟩ => ⟨S512x256, .f32⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x256, .bf16⟩
  | .local _ .vmem, ⟨24, _⟩ => ⟨S1x512x256, .bf16⟩
  | .local _ .vmem, ⟨25, _⟩ => ⟨S1x512x256, .bf16⟩
  | .local _ .vmem, ⟨26, _⟩ => ⟨S1x512x256, .f32⟩
  | .local _ .vmem, ⟨27, _⟩ => ⟨S1x512x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v23_3 : Ref sig .tc := ⟨.hbm, 33, rfl⟩
abbrev main_v23_4 : Ref sig .tc := ⟨.hbm, 34, rfl⟩
abbrev main_v23_5 : Ref sig .tc := ⟨.hbm, 35, rfl⟩
abbrev main_v23_6 : Ref sig .tc := ⟨.hbm, 36, rfl⟩
abbrev main_v23_7 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjRefIdeal.lean ====
abbrev S8x4096x1024 : Shape := ⟨3, ![8, 4096, 1024]⟩
abbrev S8x1x1024 : Shape := ⟨3, ![8, 1, 1024]⟩
abbrev S1x1024 : Shape := ⟨2, ![1, 1024]⟩
abbrev S1024x2816 : Shape := ⟨2, ![1024, 2816]⟩
abbrev S4096 : Shape := ⟨1, ![4096]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S8x4096x2816 : Shape := ⟨3, ![8, 4096, 2816]⟩
abbrev S8x4096x512 : Shape := ⟨3, ![8, 4096, 512]⟩
abbrev S8x4096x256 : Shape := ⟨3, ![8, 4096, 256]⟩
abbrev S8x4096x4x64 : Shape := ⟨4, ![8, 4096, 4, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x4x32 : Shape := ⟨4, ![8, 4096, 4, 32]⟩
abbrev S4096x8x256 : Shape := ⟨3, ![4096, 8, 256]⟩
abbrev S4096x2048 : Shape := ⟨2, ![4096, 2048]⟩

abbrev nBuf : Space → Nat
  | .hbm => 119
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1024x2816, .f32⟩
  | .hbm, ⟨5, _⟩ => ⟨S4096, .i32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x2816, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S8x4096x256, .f32⟩
  | .hbm, ⟨35, _⟩ => ⟨S8x4096x256, .f32⟩
  | .hbm, ⟨36, _⟩ => ⟨S8x4096x256, .f32⟩
  | .hbm, ⟨37, _⟩ => ⟨S8x4096x256, .f32⟩
  | .hbm, ⟨38, _⟩ => ⟨S8x4096x256, .f32⟩
  | .hbm, ⟨39, _⟩ => ⟨S_, .f32⟩
  | .hbm, ⟨40, _⟩ => ⟨S8x4096x512, .f32⟩
  | .hbm, ⟨41, _⟩ => ⟨S8x4096x512, .f32⟩
  | .hbm, ⟨42, _⟩ => ⟨S8x4096x4x64, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S4096, .f32⟩
  | .hbm, ⟨52, _⟩ => ⟨S4096x1, .f32⟩
  | .hbm, ⟨53, _⟩ => ⟨S1x32, .f32⟩
  | .hbm, ⟨54, _⟩ => ⟨S4096x32, .f32⟩
  | .hbm, ⟨55, _⟩ => ⟨S4096x32, .f32⟩
  | .hbm, ⟨56, _⟩ => ⟨S4096x32, .f32⟩
  | .hbm, ⟨57, _⟩ => ⟨S4096x32, .f32⟩
  | .hbm, ⟨58, _⟩ => ⟨S1x4096x1x32, .f32⟩
  | .hbm, ⟨59, _⟩ => ⟨S4096x32, .f32⟩
  | .hbm, ⟨60, _⟩ => ⟨S1x4096x1x32, .f32⟩
  | .hbm, ⟨61, _⟩ => ⟨S8x4096x4x32, .f32⟩
  | .hbm, ⟨62, _⟩ => ⟨S8x4096x4x32, .f32⟩
  | .hbm, ⟨63, _⟩ => ⟨S8x4096x4x32, .f32⟩
  | .hbm, ⟨64, _⟩ => ⟨S8x4096x4x32, .f32⟩
  | .hbm, ⟨65, _⟩ => ⟨S8x4096x4x32, .f32⟩
  | .hbm, ⟨66, _⟩ => ⟨S8x4096x4x32, .f32⟩
  | .hbm, ⟨67, _⟩ => ⟨S8x4096x4x32, .f32⟩
  | .hbm, ⟨68, _⟩ => ⟨S8x4096x4x32, .f32⟩
  | .hbm, ⟨69, _⟩ => ⟨S8x4096x4x32, .f32⟩
  | .hbm, ⟨70, _⟩ => ⟨S8x4096x4x32, .f32⟩
  | .hbm, ⟨71, _⟩ => ⟨S8x4096x4x32, .f32⟩
  | .hbm, ⟨72, _⟩ => ⟨S8x4096x4x32, .f32⟩
  | .hbm, ⟨73, _⟩ => ⟨S8x4096x4x64, .f32⟩
  | .hbm, ⟨74, _⟩ => ⟨S8x4096x256, .f32⟩
  | .hbm, ⟨75, _⟩ => ⟨S8x4096x4x64, .f32⟩
  | .hbm, ⟨76, _⟩ => ⟨S32, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S4096, .f32⟩
  | .hbm, ⟨85, _⟩ => ⟨S4096x1, .f32⟩
  | .hbm, ⟨86, _⟩ => ⟨S1x32, .f32⟩
  | .hbm, ⟨87, _⟩ => ⟨S4096x32, .f32⟩
  | .hbm, ⟨88, _⟩ => ⟨S4096x32, .f32⟩
  | .hbm, ⟨89, _⟩ => ⟨S4096x32, .f32⟩
  | .hbm, ⟨90, _⟩ => ⟨S4096x32, .f32⟩
  | .hbm, ⟨91, _⟩ => ⟨S1x4096x1x32, .f32⟩
  | .hbm, ⟨92, _⟩ => ⟨S4096x32, .f32⟩
  | .hbm, ⟨93, _⟩ => ⟨S1x4096x1x32, .f32⟩
  | .hbm, ⟨94, _⟩ => ⟨S8x4096x4x32, .f32⟩
  | .hbm, ⟨95, _⟩ => ⟨S8x4096x4x32, .f32⟩
  | .hbm, ⟨96, _⟩ => ⟨S8x4096x4x32, .f32⟩
  | .hbm, ⟨97, _⟩ => ⟨S8x4096x4x32, .f32⟩
  | .hbm, ⟨98, _⟩ => ⟨S8x4096x4x32, .f32⟩
  | .hbm, ⟨99, _⟩ => ⟨S8x4096x4x32, .f32⟩
  | .hbm, ⟨100, _⟩ => ⟨S8x4096x4x32, .f32⟩
  | .hbm, ⟨101, _⟩ => ⟨S8x4096x4x32, .f32⟩
  | .hbm, ⟨102, _⟩ => ⟨S8x4096x4x32, .f32⟩
  | .hbm, ⟨103, _⟩ => ⟨S8x4096x4x32, .f32⟩
  | .hbm, ⟨104, _⟩ => ⟨S8x4096x4x32, .f32⟩
  | .hbm, ⟨105, _⟩ => ⟨S8x4096x4x32, .f32⟩
  | .hbm, ⟨106, _⟩ => ⟨S8x4096x4x64, .f32⟩
  | .hbm, ⟨107, _⟩ => ⟨S_, .f32⟩
  | .hbm, ⟨108, _⟩ => ⟨S8x4096x4x64, .f32⟩
  | .hbm, ⟨109, _⟩ => ⟨S8x4096x4x64, .f32⟩
  | .hbm, ⟨110, _⟩ => ⟨S8x4096x256, .f32⟩
  | .hbm, ⟨111, _⟩ => ⟨S4096x8x256, .f32⟩
  | .hbm, ⟨112, _⟩ => ⟨S4096x2048, .f32⟩
  | .hbm, ⟨113, _⟩ => ⟨S8x4096x512, .bf16⟩
  | .hbm, ⟨114, _⟩ => ⟨S8x4096x512, .bf16⟩
  | .hbm, ⟨115, _⟩ => ⟨S8x4096x512, .bf16⟩
  | .hbm, ⟨116, _⟩ => ⟨S8x4096x256, .bf16⟩
  | .hbm, ⟨117, _⟩ => ⟨S8x4096x256, .bf16⟩
  | .hbm, ⟨118, _⟩ => ⟨S8x4096x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_6 : Ref sig .tc := ⟨.hbm, 78, rfl⟩
abbrev main_v66 : Ref sig .tc := ⟨.hbm, 79, rfl⟩
abbrev main_v67 : Ref sig .tc := ⟨.hbm, 80, rfl⟩
abbrev main_cst_7 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_cst_8 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩

abbrev nD : Nat := 1
abbrev τ : Topo := Topo.v7x

variable {F : FTy → Type} [FloatOps F]
-- ==== Out.lean ====
abbrev S8x4096x1024 : Shape := ⟨3, ![8, 4096, 1024]⟩
abbrev S8x4096x512 : Shape := ⟨3, ![8, 4096, 512]⟩
abbrev S4096x2048 : Shape := ⟨2, ![4096, 2048]⟩
abbrev S8x4096x256 : Shape := ⟨3, ![8, 4096, 256]⟩
abbrev S1024x1024 : Shape := ⟨2, ![1024, 1024]⟩
abbrev S8x1x1024 : Shape := ⟨3, ![8, 1, 1024]⟩
abbrev S1x1024 : Shape := ⟨2, ![1, 1024]⟩
abbrev S1024x4 : Shape := ⟨2, ![1024, 4]⟩
abbrev S1x4 : Shape := ⟨2, ![1, 4]⟩
abbrev S1024x32 : Shape := ⟨2, ![1024, 32]⟩
abbrev S1x32 : Shape := ⟨2, ![1, 32]⟩
abbrev S1024x36 : Shape := ⟨2, ![1024, 36]⟩
abbrev S_ : Shape := ⟨0, ![]⟩
abbrev S1024x128 : Shape := ⟨2, ![1024, 128]⟩
abbrev S1024x256 : Shape := ⟨2, ![1024, 256]⟩
abbrev S1x36 : Shape := ⟨2, ![1, 36]⟩
abbrev S1x128 : Shape := ⟨2, ![1, 128]⟩
abbrev S262144x128 : Shape := ⟨2, ![262144, 128]⟩
abbrev S8x4096x128 : Shape := ⟨3, ![8, 4096, 128]⟩
abbrev S1x512x1024 : Shape := ⟨3, ![1, 512, 1024]⟩
abbrev S1x512x512 : Shape := ⟨3, ![1, 512, 512]⟩
abbrev S512x256 : Shape := ⟨2, ![512, 256]⟩
abbrev S1x512x256 : Shape := ⟨3, ![1, 512, 256]⟩
abbrev S1x1x1024 : Shape := ⟨3, ![1, 1, 1024]⟩
abbrev S4096x128 : Shape := ⟨2, ![4096, 128]⟩
abbrev S1x512x128 : Shape := ⟨3, ![1, 512, 128]⟩
abbrev S512x512 : Shape := ⟨2, ![512, 512]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩
abbrev S512x128 : Shape := ⟨2, ![512, 128]⟩

abbrev nBuf : Space → Nat
  | .hbm => 33
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S4096x2048, .f32⟩
  | .hbm, ⟨3, _⟩ => ⟨S8x4096x256, .f32⟩
  | .hbm, ⟨4, _⟩ => ⟨S1024x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1x1024, .f32⟩
  | .hbm, ⟨9, _⟩ => ⟨S1024x4, .f32⟩
  | .hbm, ⟨10, _⟩ => ⟨S1x4, .f32⟩
  | .hbm, ⟨11, _⟩ => ⟨S1024x32, .f32⟩
  | .hbm, ⟨12, _⟩ => ⟨S1x32, .f32⟩
  | .hbm, ⟨13, _⟩ => ⟨S1024x36, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S1024x128, .f32⟩
  | .hbm, ⟨19, _⟩ => ⟨S1024x128, .f32⟩
  | .hbm, ⟨20, _⟩ => ⟨S1024x128, .bf16⟩
  | .hbm, ⟨21, _⟩ => ⟨S1024x256, .bf16⟩
  | .hbm, ⟨22, _⟩ => ⟨S1x36, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S8x4096x512, .bf16⟩
  | .hbm, ⟨27, _⟩ => ⟨S4096x2048, .bf16⟩
  | .hbm, ⟨28, _⟩ => ⟨S8x4096x256, .bf16⟩
  | .hbm, ⟨29, _⟩ => ⟨S1024x1024, .bf16⟩
  | .hbm, ⟨30, _⟩ => ⟨S8x4096x1024, .f32⟩
  | .hbm, ⟨31, _⟩ => ⟨S262144x128, .f32⟩
  | .hbm, ⟨32, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S512x256, .bf16⟩
  | .local _ .vmem, ⟨5, _⟩ => ⟨S512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | .local _ .vmem, ⟨16, _⟩ => ⟨S1024x256, .bf16⟩
  | .local _ .vmem, ⟨17, _⟩ => ⟨S1x128, .f32⟩
  | .local _ .vmem, ⟨18, _⟩ => ⟨S1x512x1024, .f32⟩
  | .local _ .vmem, ⟨19, _⟩ => ⟨S1x512x1024, .f32⟩
  | .local _ .vmem, ⟨20, _⟩ => ⟨S4096x128, .f32⟩
  | .local _ .vmem, ⟨21, _⟩ => ⟨S4096x128, .f32⟩
  | .local _ .vmem, ⟨22, _⟩ => ⟨S1x512x128, .f32⟩
  | .local _ .vmem, ⟨23, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_call1_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== OutRefIdeal.lean ====
abbrev S8x4096x1024 : Shape := ⟨3, ![8, 4096, 1024]⟩
abbrev S8x4096x512 : Shape := ⟨3, ![8, 4096, 512]⟩
abbrev S4096x2048 : Shape := ⟨2, ![4096, 2048]⟩
abbrev S8x4096x256 : Shape := ⟨3, ![8, 4096, 256]⟩
abbrev S1024x1024 : Shape := ⟨2, ![1024, 1024]⟩
abbrev S8x1x1024 : Shape := ⟨3, ![8, 1, 1024]⟩
abbrev S1x1024 : Shape := ⟨2, ![1, 1024]⟩
abbrev S1024x4 : Shape := ⟨2, ![1024, 4]⟩
abbrev S1x4 : Shape := ⟨2, ![1, 4]⟩
abbrev S1024x32 : Shape := ⟨2, ![1024, 32]⟩
abbrev S1x32 : Shape := ⟨2, ![1, 32]⟩
abbrev S4096x8x256 : Shape := ⟨3, ![4096, 8, 256]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S262144x128 : Shape := ⟨2, ![262144, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S4096x2048, .f32⟩
  | .hbm, ⟨3, _⟩ => ⟨S8x4096x256, .f32⟩
  | .hbm, ⟨4, _⟩ => ⟨S1024x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1x1024, .f32⟩
  | .hbm, ⟨9, _⟩ => ⟨S1024x4, .f32⟩
  | .hbm, ⟨10, _⟩ => ⟨S1x4, .f32⟩
  | .hbm, ⟨11, _⟩ => ⟨S1024x32, .f32⟩
  | .hbm, ⟨12, _⟩ => ⟨S1x32, .f32⟩
  | .hbm, ⟨13, _⟩ => ⟨S4096x8x256, .f32⟩
  | .hbm, ⟨14, _⟩ => ⟨S8x4096x256, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S262144x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Proof.GatherRead.lean ====
/- The coordinates of the operand element that an entry of a gather reads, from the axes' positions in the dimension lists. -/
module

public import Idealize.ShloMosaic.Lib.Pipeline.ValueKit
public import Idealize.ShloMosaic.Lib.Pointwise
public import Idealize.ShloMosaic.Lib.StableHlo.Predicate

@[expose] public section

namespace Cert.GatherRead

open Idealize.ShloMosaic

variable {s si t : Shape} (d : GatherDims s si t)

/-- On a kept axis the offset is the result's coordinate on the offset axis in the same position. -/
theorem off_at (j : t.Idx) (a : Fin s.rank) (o : Fin t.rank) (ha : a ∈ d.sKept) (ho : d.offsetDims[d.sKept.idxOf a]? = some o) :
    d.offCoord j a = (j o).val := by
  unfold GatherDims.offCoord
  rw [dif_pos ha]
  have h := (List.getElem?_eq_some_iff.1 ho).2
  rw [h]

/-- The start index is read at the result's coordinate on the batch axis in the same position. -/
theorem si_at (j : t.Idx) (c : Fin d.startIndexMap.length) (b : Fin si.rank) (o : Fin t.rank) (hb : b.val ≠ d.indexVectorDim)
    (ho : d.batchDims[d.siKept.idxOf b]? = some o) : (d.siIdx j c b).val = (j o).val := by
  unfold GatherDims.siIdx
  rw [dif_neg hb]
  unfold GatherDims.siCoord
  have h := (List.getElem?_eq_some_iff.1 ho).2
  simp only [Fin.val_cast]
  rw [h]

/-- On the index vector's axis the start index is read at the component's number. -/
theorem si_vec (j : t.Idx) (c : Fin d.startIndexMap.length) (b : Fin si.rank) (hb : b.val = d.indexVectorDim) : (d.siIdx j c b).val = c.val := by
  unfold GatherDims.siIdx
  rw [dif_pos hb]

/-- A start in range is the start index's own number. -/
theorem start_at (j : t.Idx) (idx : IVec si 32) (a : Fin s.rank) (i : si.Idx) (n : Nat) (ha : a ∈ d.startIndexMap)
    (hi : ∀ b, (d.siIdx j ⟨d.startIndexMap.idxOf a, List.idxOf_lt_length_iff.2 ha⟩ b).val = (i b).val)
    (hn : idx i = BitVec.ofNat 32 n) (h : n ≤ s.size a - d.sliceSizes a) (hs : n < 2 ^ 31) : d.start j idx a = n := by
  unfold GatherDims.start
  rw [dif_pos ha]
  have e : d.siIdx j ⟨d.startIndexMap.idxOf a, List.idxOf_lt_length_iff.2 ha⟩ = i := funext fun b => Fin.ext (hi b)
  rw [e, hn, StableHlo.Predicate.toInt_ofNat_small n hs]
  omega

/-- An axis that the start index does not reach starts at zero. -/
theorem start_zero (j : t.Idx) (idx : IVec si 32) (a : Fin s.rank) (ha : a ∉ d.startIndexMap) : d.start j idx a = 0 := by
  unfold GatherDims.start
  rw [dif_neg ha]

end Cert.GatherRead
-- ==== Proof.AttnHost.lean ====
/- What the attention kernel's windows stage: the host's arrays at an index, in terms of the arguments. -/
module

public import proofs.«01_k».proof.Proof.Gen.AttnIdeal.Frame
public import proofs.«01_k».proof.Proof.GatherRead
public import Idealize.ShloMosaic.Lib.StableHlo.ReadAt
public import Idealize.ShloMosaic.Lib.Tactic.IndexArith

@[expose] public section

set_option maxRecDepth 16384

noncomputable section

namespace Cert.AttnIdeal.Host

open Cert.AttnIdeal Cert.AttnIdeal.Gen Idealize.ShloMosaic Idealize.ShloMosaic.TcCoe Idealize.SL.Sem Cert.GatherRead

/-- The sign of a word. -/
def sgn (x : BitVec 32) : BitVec 32 := if x = 0 then 0 else if x.msb = true then -1 else 1

/-- The chunk of a position, as the host computes it: the quotient by 64 rounded down. -/
def chunkNo (n : Nat) : BitVec 32 := Scalar.select
  (IntOp.andi (IntOp.cmpi CmpIPredicate.ne (sgn (BitVec.ofNat 32 n)) (sgn 64#32)) (IntOp.cmpi CmpIPredicate.ne (IntOp.remsi ArithUnit.host (BitVec.ofNat 32 n) 64#32) 0#32))
  (IntOp.subi (IntOp.divsi ArithUnit.host (BitVec.ofNat 32 n) 64#32) 1#32)
  (IntOp.divsi ArithUnit.host (BitVec.ofNat 32 n) 64#32)

/-- Rounded down, the quotient is the natural numbers'. -/
theorem chunkNo_eq : ∀ n : Fin 768, chunkNo n.val = BitVec.ofNat 32 (n.val / 64) := by decide +kernel

/-- A key lies in a query's band: from eight chunks before the query's to the query's own. -/
theorem band_iff : ∀ (a : Fin 4) (b : Fin 12),
    IntOp.andi (IntOp.cmpi CmpIPredicate.sge (BitVec.ofNat 32 b.val) (IntOp.subi (IntOp.addi (BitVec.ofNat 32 a.val) 8#32) 8#32)) (IntOp.cmpi CmpIPredicate.sle (BitVec.ofNat 32 b.val) (IntOp.addi (BitVec.ofNat 32 a.val) 8#32))
      = if a.val ≤ b.val ∧ b.val ≤ a.val + 8 then 1#1 else 0#1 := by decide +kernel

/-- The table of clipped relative positions: of the difference of key and query, 1024 of them round. -/
theorem lit0_at : ∀ p : Fin 1024, lit0 p = BitVec.ofNat 32 (if p.val < 768 then min 191 (p.val - 384) else 0) := by decide +kernel

/-- The look-up's start indices. -/
def relIdx : IVec S1024x1 32 := broadcastInDim S1024x1 ![0] bcast_S1024_S1024x1_0
  (select (constantI S1024 1 0#1) (addi (fun i => lit0 (S1024.rowMajor i)) (broadcastInDim S1024 ![] bcast_S_S1024 (constantI S_ 32 192#32))) fun i => lit0 (S1024.rowMajor i))

/-- A start index is the clipped relative position. -/
theorem relIdx_at (p : Fin 1024) : relIdx (ix2 p 0) = BitVec.ofNat 32 (if p.val < 768 then min 191 (p.val - 384) else 0) := by
  unfold relIdx
  pointwise
  rw [← lit0_at]
  show lit0 _ = _
  congr 1
  exact Fin.ext (rowMajor_val1 _)

/-- An entry of the looked-up table. -/
theorem gather_at (x : FVec Ideal S8x192 .f32) (h : Fin 8) (p : Fin 1024) :
    Host.gather gather_S8x192_S1024x1_S8x1024_0_1_n_n_1_1_81 x relIdx (ix2 h p) = x (ix2 h ⟨if p.val < 768 then min 191 (p.val - 384) else 0, by split <;> omega⟩) := by
  unfold Host.gather
  refine congrArg x (funext fun a => Fin.ext ?_)
  show GatherDims.start _ _ _ _ + GatherDims.batchCoord _ _ _ + GatherDims.offCoord _ _ _ = _
  rw [GatherDims.batchCoord_eq_zero _ _ _ (by exact List.not_mem_nil)]
  match a with
  | ⟨0, _⟩ => rw [start_zero _ _ _ _ (by decide +revert), off_at _ _ _ 0 (by decide +revert) (by decide +revert)]; simp
  | ⟨1, _⟩ =>
    rw [start_at _ _ _ _ (ix2 p 0) _ (by decide +revert) (fun e => ?_) (relIdx_at p) (by show _ ≤ 192 - 1; split <;> omega) (by split <;> omega), GatherDims.offCoord_eq_zero _ _ _ (by decide +revert)]; rfl
    match e with
    | ⟨0, _⟩ => rw [si_at _ _ _ _ 1 (by decide +revert) (by decide +revert)]; rfl
    | ⟨1, _⟩ => rw [si_vec _ _ _ _ (by decide +revert)]; rfl

variable (m : (ℓ : Loc nD τ sig) → Buf (Elt Ideal) ℓ)

/-- The factor of the queries: an eighth over the logarithm of two. -/
def factor : EReal := Ideal.div (Ideal.ofBits FTy.f32 1040187392#32) (Ideal.log (Ideal.ofBits FTy.f32 1073741824#32))

/-- The staged queries are the argument's, scaled. -/
theorem V_q (c : Dev nD) (i : S8x4096x512.Idx) : (show FVec Ideal S8x4096x512 .bf16 from V m c main_v4) i = (show FVec Ideal S8x4096x512 .f32 from m ((c : Thread nD τ).loc main_arg0)) i * factor := by
  unfold V
  after_reads_at
  rfl

/-- The staged keys are the argument's. -/
theorem V_k (c : Dev nD) (i : S8x4096x512.Idx) : (show FVec Ideal S8x4096x512 .bf16 from V m c main_v5) i = (show FVec Ideal S8x4096x512 .f32 from m ((c : Thread nD τ).loc main_arg1)) i := by
  unfold V
  after_reads_at

/-- The staged values are the argument's. -/
theorem V_v (c : Dev nD) (i : S8x4096x512.Idx) : (show FVec Ideal S8x4096x512 .bf16 from V m c main_v6) i = (show FVec Ideal S8x4096x512 .f32 from m ((c : Thread nD τ).loc main_arg2)) i := by
  unfold V
  after_reads_at

/-- The staged bias before its entries are read. -/
theorem V_bias_raw (c : Dev nD) (h : Fin 8) (r : Fin 256) (k : Fin 768) : (show FVec Ideal S8x256x768 .f32 from V m c main_v39) (ix3 h r k)
    = Scalar.select (IntOp.andi (IntOp.cmpi CmpIPredicate.sge (chunkNo k.val) (IntOp.subi (IntOp.addi (chunkNo r.val) 8#32) 8#32)) (IntOp.cmpi CmpIPredicate.sle (chunkNo k.val) (IntOp.addi (chunkNo r.val) 8#32)))
      (Ideal.div (Host.gather gather_S8x192_S1024x1_S8x1024_0_1_n_n_1_1_81 (show FVec Ideal S8x192 .f32 from m ((c : Thread nD τ).loc main_arg3)) relIdx (ix2 h ⟨(r.val * 1023 + k.val) % 1024, by omega⟩))
        (Ideal.log (Ideal.ofBits FTy.f32 1073741824#32)))
      (Ideal.ofBits FTy.f32 4286578688#32) := by
  unfold V
  after_reads_at
  rfl

/-- The staged bias: over the logarithm of two the table's entry of the relative position inside the band, minus infinity outside. -/
theorem V_bias (c : Dev nD) (h : Fin 8) (r : Fin 256) (k : Fin 768) : (show FVec Ideal S8x256x768 .f32 from V m c main_v39) (ix3 h r k)
    = if r.val / 64 ≤ k.val / 64 ∧ k.val / 64 ≤ r.val / 64 + 8 then
        Ideal.div ((show FVec Ideal S8x192 .f32 from m ((c : Thread nD τ).loc main_arg3)) (ix2 h ⟨min 191 (k.val - (384 + r.val)), by omega⟩)) (Ideal.log (Ideal.ofBits FTy.f32 1073741824#32))
      else (⊥ : EReal) := by
  rw [V_bias_raw, chunkNo_eq k, chunkNo_eq ⟨r.val, by omega⟩, gather_at]
  have hb := band_iff ⟨r.val / 64, by omega⟩ ⟨k.val / 64, by omega⟩
  have e : Ideal.ofBits FTy.f32 4286578688#32 = (⊥ : EReal) := by simp [Ideal.ofBits, Ideal.ieee]
  rw [e]
  refine (congrArg (fun z => Scalar.select z _ _) hb).trans ?_
  show (if (if _ then _ else _) = _ then _ else _) = _
  by_cases hq : r.val / 64 ≤ k.val / 64 ∧ k.val / 64 ≤ r.val / 64 + 8
  · rw [if_pos hq, if_pos hq]
    show Ideal.div _ _ = Ideal.div _ _
    congr 3
    refine Fin.ext ?_
    show (if (r.val * 1023 + k.val) % 1024 < 768 then min 191 ((r.val * 1023 + k.val) % 1024 - 384) else 0) = min 191 (k.val - (384 + r.val))
    split <;> omega
  · rw [if_neg hq, if_neg hq]
    rfl

end Cert.AttnIdeal.Host
-- ==== Proof.AttnTile.lean ====
/- The attention tile of one grid point, as one expression for a pair of heads.

The body handles its eight heads in four pairs; the two heads of a pair share a slab of 128 lanes.
`pairV` is what a pair computes, from the slabs of the queries, the three key blocks, the three
value blocks and the pair's two bias tables; `outs_masked` and `outs_plain` say that the body's four
stores hold it, in the two cases of the body. -/
module

public import proofs.«01_k».proof.Proof.Gen.AttnIdeal.Frame
public import Idealize.ShloMosaic.Lib.Pipeline.ValueKit
public import Idealize.ShloMosaic.Lib.Pointwise

@[expose] public section

set_option maxRecDepth 16384

noncomputable section

namespace Cert.AttnIdeal.Tile

open Cert.AttnIdeal Cert.AttnIdeal.Gen Idealize.ShloMosaic Idealize.ShloMosaic.TcCoe Idealize.SL.Sem

/-- The lanes of the first head of a pair. -/
def lowV : IVec S1x128 1 := cmpi .slt (iota .tc S1x128 32 [1] iota_S1x128_d1_w32) (broadcast S1x128 64#32)

/-- The lanes of the second head of a pair. -/
def highV : IVec S1x128 1 := xori lowV (constantI S1x128 1 1#1)

/-- Three blocks of 256 rows on top of each other. -/
def stackV (a b d : Vec Ideal S1x256x128 .bf16) : FVec Ideal S768x128 .bf16 :=
  concatenate S768x128 0 [⟨S256x128, shapeCast S256x128 a shapeCasts_S1x256x128_S256x128⟩,
    ⟨S256x128, shapeCast S256x128 b shapeCasts_S1x256x128_S256x128⟩,
    ⟨S256x128, shapeCast S256x128 d shapeCasts_S1x256x128_S256x128⟩] concatenates_S256x128_S256x128_S256x128_S768x128_d0

/-- The values with a block of ones beside them. -/
def onesV (v : FVec Ideal S768x128 .bf16) : FVec Ideal S768x256 .bf16 :=
  concatenate S768x256 1 [⟨S768x128, v⟩, ⟨S768x128, broadcast S768x128 (Scalar.ofBits .bf16 0x3F80#16 : Ideal .bf16)⟩]
    concatenates_S768x128_S768x128_S768x256_d1

/-- The scores of one head: the queries against the keys on the head's lanes, and the bias. -/
def scoreV (keep : IVec S1x128 1) (q : Vec Ideal S1x256x128 .bf16) (k : FVec Ideal S768x128 .bf16)
    (b : Vec Ideal S1x256x768 .f32) : FVec Ideal S256x768 .f32 :=
  addf (matmul dot_S256x128_S768x128_S256x768_1_1_0_0_n_n none (shapeCast S256x128 q shapeCasts_S1x256x128_S256x128 : FVec Ideal S256x128 .bf16)
      (select (broadcastTo S768x128 (shapeCast S1x128 keep shapeCasts_S1x128_S1x128) broadcasts_S1x128_S768x128) k
        (broadcast S768x128 (Scalar.ofBits .bf16 0x0000#16 : Ideal .bf16)))
      (constant S256x768 .f32 0x00000000#32))
    (shapeCast S256x768 b shapeCasts_S1x256x768_S256x768)

/-- The scores outside the sequence taken off. -/
def maskV (j : BitVec 32) (s : FVec Ideal S256x768 .f32) : FVec Ideal S256x768 .f32 :=
  select (cmpi .sge (iota .tc S256x768 32 [1] iota_S256x768_d1_w32)
      (broadcast S256x768 (Scalar.muli (Scalar.subi 2#32 j) 256#32))) s
    (broadcast S256x768 (Named.named κ "mask" 0xF149F2CA#32 : Ideal .f32))

/-- The row maxima of the scores. -/
def topV (s : FVec Ideal S256x768 .f32) : FVec Ideal S256 .f32 :=
  multiReduction .maximumf [1] S256 s 0xFF800000#32 reduces_S256x768_S256 (.inl rfl) rfl

/-- The weights: two to the scores above their maximum. -/
def weightV (s : FVec Ideal S256x768 .f32) : FVec Ideal S256x768 .bf16 :=
  truncf .bf16 (exp2 (subf s (broadcastTo S256x768 (shapeCast S256x1 (topV s) shapeCasts_S256_S256x1)
    broadcasts_S256x1_S256x768))) bitsLt_bf16_f32

/-- The weights against the values and against the ones. -/
def mixV (s : FVec Ideal S256x768 .f32) (va : FVec Ideal S768x256 .bf16) : FVec Ideal S256x256 .f32 :=
  matmul dot_S256x768_S768x256_S256x256_1_0_0_1_n_n none (weightV s) va (constant S256x256 .f32 0x00000000#32)

/-- One head's result on all the lanes of the pair. -/
def headV (s : FVec Ideal S256x768 .f32) (va : FVec Ideal S768x256 .bf16) : FVec Ideal S256x128 .f32 :=
  mulf (extractStridedSlice S256x128 ![0, 0] (mixV s va) slices_S256x256_o0_0_S256x128)
    (broadcastTo S256x128 (divf (broadcast S256x1 (Scalar.ofBits .f32 0x3F800000#32 : Ideal .f32))
      (extractStridedSlice S256x1 ![0, 128] (mixV s va) slices_S256x256_o0_128_S256x1)) broadcasts_S256x1_S256x128)

/-- What the body stores for a pair of heads, `wrap` being what the case does to the scores. -/
def pairV (wrap : FVec Ideal S256x768 .f32 → FVec Ideal S256x768 .f32) (q k0 k1 k2 v0 v1 v2 : Vec Ideal S1x256x128 .bf16)
    (b0 b1 : Vec Ideal S1x256x768 .f32) : FVec Ideal S1x256x128 .bf16 :=
  shapeCast S1x256x128 (truncf .bf16
    (select (broadcastTo S256x128 (shapeCast S1x128 lowV shapeCasts_S1x128_S1x128) broadcasts_S1x128_S256x128)
      (headV (wrap (scoreV lowV q (stackV k0 k1 k2) b0)) (onesV (stackV v0 v1 v2)))
      (headV (wrap (scoreV highV q (stackV k0 k1 k2) b1)) (onesV (stackV v0 v1 v2)))) bitsLt_bf16_f32)
    shapeCasts_S256x128_S1x256x128

/-- The slab of 128 lanes of a block that starts at lane `o`. -/
abbrev slab (x : Vec Ideal S1x256x512 .bf16) (o : ℕ) (h : ∀ a, (![0, 0, o] : Fin 3 → ℕ) a + (![1, 256, 128] : Fin 3 → ℕ) a ≤ S1x256x512.size a) :
    Vec Ideal S1x256x128 .bf16 :=
  View.ld x (Rect.unit ![0, 0, o] ![1, 256, 128] h)

/-- The bias table of head `o`. -/
abbrev tab (x : Vec Ideal S8x256x768 .f32) (o : ℕ) (h : ∀ a, (![o, 0, 0] : Fin 3 → ℕ) a + (![1, 256, 768] : Fin 3 → ℕ) a ≤ S8x256x768.size a) :
    Vec Ideal S1x256x768 .f32 :=
  View.ld x (Rect.unit ![o, 0, 0] ![1, 256, 768] h)

/-- The pair that starts at lane `o`, with the bias tables of heads `h0` and `h1`, from the blocks. -/
abbrev pairAt (wrap : FVec Ideal S256x768 .f32 → FVec Ideal S256x768 .f32) (q k0 k1 k2 v0 v1 v2 : Vec Ideal S1x256x512 .bf16)
    (b : Vec Ideal S8x256x768 .f32) (o h0 h1 : ℕ)
    (h : ∀ a, (![0, 0, o] : Fin 3 → ℕ) a + (![1, 256, 128] : Fin 3 → ℕ) a ≤ S1x256x512.size a)
    (g0 : ∀ a, (![h0, 0, 0] : Fin 3 → ℕ) a + (![1, 256, 768] : Fin 3 → ℕ) a ≤ S8x256x768.size a)
    (g1 : ∀ a, (![h1, 0, 0] : Fin 3 → ℕ) a + (![1, 256, 768] : Fin 3 → ℕ) a ≤ S8x256x768.size a) :
    FVec Ideal S1x256x128 .bf16 :=
  pairV wrap (slab q o h) (slab k0 o h) (slab k1 o h) (slab k2 o h) (slab v0 o h) (slab v1 o h) (slab v2 o h) (tab b h0 g0) (tab b h1 g1)

/-- The four stores of a point, last first. -/
def tileV (wrap : FVec Ideal S256x768 .f32 → FVec Ideal S256x768 .f32) (q k0 k1 k2 v0 v1 v2 : Vec Ideal S1x256x512 .bf16)
    (b : Vec Ideal S8x256x768 .f32) : Vec Ideal S1x256x512 .bf16 :=
  View.canon (Val := Elt Ideal) (s := S1x256x512) (e := .bf16)
    [⟨Rect.unit (s := S1x256x512) ![0, 0, 384] ![1, 256, 128] inb_S1x256x512_S1x256x128_0_0_384,
        pairAt wrap q k0 k1 k2 v0 v1 v2 b 384 6 7 inb_S1x256x512_S1x256x128_0_0_384 inb_S8x256x768_S1x256x768_6_0_0 inb_S8x256x768_S1x256x768_7_0_0⟩,
      ⟨Rect.unit (s := S1x256x512) ![0, 0, 256] ![1, 256, 128] inb_S1x256x512_S1x256x128_0_0_256,
        pairAt wrap q k0 k1 k2 v0 v1 v2 b 256 4 5 inb_S1x256x512_S1x256x128_0_0_256 inb_S8x256x768_S1x256x768_4_0_0 inb_S8x256x768_S1x256x768_5_0_0⟩,
      ⟨Rect.unit (s := S1x256x512) ![0, 0, 128] ![1, 256, 128] inb_S1x256x512_S1x256x128_0_0_128,
        pairAt wrap q k0 k1 k2 v0 v1 v2 b 128 2 3 inb_S1x256x512_S1x256x128_0_0_128 inb_S8x256x768_S1x256x768_2_0_0 inb_S8x256x768_S1x256x768_3_0_0⟩,
      ⟨Rect.unit (s := S1x256x512) ![0, 0, 0] ![1, 256, 128] inb_S1x256x512_S1x256x128_0_0_0,
        pairAt wrap q k0 k1 k2 v0 v1 v2 b 0 0 1 inb_S1x256x512_S1x256x128_0_0_0 inb_S8x256x768_S1x256x768_0_0_0 inb_S8x256x768_S1x256x768_1_0_0⟩]

section Pieces

variable (q k0 k1 k2 v0 v1 v2 : Vec Ideal S1x256x128 .bf16) (b0 b1 : Vec Ideal S1x256x768 .f32) (j : BitVec 32)

/-- The first pair, plain. -/
theorem plain0 : k0_pay34 k0_pay1 (k0_pay30 q) (k0_pay31 k0 k1 k2) (k0_pay32 k0_pay2 v0 v1 v2)
    (k0_pay33 k0_pay1 k0_pay2 q k0 k1 k2 v0 v1 v2 b0) b1 = pairV id q k0 k1 k2 v0 v1 v2 b0 b1 := by
  delta k0_pay1 k0_pay2 k0_pay30 k0_pay31 k0_pay32 k0_pay33 k0_pay34 pairV headV mixV weightV topV scoreV highV lowV onesV stackV
  rfl

/-- The second pair, plain. -/
theorem plain1 : k0_pay42 k0_pay1 (k0_pay35 q) (k0_pay37 (k0_pay36 k0) k1 k2) (k0_pay38 k0_pay2 v0 v1 v2)
    (k0_pay39 k0_pay1 k0_pay2 (k0_pay35 q) (k0_pay36 k0) k1 k2 v0 v1 v2 b0) (k0_pay40 k0_pay1) k0_pay41 b1
    = pairV id q k0 k1 k2 v0 v1 v2 b0 b1 := by
  delta k0_pay1 k0_pay2 k0_pay35 k0_pay36 k0_pay37 k0_pay38 k0_pay39 k0_pay40 k0_pay41 k0_pay42 pairV headV mixV weightV topV scoreV highV lowV onesV stackV
  rfl

/-- The third pair, plain. -/
theorem plain2 : k0_pay48 k0_pay1 (k0_pay45 k0_pay2 v0 v1 v2)
    (k0_pay46 k0_pay1 k0_pay2 (k0_pay43 q) (k0_pay44 k0 k1 k2) v0 v1 v2 b0) (k0_pay47 k0_pay1 (k0_pay43 q) (k0_pay44 k0 k1 k2) b1)
    = pairV id q k0 k1 k2 v0 v1 v2 b0 b1 := by
  delta k0_pay1 k0_pay2 k0_pay43 k0_pay44 k0_pay45 k0_pay46 k0_pay47 k0_pay48 pairV headV mixV weightV topV scoreV highV lowV onesV stackV
  rfl

/-- The fourth pair, plain. -/
theorem plain3 : k0_pay4 (k0_pay54 k0_pay1 k0_pay2 (k0_pay49 q) (k0_pay50 k0 k1 k2) (k0_pay51 v0) (k0_pay52 v1) v2 b0)
    (k0_pay56 k0_pay1 k0_pay2 (k0_pay49 q) (k0_pay50 k0 k1 k2) (k0_pay51 v0) (k0_pay52 v1) v2 b1)
    (k0_pay57 k0_pay1 k0_pay2 (k0_pay49 q) (k0_pay50 k0 k1 k2) (k0_pay51 v0) (k0_pay52 v1) v2 b1)
    = pairV id q k0 k1 k2 v0 v1 v2 b0 b1 := by
  delta k0_pay1 k0_pay2 k0_pay4 k0_pay49 k0_pay50 k0_pay51 k0_pay52 k0_pay53 k0_pay54 k0_pay55 k0_pay56 k0_pay57 pairV headV mixV weightV topV scoreV highV lowV onesV stackV
  rfl

/-- The first pair, masked. -/
theorem masked0 : k0_pay12 (k0_pay11 k0_pay1 (k0_pay5 j) (k0_pay6 q) (k0_pay7 k0 k1 k2) (k0_pay8 k0_pay2 v0 v1 v2)
    (k0_pay9 k0_pay1 q k0 k1 k2 b0) k0_pay10 b1) = pairV (maskV j) q k0 k1 k2 v0 v1 v2 b0 b1 := by
  delta k0_pay1 k0_pay2 k0_pay5 k0_pay6 k0_pay7 k0_pay8 k0_pay9 k0_pay10 k0_pay11 k0_pay12 pairV maskV headV mixV weightV topV scoreV highV lowV onesV stackV
  rfl

/-- The second pair, masked. -/
theorem masked1 : k0_pay18 k0_pay1 (k0_pay5 j) (k0_pay13 q) (k0_pay14 k0 k1 k2) (k0_pay15 k0_pay2 v0 v1 v2)
    (k0_pay16 k0_pay1 (k0_pay5 j) q k0 k1 k2 b0) (k0_pay17 k0_pay1 (k0_pay5 j) q k0 k1 k2 b0) b1
    = pairV (maskV j) q k0 k1 k2 v0 v1 v2 b0 b1 := by
  delta k0_pay1 k0_pay2 k0_pay5 k0_pay13 k0_pay14 k0_pay15 k0_pay16 k0_pay17 k0_pay18 pairV maskV headV mixV weightV topV scoreV highV lowV onesV stackV
  rfl

/-- The third pair, masked. -/
theorem masked2 : k0_pay23 k0_pay1 (k0_pay5 j) (k0_pay19 q) (k0_pay20 k0 k1 k2) (k0_pay21 k0_pay2 v0 v1 v2)
    (k0_pay22 k0_pay1 k0_pay2 (k0_pay5 j) q k0 k1 k2 v0 v1 v2 b0) b1
    = pairV (maskV j) q k0 k1 k2 v0 v1 v2 b0 b1 := by
  delta k0_pay1 k0_pay2 k0_pay5 k0_pay19 k0_pay20 k0_pay21 k0_pay22 k0_pay23 pairV maskV headV mixV weightV topV scoreV highV lowV onesV stackV
  rfl

/-- The fourth pair, masked. -/
theorem masked3 : k0_pay3 (k0_pay5 j) (k0_pay24 q) (k0_pay25 k0 k1 k2) (k0_pay26 k0_pay2 v0 v1 v2)
    (k0_pay28 k0_pay1 k0_pay2 (k0_pay5 j) (k0_pay24 q) k0 k1 k2 v0 v1 v2 b0)
    (k0_pay29 k0_pay1 k0_pay2 (k0_pay5 j) (k0_pay24 q) k0 k1 k2 v0 v1 v2 b0) b1
    = pairV (maskV j) q k0 k1 k2 v0 v1 v2 b0 b1 := by
  delta k0_pay1 k0_pay2 k0_pay5 k0_pay3 k0_pay24 k0_pay25 k0_pay26 k0_pay27 k0_pay28 k0_pay29 pairV maskV headV mixV weightV topV scoreV highV lowV onesV stackV
  rfl

end Pieces

end Cert.AttnIdeal.Tile
-- ==== Proof.AttnRead.lean ====
/- The attention tile read at an index: every step of a head as arithmetic on the extended reals. -/
module

public import proofs.«01_k».proof.Proof.AttnTile
public import Idealize.ShloMosaic.Lib.Tactic.WordOmega

@[expose] public section

set_option maxRecDepth 16384

noncomputable section

namespace Cert.AttnIdeal.Tile

open Cert.AttnIdeal Cert.AttnIdeal.Gen Idealize.ShloMosaic Idealize.ShloMosaic.TcCoe Idealize.SL.Sem

/-- The first head's lanes are the first 64. -/
theorem lowV_at (l : Fin 128) : lowV (ix2 0 l) = 1#1 ↔ l.val < 64 := by
  pointwise [lowV]
  have hl : (BitVec.ofNat 32 l.val).toInt = l.val := by
    have := l.isLt
    rw [BitVec.toInt_eq_toNat_cond, BitVec.toNat_ofNat, Nat.mod_eq_of_lt (by omega), if_pos (by omega)]
  simp only [IntOp.cmpi, BitVec.slt, hl]
  have : (64#32).toInt = 64 := by decide
  rw [this]
  by_cases h : l.val < 64
  · simp [h, show ((l.val : ℤ) < 64) by omega]
  · simp [h, show ¬ ((l.val : ℤ) < 64) by omega]

/-- The second head's lanes are the other 64. -/
theorem highV_at (l : Fin 128) : highV (ix2 0 l) = 1#1 ↔ ¬ l.val < 64 := by
  rw [← lowV_at l]
  pointwise [highV, lowV]
  generalize IntOp.cmpi CmpIPredicate.slt (BitVec.ofNat 32 ↑l) 64#32 = b
  revert b; decide

/-- Row `c` of three stacked blocks. -/
theorem stackV_at (a b d : Vec Ideal S1x256x128 .bf16) (c : Fin 768) (l : Fin 128) : stackV a b d (ix2 c l) =
    if h : c.val < 256 then a (ix3 0 ⟨c.val, h⟩ l)
    else if h' : c.val - 256 < 256 then b (ix3 0 ⟨c.val - 256, h'⟩ l)
    else d (ix3 0 ⟨c.val - 256 - 256, by omega⟩ l) := by
  pointwise [stackV]

/-- The left half of the values with ones beside them. -/
theorem onesV_at (v : FVec Ideal S768x128 .bf16) (c : Fin 768) (l : Fin 128) : onesV v (ix2 c ⟨l.val, by omega⟩) = v (ix2 c l) := by
  pointwise [onesV]

/-- The right half of the values with ones beside them. -/
theorem onesV_one (v : FVec Ideal S768x128 .bf16) (c : Fin 768) : onesV v (ix2 c 128) = 1 := by
  pointwise [onesV]

/-- A score: the sum over the head's lanes, and the bias. -/
theorem scoreV_at (keep : IVec S1x128 1) (q : Vec Ideal S1x256x128 .bf16) (k : FVec Ideal S768x128 .bf16)
    (b : Vec Ideal S1x256x768 .f32) (r : Fin 256) (c : Fin 768) : scoreV keep q k b (ix2 r c) =
      (∑ l : Fin 128, (if keep (ix2 0 l) = 1#1 then q (ix3 0 r l) * k (ix2 c l) else 0)) + b (ix3 0 r c) := by
  pointwise [scoreV]
  rfl

/-- The constant of the mask stands for minus infinity. -/
theorem mask_bot : (Named.named κ "mask" 0xF149F2CA#32 : Ideal .f32) = (⊥ : EReal) :=
  IdealRules.named_const.ideal_named_scalar _ _ _ _ rfl

/-- The mask: a score stands where its key lies in the sequence. -/
theorem maskV_at (j : Fin 16) (s : FVec Ideal S256x768 .f32) (r : Fin 256) (c : Fin 768) :
    maskV (BitVec.ofNat 32 j.val) s (ix2 r c) = if 512 ≤ j.val * 256 + c.val then s (ix2 r c) else ⊥ := by
  pointwise [maskV]
  have hc : (BitVec.ofNat 32 c.val).toInt = c.val := by
    have := c.isLt
    rw [BitVec.toInt_eq_toNat_cond, BitVec.toNat_ofNat, Nat.mod_eq_of_lt (by omega), if_pos (by omega)]
  have hj : ∀ j : Fin 16, (Scalar.muli (Scalar.subi 2#32 (BitVec.ofNat 32 j.val)) 256#32).toInt = (2 - (j.val : ℤ)) * 256 := by decide
  rw [mask_bot]
  unfold Scalar.select
  simp only [IntOp.cmpi, BitVec.sle, hc, hj]
  by_cases h : 512 ≤ j.val * 256 + c.val
  · simp [h, show (2 - (j.val : ℤ)) * 256 ≤ c.val by omega]
  · simp [h, show ¬ (2 - (j.val : ℤ)) * 256 ≤ c.val by omega]

/-- A row's maximum. -/
theorem topV_at (s : FVec Ideal S256x768 .f32) (r : Fin 256) :
    topV s (ix1 r) = Finset.univ.fold max (⊥ : EReal) (fun c : Fin 768 => s (ix2 r c)) := by
  pointwise [topV]
  rw [show Ideal.ofBits FTy.f32 4286578688#32 = (⊥ : EReal) by simp [Ideal.ofBits, Ideal.ieee]]

/-- A weight. -/
theorem weightV_at (s : FVec Ideal S256x768 .f32) (r : Fin 256) (c : Fin 768) :
    weightV s (ix2 r c) = Ideal.exp2 (s (ix2 r c) - topV s (ix1 r)) := by
  pointwise [weightV]
  rfl

/-- The weights against the values. -/
theorem mixV_at (s : FVec Ideal S256x768 .f32) (va : FVec Ideal S768x256 .bf16) (r : Fin 256) (l : Fin 256) :
    mixV s va (ix2 r l) = ∑ c : Fin 768, weightV s (ix2 r c) * va (ix2 c l) := by
  pointwise [mixV]

/-- One head's result: the weighted sum over the sum of the weights. -/
theorem headV_at (s : FVec Ideal S256x768 .f32) (va : FVec Ideal S768x256 .bf16) (r : Fin 256) (l : Fin 128) :
    headV s va (ix2 r l) = mixV s va (ix2 r ⟨l.val, by omega⟩) * Ideal.div 1 (mixV s va (ix2 r 128)) := by
  pointwise [headV]

/-- The pair: each lane from its head. -/
theorem pairV_at (wrap : FVec Ideal S256x768 .f32 → FVec Ideal S256x768 .f32) (q k0 k1 k2 v0 v1 v2 : Vec Ideal S1x256x128 .bf16)
    (b0 b1 : Vec Ideal S1x256x768 .f32) (r : Fin 256) (l : Fin 128) :
    pairV wrap q k0 k1 k2 v0 v1 v2 b0 b1 (ix3 0 r l) = if lowV (ix2 0 l) = 1#1 then
      headV (wrap (scoreV lowV q (stackV k0 k1 k2) b0)) (onesV (stackV v0 v1 v2)) (ix2 r l)
    else headV (wrap (scoreV highV q (stackV k0 k1 k2) b1)) (onesV (stackV v0 v1 v2)) (ix2 r l) := by
  pointwise [pairV]
  rfl

end Cert.AttnIdeal.Tile
-- ==== Proof.AttnMath.lean ====
/- The equation of the band attention over the extended reals: base-two weights over a tile's window against a softmax over the band. -/
module

public import Idealize.ShloMosaic.Lib.Pipeline.ValueKit
public import Idealize.ShloMosaic.Lib.Pointwise

@[expose] public section

noncomputable section

namespace Cert.AttnMath

open Idealize.ShloMosaic

/-- A sum that vanishes off a run of consecutive positions is the run's sum. -/
theorem sum_run {n m : Nat} (w : Nat) (hw : w + n ≤ m) (F : Fin m → EReal) (G : Fin n → EReal) (h1 : ∀ e : Fin n, F ⟨w + e.val, by omega⟩ = G e)
    (h0 : ∀ c : Fin m, ¬ (w ≤ c.val ∧ c.val < w + n) → F c = 0) : ∑ c, F c = ∑ e, G e := by
  symm
  refine Finset.sum_of_injOn (fun e : Fin n => (⟨w + e.val, by omega⟩ : Fin m)) ?_ ?_ ?_ ?_
  · intro a _ b _ h
    have := Fin.mk.inj_iff.1 h
    exact Fin.ext (by omega)
  · intro a _
    exact Finset.mem_coe.2 (Finset.mem_univ _)
  · intro c _ hc
    refine h0 c fun ⟨ha, hb⟩ => hc ?_
    exact ⟨⟨c.val - w, by omega⟩, Finset.mem_coe.2 (Finset.mem_univ _), Fin.ext (by show w + (c.val - w) = c.val; omega)⟩
  · intro e _
    exact (h1 e).symm

/-- A fold of maxima is a bound that is attained. -/
theorem fold_max_eq {n : Nat} (f : Fin n → EReal) (A : EReal) (hle : ∀ x, f x ≤ A) (hx : ∃ x, f x = A) : Finset.univ.fold max (⊥ : EReal) f = A := by
  refine le_antisymm ?_ ?_
  · exact (Finset.fold_max_le _).2 ⟨bot_le, fun x _ => hle x⟩
  · obtain ⟨x, hx⟩ := hx
    exact (Finset.le_fold_max _).2 (Or.inr ⟨x, Finset.mem_univ _, hx.ge⟩)

/-- A power of two of a number over the logarithm of two is its exponential. -/
theorem exp2_log (x : ℝ) : Ideal.exp2 ((x / Real.log 2 : ℝ) : EReal) = ((Real.exp x : ℝ) : EReal) := by
  rw [Ideal.exp2_coe]
  congr 1
  show (2 : ℝ) ^ (x / Real.log 2) = _
  rw [Real.rpow_def_of_pos (by norm_num)]
  congr 1
  have : Real.log 2 ≠ 0 := (Real.log_pos (by norm_num)).ne'
  field_simp

/-- A sum of reals, as extended reals. -/
theorem coe_sum {n : Nat} (f : Fin n → ℝ) : ((∑ e, f e : ℝ) : EReal) = ∑ e, ((f e : ℝ) : EReal) := by
  have h : ∀ s : Finset (Fin n), ((∑ e ∈ s, f e : ℝ) : EReal) = ∑ e ∈ s, ((f e : ℝ) : EReal) := by
    intro s
    induction s using Finset.induction_on with
    | empty => simp
    | insert a s ha ih => rw [Finset.sum_insert ha, Finset.sum_insert ha, EReal.coe_add, ih]
  exact h Finset.univ

/-- A nonnegative real factor moves into a sum. -/
theorem sum_mul_real {n : Nat} (f : Fin n → EReal) (c : ℝ) (hc : 0 ≤ c) : (∑ e, f e) * (c : EReal) = ∑ e, f e * (c : EReal) := by
  have h : ∀ s : Finset (Fin n), (∑ e ∈ s, f e) * (c : EReal) = ∑ e ∈ s, f e * (c : EReal) := by
    intro s
    induction s using Finset.induction_on with
    | empty => simp
    | insert a s ha ih =>
      rw [Finset.sum_insert ha, Finset.sum_insert ha, ← ih]
      exact EReal.right_distrib_of_nonneg_of_ne_top (by exact_mod_cast hc) (EReal.coe_ne_top c) _ _
  exact h Finset.univ

/-- The band attention of one query and one value column: a window of 768 keys, of which 576 from `w` on are the band, `P` the keys inside the
    sequence, `a` their scores. -/
theorem attention_eq (w : Nat) (hw : w + 576 ≤ 768) (P : Fin 576 → Prop) [DecidablePred P] (a : Fin 576 → ℝ) (he : ∃ e, P e)
    (S : Fin 576 → EReal) (hS : ∀ e, S e = if P e then ((a e : ℝ) : EReal) else ⊥)
    (K : Fin 768 → EReal) (hK : ∀ e : Fin 576, K ⟨w + e.val, by omega⟩ = if P e then ((a e / Real.log 2 : ℝ) : EReal) else ⊥)
    (hK0 : ∀ c : Fin 768, ¬ (w ≤ c.val ∧ c.val < w + 576) → K c = ⊥)
    (va : Fin 768 → EReal) (vb : Fin 576 → EReal) (hv : ∀ e : Fin 576, P e → va ⟨w + e.val, by omega⟩ = vb e) :
    (∑ c, Ideal.exp2 (K c - Finset.univ.fold max (⊥ : EReal) K) * va c)
        * Ideal.div 1 (∑ c, Ideal.exp2 (K c - Finset.univ.fold max (⊥ : EReal) K) * 1)
      = ∑ e, vb e * Ideal.div (Ideal.exp (S e - Finset.univ.fold max (⊥ : EReal) S)) (∑ e', Ideal.exp (S e' - Finset.univ.fold max (⊥ : EReal) S)) := by
  have hl : (0 : ℝ) < Real.log 2 := Real.log_pos (by norm_num)
  obtain ⟨m, hm, hmax⟩ := Finset.exists_max_image (Finset.univ.filter P) a (by obtain ⟨e, h⟩ := he; exact ⟨e, by simpa using h⟩)
  have hPm : P m := (Finset.mem_filter.1 hm).2
  have hle : ∀ e, P e → a e ≤ a m := fun e h => hmax e (by simpa using h)
  have fS : Finset.univ.fold max (⊥ : EReal) S = ((a m : ℝ) : EReal) := by
    refine fold_max_eq S _ (fun e => ?_) ⟨m, by rw [hS, if_pos hPm]⟩
    rw [hS]
    split
    · exact_mod_cast hle e ‹_›
    · exact bot_le
  have fK : Finset.univ.fold max (⊥ : EReal) K = ((a m / Real.log 2 : ℝ) : EReal) := by
    refine fold_max_eq K _ (fun c => ?_) ⟨⟨w + m.val, by omega⟩, by rw [hK, if_pos hPm]⟩
    by_cases hc : w ≤ c.val ∧ c.val < w + 576
    · have h := hK ⟨c.val - w, by omega⟩
      have e : (⟨w + (c.val - w), by omega⟩ : Fin 768) = c := Fin.ext (by show w + (c.val - w) = c.val; omega)
      rw [e] at h
      rw [h]
      split
      · rw [EReal.coe_le_coe_iff]
        exact div_le_div_of_nonneg_right (hle _ ‹_›) hl.le
      · exact bot_le
    · rw [hK0 c hc]; exact bot_le
  rw [fS, fK]
  let p : Fin 576 → ℝ := fun e => if P e then Real.exp (a e - a m) else 0
  have hp0 : ∀ e, 0 ≤ p e := fun e => by show 0 ≤ (if P e then Real.exp (a e - a m) else 0); split <;> positivity
  have eS : ∀ e, Ideal.exp (S e - ((a m : ℝ) : EReal)) = ((p e : ℝ) : EReal) := fun e => by
    rw [hS]
    show _ = (((if P e then Real.exp (a e - a m) else 0 : ℝ)) : EReal)
    split
    · rw [← EReal.coe_sub, Ideal.exp_coe]
    · rw [EReal.bot_sub]; rfl
  have eK : ∀ e : Fin 576, Ideal.exp2 (K ⟨w + e.val, by omega⟩ - ((a m / Real.log 2 : ℝ) : EReal)) = ((p e : ℝ) : EReal) := fun e => by
    rw [hK]
    show _ = (((if P e then Real.exp (a e - a m) else 0 : ℝ)) : EReal)
    split
    · rw [← EReal.coe_sub, ← sub_div, exp2_log]
    · rw [EReal.bot_sub]; rfl
  have eK0 : ∀ c : Fin 768, ¬ (w ≤ c.val ∧ c.val < w + 576) → Ideal.exp2 (K c - ((a m / Real.log 2 : ℝ) : EReal)) = 0 := fun c hc => by
    rw [hK0 c hc, EReal.bot_sub]; rfl
  have hL : (0 : ℝ) < ∑ e, p e := by
    refine Finset.sum_pos' (fun e _ => hp0 e) ⟨m, Finset.mem_univ _, ?_⟩
    show 0 < (if P m then Real.exp (a m - a m) else 0)
    rw [if_pos hPm]; positivity
  have s1 : ∑ c, Ideal.exp2 (K c - ((a m / Real.log 2 : ℝ) : EReal)) * 1 = ((∑ e, p e : ℝ) : EReal) := by
    rw [coe_sum]
    exact sum_run w hw _ _ (fun e => by rw [mul_one, eK]) (fun c hc => by rw [mul_one, eK0 c hc])
  have s2 : ∑ c, Ideal.exp2 (K c - ((a m / Real.log 2 : ℝ) : EReal)) * va c = ∑ e, ((p e : ℝ) : EReal) * vb e := by
    refine sum_run w hw _ _ (fun e => ?_) (fun c hc => by rw [eK0 c hc, zero_mul])
    rw [eK]
    by_cases h : P e
    · rw [hv e h]
    · have : p e = 0 := if_neg h
      rw [this]; simp
  have s3 : ∑ e', Ideal.exp (S e' - ((a m : ℝ) : EReal)) = ((∑ e, p e : ℝ) : EReal) := by
    rw [coe_sum]
    exact Finset.sum_congr rfl fun e _ => eS e
  rw [s1, s2, s3]
  have hd : Ideal.div 1 ((∑ e, p e : ℝ) : EReal) = ((1 / ∑ e, p e : ℝ) : EReal) := by
    rw [Ideal.div_coe hL.ne', one_mul]
  rw [hd, sum_mul_real _ _ (by positivity)]
  refine Finset.sum_congr rfl fun e _ => ?_
  rw [eS, Ideal.div_coe hL.ne', mul_comm ((p e : ℝ) : EReal) (vb e), mul_assoc]

end Cert.AttnMath
-- ==== Proof.AttnTileAt.lean ====
/- The attention tile at an index of its block: one head's attention over the tile's window, in the blocks' own entries. -/
module

public import proofs.«01_k».proof.Proof.AttnRead
public import proofs.«01_k».proof.Proof.AttnMath

@[expose] public section

set_option maxRecDepth 16384

noncomputable section

namespace Cert.AttnIdeal.Tile

open Cert.AttnIdeal Cert.AttnIdeal.Gen Idealize.ShloMosaic Idealize.ShloMosaic.TcCoe Idealize.SL.Sem Cert.AttnMath

/-- A lane of a pair's slab is the block's lane. -/
theorem slab_at (x : Vec Ideal S1x256x512 .bf16) (o : ℕ) (h : ∀ a, (![0, 0, o] : Fin 3 → ℕ) a + (![1, 256, 128] : Fin 3 → ℕ) a ≤ S1x256x512.size a)
    (r : Fin 256) (l : Fin 128) (ho : o + l.val < 512) : slab x o h (ix3 0 r l) = x (ix3 0 r ⟨o + l.val, ho⟩) := by
  show x _ = x _
  congr 1
  funext a
  match a with
  | ⟨0, _⟩ => exact Fin.ext (by show 0 + 1 * 0 = 0; rfl)
  | ⟨1, _⟩ => exact Fin.ext (by show 0 + 1 * r.val = r.val; omega)
  | ⟨2, _⟩ => exact Fin.ext (by show o + 1 * l.val = o + l.val; omega)

/-- An entry of a head's bias table. -/
theorem tab_at (x : Vec Ideal S8x256x768 .f32) (o : ℕ) (h : ∀ a, (![o, 0, 0] : Fin 3 → ℕ) a + (![1, 256, 768] : Fin 3 → ℕ) a ≤ S8x256x768.size a)
    (r : Fin 256) (c : Fin 768) (ho : o < 8) : tab x o h (ix3 0 r c) = x (ix3 ⟨o, ho⟩ r c) := by
  show x _ = x _
  congr 1
  funext a
  match a with
  | ⟨0, _⟩ => exact Fin.ext (by show o + 1 * 0 = o; omega)
  | ⟨1, _⟩ => exact Fin.ext (by show 0 + 1 * r.val = r.val; omega)
  | ⟨2, _⟩ => exact Fin.ext (by show 0 + 1 * c.val = c.val; omega)

/-- Row `c` of three stacked blocks, all their lanes. -/
def stackAt (a b d : Vec Ideal S1x256x512 .bf16) (c : Fin 768) (l : Fin 512) : EReal :=
  if h : c.val < 256 then a (ix3 0 ⟨c.val, h⟩ l)
  else if h' : c.val - 256 < 256 then b (ix3 0 ⟨c.val - 256, h'⟩ l)
  else d (ix3 0 ⟨c.val - 256 - 256, by omega⟩ l)

/-- A stack of slabs is a slab of the stack. -/
theorem stack_slab (a b d : Vec Ideal S1x256x512 .bf16) (o : ℕ) (h : ∀ a, (![0, 0, o] : Fin 3 → ℕ) a + (![1, 256, 128] : Fin 3 → ℕ) a ≤ S1x256x512.size a)
    (c : Fin 768) (l : Fin 128) (ho : o + l.val < 512) :
    stackV (slab a o h) (slab b o h) (slab d o h) (ix2 c l) = stackAt a b d c ⟨o + l.val, ho⟩ := by
  rw [stackV_at]
  unfold stackAt
  split
  · exact slab_at a o h _ l ho
  · split
    · exact slab_at b o h _ l ho
    · exact slab_at d o h _ l ho

/-- The first lane of the head of lane `l`, and the lanes after it. -/
def lane (l : Fin 512) (x : Fin 64) : Fin 512 := ⟨l.val / 64 * 64 + x.val, by omega⟩

/-- The score of query row `r` and window key `c` in the head of lane `l`, from the blocks. -/
def scoreAt (q k0 k1 k2 : Vec Ideal S1x256x512 .bf16) (b : Vec Ideal S8x256x768 .f32) (r : Fin 256) (l : Fin 512) (c : Fin 768) : EReal :=
  (∑ x : Fin 64, (q (ix3 0 r (lane l x)) : EReal) * stackAt k0 k1 k2 c (lane l x)) + b (ix3 ⟨l.val / 64, by omega⟩ r c)

/-- A head's attention, from its scores and values. -/
def headAt (s v : Fin 768 → EReal) : EReal :=
  (∑ c, Ideal.exp2 (s c - Finset.univ.fold max (⊥ : EReal) s) * v c) * Ideal.div 1 (∑ c, Ideal.exp2 (s c - Finset.univ.fold max (⊥ : EReal) s) * 1)

/-- One head's result in its scores and values. -/
theorem head_eq (s : FVec Ideal S256x768 .f32) (v : FVec Ideal S768x128 .bf16) (r : Fin 256) (x : Fin 128) (s' v' : Fin 768 → EReal)
    (hs : ∀ c, s (ix2 r c) = s' c) (hv : ∀ c, v (ix2 c x) = v' c) : headV s (onesV v) (ix2 r x) = headAt s' v' := by
  have e : (fun c : Fin 768 => s (ix2 r c)) = s' := funext hs
  rw [headV_at, mixV_at, mixV_at]
  unfold headAt
  rw [← e]
  have h1 : ∀ c : Fin 768, weightV s (ix2 r c) = Ideal.exp2 (s (ix2 r c) - Finset.univ.fold max (⊥ : EReal) fun c : Fin 768 => s (ix2 r c)) := fun c => by
    rw [weightV_at, topV_at]
  refine congrArg₂ (fun y z : EReal => y * Ideal.div 1 z) (Finset.sum_congr rfl fun c _ => ?_) (Finset.sum_congr rfl fun c _ => ?_)
  · rw [onesV_at, hv, h1]
  · rw [onesV_one, h1]

/-- A pair's result at a lane. -/
theorem pair_at (wrap : FVec Ideal S256x768 .f32 → FVec Ideal S256x768 .f32) (M : Fin 768 → Prop) [DecidablePred M]
    (hw : ∀ s r c, wrap s (ix2 r c) = if M c then s (ix2 r c) else ⊥)
    (q k0 k1 k2 v0 v1 v2 : Vec Ideal S1x256x512 .bf16) (b : Vec Ideal S8x256x768 .f32) (o h0 h1 : ℕ)
    (h : ∀ a, (![0, 0, o] : Fin 3 → ℕ) a + (![1, 256, 128] : Fin 3 → ℕ) a ≤ S1x256x512.size a)
    (g0 : ∀ a, (![h0, 0, 0] : Fin 3 → ℕ) a + (![1, 256, 768] : Fin 3 → ℕ) a ≤ S8x256x768.size a)
    (g1 : ∀ a, (![h1, 0, 0] : Fin 3 → ℕ) a + (![1, 256, 768] : Fin 3 → ℕ) a ≤ S8x256x768.size a)
    (ho : o = h0 * 64) (hh : h1 = h0 + 1) (he : h0 % 2 = 0) (hb : h0 < 7) (r : Fin 256) (x : Fin 128) (l : Fin 512) (hl : l.val = o + x.val) :
    pairAt wrap q k0 k1 k2 v0 v1 v2 b o h0 h1 h g0 g1 (ix3 0 r x)
      = headAt (fun c => if M c then scoreAt q k0 k1 k2 b r l c else ⊥) (fun c => stackAt v0 v1 v2 c l) := by
  have el : (⟨o + x.val, by omega⟩ : Fin 512) = l := Fin.ext hl.symm
  unfold pairAt
  rw [pairV_at]
  by_cases hx : x.val < 64
  · rw [if_pos ((lowV_at x).2 hx)]
    refine head_eq _ _ r x _ _ (fun c => ?_) (fun c => ?_)
    · rw [hw]
      refine if_congr Iff.rfl ?_ rfl
      rw [scoreV_at, tab_at _ _ _ _ _ (by omega)]
      unfold scoreAt
      refine congrArg₂ (fun y z : EReal => y + z) ?_ ?_
      · refine sum_run 0 (by omega) _ _ (fun e => ?_) (fun y hy => ?_)
        · rw [if_pos ((lowV_at _).2 (by show 0 + e.val < 64; omega)), slab_at _ _ _ _ _ (by show o + (0 + e.val) < 512; omega), stack_slab _ _ _ _ _ _ _ (by show o + (0 + e.val) < 512; omega)]
          have e' : (⟨o + (0 + e.val), by omega⟩ : Fin 512) = lane l e := Fin.ext (by show o + (0 + e.val) = l.val / 64 * 64 + e.val; omega)
          rw [e']
        · exact if_neg fun hz => hy ⟨by omega, by have := (lowV_at y).1 hz; omega⟩
      · congr 2
        exact Fin.ext (by show h0 = l.val / 64; omega)
    · rw [stack_slab _ _ _ _ _ _ _ (by omega), el]
  · rw [if_neg fun hz => hx ((lowV_at x).1 hz)]
    refine head_eq _ _ r x _ _ (fun c => ?_) (fun c => ?_)
    · rw [hw]
      refine if_congr Iff.rfl ?_ rfl
      rw [scoreV_at, tab_at _ _ _ _ _ (by omega)]
      unfold scoreAt
      refine congrArg₂ (fun y z : EReal => y + z) ?_ ?_
      · refine sum_run 64 (by omega) _ _ (fun e => ?_) (fun y hy => ?_)
        · rw [if_pos ((highV_at _).2 (by show ¬ 64 + e.val < 64; omega)), slab_at _ _ _ _ _ (by show o + (64 + e.val) < 512; omega), stack_slab _ _ _ _ _ _ _ (by show o + (64 + e.val) < 512; omega)]
          have e' : (⟨o + (64 + e.val), by omega⟩ : Fin 512) = lane l e := Fin.ext (by show o + (64 + e.val) = l.val / 64 * 64 + e.val; omega)
          rw [e']
        · exact if_neg fun hz => hy ⟨by have := (highV_at y).1 hz; omega, by omega⟩
      · congr 2
        exact Fin.ext (by show h1 = l.val / 64; omega)
    · rw [stack_slab _ _ _ _ _ _ _ (by omega), el]

/-- The tile's result at an index: the attention of the lane's head. -/
theorem tile_at (wrap : FVec Ideal S256x768 .f32 → FVec Ideal S256x768 .f32) (M : Fin 768 → Prop) [DecidablePred M]
    (hw : ∀ s r c, wrap s (ix2 r c) = if M c then s (ix2 r c) else ⊥)
    (q k0 k1 k2 v0 v1 v2 : Vec Ideal S1x256x512 .bf16) (b : Vec Ideal S8x256x768 .f32) (r : Fin 256) (l : Fin 512) :
    tileV wrap q k0 k1 k2 v0 v1 v2 b (ix3 0 r l)
      = headAt (fun c => if M c then scoreAt q k0 k1 k2 b r l c else ⊥) (fun c => stackAt v0 v1 v2 c l) := by
  unfold tileV
  have key : ∀ (o h0 h1 : ℕ) (h) (g0) (g1), o = h0 * 64 → h1 = h0 + 1 → h0 % 2 = 0 → h0 < 7 → ∀ x : S1x256x128.Idx, r.val = (x 1).val → l.val = o + (x 2).val →
      pairAt wrap q k0 k1 k2 v0 v1 v2 b o h0 h1 h g0 g1 x
      = headAt (fun c => if M c then scoreAt q k0 k1 k2 b r l c else ⊥) (fun c => stackAt v0 v1 v2 c l) := by
    intro o h0 h1 h g0 g1 ho hh he hb x hr hl
    have ex : x = ix3 0 r ⟨(x 2).val, (x 2).isLt⟩ := by
      funext a
      match a with
      | ⟨0, _⟩ => exact Subsingleton.elim (α := Fin 1) _ _
      | ⟨1, _⟩ => exact Fin.ext hr.symm
      | ⟨2, _⟩ => rfl
    rw [ex]
    exact pair_at wrap M hw q k0 k1 k2 v0 v1 v2 b o h0 h1 h g0 g1 ho hh he hb r _ l hl
  canon_tiles x h
  · exact key 384 6 7 _ _ _ rfl rfl rfl (by decide) x h1 h2
  · exact key 256 4 5 _ _ _ rfl rfl rfl (by decide) x h1 h2
  · exact key 128 2 3 _ _ _ rfl rfl rfl (by decide) x h1 h2
  · exact key 0 0 1 _ _ _ rfl rfl rfl (by decide) x h1 (h2.trans (Nat.zero_add _).symm)

end Cert.AttnIdeal.Tile
-- ==== Proof.AttnBlocks.lean ====
/- Where each block of the attention call lies in its array, and what the call reads there. -/
module

public import Idealize.ShloMosaic.Lib.Pipeline.ValueKit
public import proofs.«01_k».proof.Proof.AttnHost
public import proofs.«01_k».proof.Proof.AttnTileAt

@[expose] public section

set_option maxRecDepth 16384

noncomputable section

namespace Cert.AttnIdeal.Blocks

open Cert.AttnIdeal Cert.AttnIdeal.Gen Idealize.ShloMosaic Idealize.ShloMosaic.TcCoe Idealize.SL.Sem

/-- The blocks of every grid point: sixteen tiles a sequence. -/
theorem idx : ∀ t : Fin cfg0.N, win0_0.index t = ![t.val / 16, t.val % 16, 0]
    ∧ win0_1.index t = ![t.val / 16, t.val % 16 - 2, 0] ∧ win0_2.index t = ![t.val / 16, t.val % 16 - 1, 0] ∧ win0_3.index t = ![t.val / 16, t.val % 16, 0]
    ∧ win0_4.index t = ![t.val / 16, t.val % 16 - 2, 0] ∧ win0_5.index t = ![t.val / 16, t.val % 16 - 1, 0] ∧ win0_6.index t = ![t.val / 16, t.val % 16, 0]
    ∧ win0_7.index t = ![0, 0, 0] ∧ win0_8.index t = ![t.val / 16, t.val % 16, 0] ∧ (grid0.coords t 1).val = t.val % 16 :=
  (by decide +kernel : ∀ t : Fin grid0.N, _)

variable (m : (ℓ : Loc nD τ sig) → Buf (Elt Ideal) ℓ) (c : Dev nD) (t : Fin cfg0.N)

/-- The sequence of a grid point. -/
theorem seq_lt : t.val / 16 < 8 := by
  have h : t.val < 128 := t.isLt
  omega

/-- The staged queries are the tile's rows. -/
theorem q_at (r : Fin 256) (l : Fin 512) : (show FVec Ideal S1x256x512 .bf16 from iblk m c 0 t) (ix3 0 r l)
    = (show FVec Ideal S8x4096x512 .bf16 from V m c main_v4) (ix3 ⟨t.val / 16, seq_lt t⟩ ⟨t.val % 16 * 256 + r.val, by omega⟩ l) := by
  blk_ext [iblk, idx t]

/-- The first staged keys lie two tiles back. -/
theorem k0_at (r : Fin 256) (l : Fin 512) : (show FVec Ideal S1x256x512 .bf16 from iblk m c 1 t) (ix3 0 r l)
    = (show FVec Ideal S8x4096x512 .bf16 from V m c main_v5) (ix3 ⟨t.val / 16, seq_lt t⟩ ⟨(t.val % 16 - 2) * 256 + r.val, by omega⟩ l) := by
  blk_ext [iblk, idx t]

/-- The second staged keys lie one tile back. -/
theorem k1_at (r : Fin 256) (l : Fin 512) : (show FVec Ideal S1x256x512 .bf16 from iblk m c 2 t) (ix3 0 r l)
    = (show FVec Ideal S8x4096x512 .bf16 from V m c main_v5) (ix3 ⟨t.val / 16, seq_lt t⟩ ⟨(t.val % 16 - 1) * 256 + r.val, by omega⟩ l) := by
  blk_ext [iblk, idx t]

/-- The third staged keys are the tile's own. -/
theorem k2_at (r : Fin 256) (l : Fin 512) : (show FVec Ideal S1x256x512 .bf16 from iblk m c 3 t) (ix3 0 r l)
    = (show FVec Ideal S8x4096x512 .bf16 from V m c main_v5) (ix3 ⟨t.val / 16, seq_lt t⟩ ⟨t.val % 16 * 256 + r.val, by omega⟩ l) := by
  blk_ext [iblk, idx t]

/-- The first staged values lie two tiles back. -/
theorem v0_at (r : Fin 256) (l : Fin 512) : (show FVec Ideal S1x256x512 .bf16 from iblk m c 4 t) (ix3 0 r l)
    = (show FVec Ideal S8x4096x512 .bf16 from V m c main_v6) (ix3 ⟨t.val / 16, seq_lt t⟩ ⟨(t.val % 16 - 2) * 256 + r.val, by omega⟩ l) := by
  blk_ext [iblk, idx t]

/-- The second staged values lie one tile back. -/
theorem v1_at (r : Fin 256) (l : Fin 512) : (show FVec Ideal S1x256x512 .bf16 from iblk m c 5 t) (ix3 0 r l)
    = (show FVec Ideal S8x4096x512 .bf16 from V m c main_v6) (ix3 ⟨t.val / 16, seq_lt t⟩ ⟨(t.val % 16 - 1) * 256 + r.val, by omega⟩ l) := by
  blk_ext [iblk, idx t]

/-- The third staged values are the tile's own. -/
theorem v2_at (r : Fin 256) (l : Fin 512) : (show FVec Ideal S1x256x512 .bf16 from iblk m c 6 t) (ix3 0 r l)
    = (show FVec Ideal S8x4096x512 .bf16 from V m c main_v6) (ix3 ⟨t.val / 16, seq_lt t⟩ ⟨t.val % 16 * 256 + r.val, by omega⟩ l) := by
  blk_ext [iblk, idx t]

/-- The staged bias is the whole table. -/
theorem b_at (h : Fin 8) (r : Fin 256) (k : Fin 768) : (show FVec Ideal S8x256x768 .f32 from iblk m c 7 t) (ix3 h r k)
    = (show FVec Ideal S8x256x768 .f32 from V m c main_v39) (ix3 h r k) := by
  blk_ext [iblk, idx t]

end Cert.AttnIdeal.Blocks
-- ==== Proof.AttnOuts.lean ====
/- The blocks the attention kernel leaves, in terms of the tile of `AttnTile`. -/
module

public import proofs.«01_k».proof.Proof.AttnTile
public import Idealize.ShloMosaic.Lib.Pipeline.ValueKit
public import Idealize.ShloMosaic.Lib.Pointwise

@[expose] public section

set_option maxRecDepth 16384

noncomputable section

namespace Cert.AttnIdeal.Tile

open Cert.AttnIdeal Cert.AttnIdeal.Gen Idealize.ShloMosaic Idealize.ShloMosaic.TcCoe Idealize.SL.Sem

variable (m : (ℓ : Loc nD τ sig) → Buf (Elt Ideal) ℓ)

/-- A point of the first two chunks of a sequence leaves the masked tile. -/
theorem outs_masked (c : Dev nD) (t : Fin cfg0.N) (h0 : t.val % 16 ≤ 1) (h1 : ¬ 2 ≤ t.val % 16) :
    outsAt0 m c t.val t.isLt = tileV (maskV (BitVec.ofNat 32 ↑(grid0.coords t 1))) (iblk m c 0 t) (iblk m c 1 t) (iblk m c 2 t)
      (iblk m c 3 t) (iblk m c 4 t) (iblk m c 5 t) (iblk m c 6 t) (iblk m c 7 t) := by
  rw [outsAt0_A m c t h0 h1]
  frame_out
  simp only [masked0, masked1, masked2, masked3]

/-- Every other point leaves the plain tile. -/
theorem outs_plain (c : Dev nD) (t : Fin cfg0.N) (h0 : ¬ t.val % 16 ≤ 1) (h1 : 2 ≤ t.val % 16) :
    outsAt0 m c t.val t.isLt = tileV id (iblk m c 0 t) (iblk m c 1 t) (iblk m c 2 t)
      (iblk m c 3 t) (iblk m c 4 t) (iblk m c 5 t) (iblk m c 6 t) (iblk m c 7 t) := by
  rw [outsAt0_B m c t h0 h1]
  frame_out
  simp only [plain0, plain1, plain2, plain3]

end Cert.AttnIdeal.Tile
-- ==== Proof.AttnRef.lean ====
/- The reference of the band attention, in named parts, each read at an index. -/
module

public import proofs.«01_k».proof.Proof.Gen.AttnRefIdeal.Run
public import Idealize.ShloMosaic.Lib.Pipeline.ValueKit
public import Idealize.ShloMosaic.Lib.Pointwise
public import Idealize.ShloMosaic.Lib.Tactic.IndexArith
public import Idealize.ShloMosaic.Lib.Tactic.WordOmega

@[expose] public section

set_option maxRecDepth 16384

noncomputable section

namespace Cert.AttnRefIdeal.Read

open Cert.AttnRefIdeal Cert.AttnRefIdeal.Gen Idealize.ShloMosaic Idealize.ShloMosaic.TcCoe Idealize.SL.Sem

/-- The chunk number, padding included, of each band position of each query chunk. -/
def bandNo : IVec S64x9 32 := addi (broadcastInDim S64x9 ![0, 1] bcast_S64x1_S64x9_0_1 (broadcastInDim S64x1 ![0] bcast_S64_S64x1_0 (iotaInDim S64 32 0))) (broadcastInDim S64x9 ![0, 1] bcast_S1x9_S64x9_0_1 (broadcastInDim S1x9 ![1] bcast_S9_S1x9_1 (iotaInDim S9 32 0)))

/-- The chunk numbers, as the look-up of the padded keys takes them. -/
def bandIdx : IVec S64x9x1 32 := broadcastInDim S64x9x1 ![0, 1] bcast_S64x9_S64x9x1_0_1 (select (cmpi .slt bandNo (broadcastInDim S64x9 ![] bcast_S_S64x9 (constantI S_ 32 0#32))) (addi bandNo (broadcastInDim S64x9 ![] bcast_S_S64x9 (constantI S_ 32 72#32))) bandNo)

/-- An array by chunks, eight chunks of zeros before it. -/
def padded (x : FVec Ideal S8x4096x512 .f32) : FVec Ideal S8x72x64x8x64 .f32 := pad S8x72x64x8x64 ![0, 8, 0, 0, 0] ![0, 0, 0, 0, 0] ![0, 0, 0, 0, 0] (shapeCast _ x shapeCasts_S8x4096x512_S8x64x64x8x64 : FVec Ideal S8x64x64x8x64 .f32) (sitofp .f32 (constantI S_ 32 0#32) : FVec Ideal S_ .f32) pads_S8x64x64x8x64_S8x72x64x8x64_000_800_000_000_000 h_S_

/-- Each query chunk's band of nine chunks. -/
def banded (x : FVec Ideal S8x4096x512 .f32) : FVec Ideal S8x64x576x8x64 .f32 := shapeCast _ (Host.gather gather_S8x72x64x8x64_S64x9x1_S8x64x9x64x8x64_0345_1_n_n_1_2_8164864 (padded x) bandIdx) shapeCasts_S8x64x9x64x8x64_S8x64x576x8x64

/-- Which band positions lie inside the sequence. -/
def inside : IVec S64x576 1 := shapeCast _ (broadcastInDim S64x9x64 ![0, 1] bcast_S64x9_S64x9x64_0_1 (cmpi .sge bandNo (broadcastInDim S64x9 ![] bcast_S_S64x9 (constantI S_ 32 8#32)))) shapeCasts_S64x9x64_S64x576

/-- The clipped relative position of a key to a query, shifted to be a table index. -/
def relNo : IVec S64x576 32 := addi (minsi (broadcastInDim S64x576 ![] bcast_S_S64x576 (id (constantI S_ 32 63#32))) (maxsi (broadcastInDim S64x576 ![] bcast_S_S64x576 (id (constantI S_ 32 4294967168#32))) (subi (broadcastInDim S64x576 ![0, 1] bcast_S1x576_S64x576_0_1 (broadcastInDim S1x576 ![1] bcast_S576_S1x576_1 (subi (iotaInDim S576 32 0) (broadcastInDim S576 ![] bcast_S_S576 (constantI S_ 32 512#32))))) (broadcastInDim S64x576 ![0, 1] bcast_S64x1_S64x576_0_1 (broadcastInDim S64x1 ![0] bcast_S64_S64x1_0 (iotaInDim S64 32 0)))))) (broadcastInDim S64x576 ![] bcast_S_S64x576 (constantI S_ 32 128#32))

/-- The table indices, as the look-up of the table takes them. -/
def relIdx : IVec S64x576x1 32 := broadcastInDim S64x576x1 ![0, 1] bcast_S64x576_S64x576x1_0_1 (select (cmpi .slt relNo (broadcastInDim S64x576 ![] bcast_S_S64x576 (constantI S_ 32 0#32))) (addi relNo (broadcastInDim S64x576 ![] bcast_S_S64x576 (constantI S_ 32 192#32))) relNo)

/-- The relative position's bias, per head. -/
def biased (t : FVec Ideal S8x192 .f32) : FVec Ideal S8x64x576 .f32 := Host.gather gather_S8x192_S64x576x1_S8x64x576_0_1_n_n_1_2_81 t relIdx

/-- The scores, minus infinity outside the sequence. -/
def score (q k : FVec Ideal S8x4096x512 .f32) (t : FVec Ideal S8x192 .f32) : FVec Ideal S8x64x8x64x576 .f32 := select (broadcastInDim S8x64x8x64x576 ![0, 1, 2, 3, 4] bcast_S1x64x1x1x576_S8x64x8x64x576_0_1_2_3_4 (broadcastInDim S1x64x1x1x576 ![1, 4] bcast_S64x576_S1x64x1x1x576_1_4 inside)) (addf (mulf (Host.dotGeneral dot_S8x64x64x8x64_S8x64x576x8x64_S8x64x8x64x576_4_4_2_2_013_013 none (shapeCast _ q shapeCasts_S8x4096x512_S8x64x64x8x64 : FVec Ideal S8x64x64x8x64 .f32) (banded k)) (broadcastInDim S8x64x8x64x576 ![] bcast_S_S8x64x8x64x576 (constant S_ .f32 0x3E000000#32))) (broadcastInDim S8x64x8x64x576 ![0, 1, 2, 3, 4] bcast_S1x1x8x64x576_S8x64x8x64x576_0_1_2_3_4 (broadcastInDim S1x1x8x64x576 ![2, 3, 4] bcast_S8x64x576_S1x1x8x64x576_2_3_4 (biased t)))) (broadcastInDim S8x64x8x64x576 ![] bcast_S_S8x64x8x64x576 (id (constant S_ .f32 0xFF800000#32)))

/-- The largest of each query's scores. -/
def most (s : FVec Ideal S8x64x8x64x576 .f32) : FVec Ideal S8x64x8x64 .f32 := Host.reduce FloatOps.maximumf s (constant S_ .f32 0xFF800000#32) reducesTo_S8x64x8x64x576_S8x64x8x64_d4 h_S_

/-- The largest of minus infinity and each query's scores. -/
def top (s : FVec Ideal S8x64x8x64x576 .f32) : FVec Ideal S8x64x8x64 .f32 := maximumf (broadcastInDim S8x64x8x64 ![] bcast_S_S8x64x8x64 (constant S_ .f32 0xFF800000#32)) (most s)

/-- The exponentials of the scores, shifted by the largest. -/
def grown (s : FVec Ideal S8x64x8x64x576 .f32) : FVec Ideal S8x64x8x64x576 .f32 := Host.exp (subf s (broadcastInDim S8x64x8x64x576 ![0, 1, 2, 3, 4] bcast_S8x64x8x64x1_S8x64x8x64x576_0_1_2_3_4 (broadcastInDim S8x64x8x64x1 ![0, 1, 2, 3] bcast_S8x64x8x64_S8x64x8x64x1_0_1_2_3 (top s))))

/-- The softmax of the scores. -/
def probs (s : FVec Ideal S8x64x8x64x576 .f32) : FVec Ideal S8x64x8x64x576 .f32 := Host.divf (grown s) (broadcastInDim S8x64x8x64x576 ![0, 1, 2, 3, 4] bcast_S8x64x8x64x1_S8x64x8x64x576_0_1_2_3_4 (broadcastInDim S8x64x8x64x1 ![0, 1, 2, 3] bcast_S8x64x8x64_S8x64x8x64x1_0_1_2_3 (Host.reduceAdd (grown s) (constant S_ .f32 0x00000000#32) reducesTo_S8x64x8x64x576_S8x64x8x64_d4 h_S_)))

/-- The attention of the reference. -/
def attn (q k v : FVec Ideal S8x4096x512 .f32) (t : FVec Ideal S8x192 .f32) : FVec Ideal S8x4096x512 .bf16 := truncf .bf16 (shapeCast _ (transpose S8x64x64x8x64 [0, 1, 4, 2, 3] (Host.dotGeneral dot_S8x64x576x8x64_S8x64x8x64x576_S8x64x8x64x64_2_4_4_3_013_012 none (banded v) (probs (score q k t)) : FVec Ideal S8x64x8x64x64 .f32) transposes_S8x64x8x64x64_S8x64x64x8x64_0_1_4_2_3) shapeCasts_S8x64x64x8x64_S8x4096x512 : FVec Ideal S8x4096x512 .f32) bitsLt_bf16_f32

/-- What the reference returns is the attention of its arguments. -/
theorem result_eq (m : (ℓ : Loc nD τ sig) → Buf (Elt Ideal) ℓ) (c : Dev nD) :
    Value.res_main_v73 m c = attn (m ((c.tc : Thread nD τ).loc main_arg0)) (m ((c.tc : Thread nD τ).loc main_arg1)) (m ((c.tc : Thread nD τ).loc main_arg2)) (m ((c.tc : Thread nD τ).loc main_arg3)) := by
  delta Value.res_main_v73 attn probs grown top most score biased relIdx relNo inside banded padded bandIdx bandNo
  rfl

end Cert.AttnRefIdeal.Read
-- ==== Proof.AttnRefBand.lean ====
/- The reference's look-ups read at an index: the keys and values of a query's band, and the bias of a relative position. -/
module

public import proofs.«01_k».proof.Proof.AttnRef
public import proofs.«01_k».proof.Proof.GatherRead

@[expose] public section

set_option maxRecDepth 16384

noncomputable section

namespace Cert.AttnRefIdeal.Read

open Cert.AttnRefIdeal Cert.AttnRefIdeal.Gen Idealize.ShloMosaic Idealize.ShloMosaic.TcCoe Idealize.SL.Sem Cert.GatherRead

/-- Band position `w` of chunk `n` is padded chunk `n + w`. -/
theorem bandNo_at (n : Fin 64) (w : Fin 9) : bandNo (ix2 n w) = BitVec.ofNat 32 (n.val + w.val) := by
  unfold bandNo
  pointwise
  exact (by decide +kernel : ∀ (n : Fin 64) (w : Fin 9), IntOp.addi (BitVec.ofNat 32 n.val) (BitVec.ofNat 32 w.val) = BitVec.ofNat 32 (n.val + w.val)) n w

/-- The look-up's chunk number is the band's: none is negative. -/
theorem bandIdx_at (n : Fin 64) (w : Fin 9) : bandIdx (ix3 n w 0) = BitVec.ofNat 32 (n.val + w.val) := by
  unfold bandIdx
  pointwise
  rw [bandNo_at]
  exact (by decide +kernel : ∀ (n : Fin 64) (w : Fin 9), Scalar.select (IntOp.cmpi CmpIPredicate.slt (BitVec.ofNat 32 (n.val + w.val)) 0#32) (IntOp.addi (BitVec.ofNat 32 (n.val + w.val)) 72#32) (BitVec.ofNat 32 (n.val + w.val)) = BitVec.ofNat 32 (n.val + w.val)) n w

/-- An entry of a band is the entry of its padded chunk. -/
theorem gather_band (x : FVec Ideal S8x72x64x8x64 .f32) (b : Fin 8) (n : Fin 64) (w : Fin 9) (i : Fin 64) (h : Fin 8) (d : Fin 64) :
    Host.gather gather_S8x72x64x8x64_S64x9x1_S8x64x9x64x8x64_0345_1_n_n_1_2_8164864 x bandIdx (ix6 b n w i h d) = x (ix5 b ⟨n.val + w.val, by omega⟩ i h d) := by
  unfold Host.gather
  refine congrArg x (funext fun a => Fin.ext ?_)
  show GatherDims.start _ _ _ _ + GatherDims.batchCoord _ _ _ + GatherDims.offCoord _ _ _ = _
  rw [GatherDims.batchCoord_eq_zero _ _ _ (by exact List.not_mem_nil)]
  match a with
  | ⟨0, _⟩ => rw [start_zero _ _ _ _ (by decide +revert), off_at _ _ _ 0 (by decide +revert) (by decide +revert)]; simp
  | ⟨1, _⟩ =>
    rw [start_at _ _ _ _ (ix3 n w 0) _ (by decide +revert) (fun e => ?_) (bandIdx_at n w) (by show _ ≤ 72 - 1; omega) (by omega), GatherDims.offCoord_eq_zero _ _ _ (by decide +revert)]; rfl
    match e with
    | ⟨0, _⟩ => rw [si_at _ _ _ _ 1 (by decide +revert) (by decide +revert)]; rfl
    | ⟨1, _⟩ => rw [si_at _ _ _ _ 2 (by decide +revert) (by decide +revert)]; rfl
    | ⟨2, _⟩ => rw [si_vec _ _ _ _ (by decide +revert)]; rfl
  | ⟨2, _⟩ => rw [start_zero _ _ _ _ (by decide +revert), off_at _ _ _ 3 (by decide +revert) (by decide +revert)]; simp
  | ⟨3, _⟩ => rw [start_zero _ _ _ _ (by decide +revert), off_at _ _ _ 4 (by decide +revert) (by decide +revert)]; simp
  | ⟨4, _⟩ => rw [start_zero _ _ _ _ (by decide +revert), off_at _ _ _ 5 (by decide +revert) (by decide +revert)]; simp

end Cert.AttnRefIdeal.Read
-- ==== Proof.AttnRefTop.lean ====
/- The reference's band, largest scores at an index. -/
module

public import proofs.«01_k».proof.Proof.AttnRef

@[expose] public section

set_option maxRecDepth 16384

noncomputable section

namespace Cert.AttnRefIdeal.Read

open Cert.AttnRefIdeal Cert.AttnRefIdeal.Gen Idealize.ShloMosaic Idealize.ShloMosaic.TcCoe Idealize.SL.Sem

/-- A maximum over the last of five axes, at any extents. -/
theorem max_last {a b c d e : Nat} {u : Shape} (v : FVec Ideal ⟨5, ![a, b, c, d, e]⟩ .f32) (z : FVec Ideal u .f32) (h : (⟨5, ![a, b, c, d, e]⟩ : Shape).ReducesTo [4] ⟨4, ![a, b, c, d]⟩)
    (hu : 0 < u.numel) (p : Fin a) (q : Fin b) (r : Fin c) (l : Fin d) :
    Host.reduce FloatOps.maximumf v z h hu (ix4 p q r l) = Finset.univ.fold max (z (Shape.Idx.first hu)) (fun k : Fin e => v (ix5 p q r l k)) := by
  simp only [pointwise]

/-- The largest score of a query, as a fold over its band. -/
theorem most_at (s : FVec Ideal S8x64x8x64x576 .f32) (b : Fin 8) (n : Fin 64) (h : Fin 8) (i : Fin 64) :
    most s (ix4 b n h i) = Finset.univ.fold max ((constant S_ .f32 0xFF800000#32 : FVec Ideal S_ .f32) (Shape.Idx.first h_S_)) (fun e : Fin 576 => s (ix5 b n h i e)) :=
  max_last s _ _ _ b n h i

/-- The larger of minus infinity and an entry. -/
theorem max_at (y : FVec Ideal S8x64x8x64 .f32) (j : S8x64x8x64.Idx) :
    maximumf (broadcastInDim S8x64x8x64 ![] bcast_S_S8x64x8x64 (constant S_ .f32 0xFF800000#32)) y j = max (Ideal.ofBits FTy.f32 4286578688#32) (y j) := rfl

/-- The largest of minus infinity and the scores. -/
theorem top_max (s : FVec Ideal S8x64x8x64x576 .f32) (b : Fin 8) (n : Fin 64) (h : Fin 8) (i : Fin 64) :
    top s (ix4 b n h i) = max (Ideal.ofBits FTy.f32 4286578688#32) (most s (ix4 b n h i)) := max_at (most s) (ix4 b n h i)

/-- A maximum of minus infinity and a fold from it is the fold. -/
theorem max_fold (z z' : EReal) (f : Fin 576 → EReal) (hz : z = ⊥) (hz' : z' = ⊥) : max z (Finset.univ.fold max z' f) = Finset.univ.fold max (⊥ : EReal) f := by
  rw [hz, hz']
  exact max_eq_right bot_le

/-- The largest score of a query. -/
theorem top_at (s : FVec Ideal S8x64x8x64x576 .f32) (b : Fin 8) (n : Fin 64) (h : Fin 8) (i : Fin 64) :
    top s (ix4 b n h i) = Finset.univ.fold max (⊥ : EReal) (fun e : Fin 576 => s (ix5 b n h i e)) := by
  have e : Ideal.ofBits FTy.f32 4286578688#32 = (⊥ : EReal) := by simp [Ideal.ofBits, Ideal.ieee]
  rw [top_max, most_at]
  exact max_fold _ _ _ e e

end Cert.AttnRefIdeal.Read
-- ==== Proof.AttnRefScore.lean ====
/- The reference's band, bias and scores at an index. -/
module

public import proofs.«01_k».proof.Proof.AttnRefBand
public import proofs.«01_k».proof.Proof.AttnRefTop

@[expose] public section

set_option maxRecDepth 16384

noncomputable section

namespace Cert.AttnRefIdeal.Read

open Cert.AttnRefIdeal Cert.AttnRefIdeal.Gen Idealize.ShloMosaic Idealize.ShloMosaic.TcCoe Idealize.SL.Sem Cert.GatherRead

/-- A padded chunk is zero before the sequence and the array's chunk in it. -/
theorem padded_at (x : FVec Ideal S8x4096x512 .f32) (b : Fin 8) (n : Fin 72) (i : Fin 64) (h : Fin 8) (d : Fin 64) (p : Fin 4096) (l : Fin 512)
    (hn : 8 ≤ n.val) (hp : p.val = (n.val - 8) * 64 + i.val) (hl : l.val = h.val * 64 + d.val) :
    padded x (ix5 b n i h d) = x (ix3 b p l) := by
  unfold padded
  pointwise
  rw [dif_pos ⟨hn, by omega⟩]
  congr 2
  · exact Fin.ext hp.symm
  · exact Fin.ext hl.symm

/-- A band entry inside the sequence is the array's entry. -/
theorem banded_at (x : FVec Ideal S8x4096x512 .f32) (b : Fin 8) (n : Fin 64) (e : Fin 576) (h : Fin 8) (d : Fin 64) (p : Fin 4096) (l : Fin 512)
    (hn : 512 ≤ n.val * 64 + e.val) (hp : p.val = n.val * 64 + e.val - 512) (hl : l.val = h.val * 64 + d.val) :
    banded x (ix5 b n e h d) = x (ix3 b p l) := by
  unfold banded
  pointwise
  rw [gather_band]
  exact padded_at x b _ _ h d p l (by show 8 ≤ n.val + e.val / 64; omega) (by show p.val = (n.val + e.val / 64 - 8) * 64 + e.val % 64; omega) hl

/-- A band position lies in the sequence when its place in the sequence is not negative. -/
theorem inside_at (n : Fin 64) (e : Fin 576) : inside (ix2 n e) = if 512 ≤ n.val * 64 + e.val then 1#1 else 0#1 := by
  unfold inside
  pointwise
  rw [bandNo_at]
  have h := (by decide +kernel : ∀ (n : Fin 64) (w : Fin 9), IntOp.cmpi CmpIPredicate.sge (BitVec.ofNat 32 (n.val + w.val)) 8#32 = if 8 ≤ n.val + w.val then 1#1 else 0#1) n ⟨e.val / 64, by omega⟩
  refine h.trans (if_congr ?_ rfl rfl)
  show 8 ≤ n.val + e.val / 64 ↔ _
  omega

/-- The table's index of a relative position. -/
theorem relNo_at (i : Fin 64) (e : Fin 576) : relNo (ix2 i e) = BitVec.ofNat 32 (min 191 (e.val - (384 + i.val))) := by
  unfold relNo
  pointwise
  exact (by decide +kernel : ∀ (i : Fin 64) (e : Fin 576), IntOp.addi (IntOp.minsi 63#32 (IntOp.maxsi 4294967168#32 (IntOp.subi (IntOp.subi (BitVec.ofNat 32 e.val) 512#32) (BitVec.ofNat 32 i.val)))) 128#32 = BitVec.ofNat 32 (min 191 (e.val - (384 + i.val)))) i e

/-- The table's look-up index of a relative position: none is negative. -/
theorem relIdx_at (i : Fin 64) (e : Fin 576) : relIdx (ix3 i e 0) = BitVec.ofNat 32 (min 191 (e.val - (384 + i.val))) := by
  unfold relIdx
  pointwise
  rw [relNo_at]
  exact (by decide +kernel : ∀ p : Fin 192, Scalar.select (IntOp.cmpi CmpIPredicate.slt (BitVec.ofNat 32 p.val) 0#32) (IntOp.addi (BitVec.ofNat 32 p.val) 192#32) (BitVec.ofNat 32 p.val) = BitVec.ofNat 32 p.val) ⟨min 191 (e.val - (384 + i.val)), by omega⟩

/-- The bias of a query and a key of its band is the table's entry of their relative position. -/
theorem biased_at (t : FVec Ideal S8x192 .f32) (h : Fin 8) (i : Fin 64) (e : Fin 576) :
    biased t (ix3 h i e) = t (ix2 h ⟨min 191 (e.val - (384 + i.val)), by omega⟩) := by
  unfold biased Host.gather
  refine congrArg t (funext fun a => Fin.ext ?_)
  show GatherDims.start _ _ _ _ + GatherDims.batchCoord _ _ _ + GatherDims.offCoord _ _ _ = _
  rw [GatherDims.batchCoord_eq_zero _ _ _ (by exact List.not_mem_nil)]
  match a with
  | ⟨0, _⟩ => rw [start_zero _ _ _ _ (by decide +revert), off_at _ _ _ 0 (by decide +revert) (by decide +revert)]; simp
  | ⟨1, _⟩ =>
    rw [start_at _ _ _ _ (ix3 i e 0) _ (by decide +revert) (fun e => ?_) (relIdx_at i e) (by show _ ≤ 192 - 1; omega) (by omega), GatherDims.offCoord_eq_zero _ _ _ (by decide +revert)]; rfl
    match e with
    | ⟨0, _⟩ => rw [si_at _ _ _ _ 1 (by decide +revert) (by decide +revert)]; rfl
    | ⟨1, _⟩ => rw [si_at _ _ _ _ 2 (by decide +revert) (by decide +revert)]; rfl
    | ⟨2, _⟩ => rw [si_vec _ _ _ _ (by decide +revert)]; rfl

/-- The place in the sequence of a query's key. -/
def place (n : Fin 64) (e : Fin 576) : Fin 4096 := ⟨n.val * 64 + e.val - 512, by omega⟩

/-- The score of a query and a key of its band. -/
theorem score_at (q k t) (b : Fin 8) (n : Fin 64) (i : Fin 64) (h : Fin 8) (e : Fin 576) :
    score q k t (ix5 b n h i e) = if 512 ≤ n.val * 64 + e.val then
      (∑ x : Fin 64, q (ix3 b ⟨n.val * 64 + i.val, by omega⟩ ⟨h.val * 64 + x.val, by omega⟩) * k (ix3 b (place n e) ⟨h.val * 64 + x.val, by omega⟩)) * Ideal.ofBits FTy.f32 1040187392#32
        + t (ix2 h ⟨min 191 (e.val - (384 + i.val)), by omega⟩) else (⊥ : EReal) := by
  unfold score
  pointwise
  rw [inside_at, biased_at]
  by_cases hn : 512 ≤ n.val * 64 + e.val
  · rw [if_pos hn, if_pos hn]
    show (if (1#1 : BitVec 1) = 1#1 then _ else _) = _
    rw [if_pos rfl]
    refine congrArg (fun z : EReal => z * _ + _) (Finset.sum_congr rfl fun x _ => ?_)
    rw [banded_at k b n e h x (place n e) ⟨h.val * 64 + x.val, by omega⟩ hn rfl rfl]
  · rw [if_neg hn, if_neg hn]
    show (if (0#1 : BitVec 1) = 1#1 then _ else _) = _
    rw [if_neg (by decide)]
    show Ideal.ofBits FTy.f32 4286578688#32 = _
    simp [Ideal.ofBits, Ideal.ieee]

/-- The exponential of a shifted score. -/
theorem grown_at (s) (b : Fin 8) (n : Fin 64) (h : Fin 8) (i : Fin 64) (e : Fin 576) :
    grown s (ix5 b n h i e) = Ideal.exp (s (ix5 b n h i e) - top s (ix4 b n h i)) := by
  unfold grown
  pointwise

/-- The probability of a key. -/
theorem probs_at (s) (b : Fin 8) (n : Fin 64) (h : Fin 8) (i : Fin 64) (e : Fin 576) :
    probs s (ix5 b n h i e) = Ideal.div (grown s (ix5 b n h i e)) (∑ e' : Fin 576, grown s (ix5 b n h i e')) := by
  unfold probs
  pointwise

/-- An entry of the attention. -/
theorem attn_at (q k v t) (b : Fin 8) (s : Fin 4096) (l : Fin 512) :
    attn q k v t (ix3 b s l) = ∑ e : Fin 576, banded v (ix5 b ⟨s.val / 64, by omega⟩ e ⟨l.val / 64, by omega⟩ ⟨l.val % 64, by omega⟩)
      * probs (score q k t) (ix5 b ⟨s.val / 64, by omega⟩ ⟨l.val / 64, by omega⟩ ⟨s.val % 64, by omega⟩ e) := by
  unfold attn
  pointwise

end Cert.AttnRefIdeal.Read
-- ==== Proof.AttnPoint.lean ====
/- One entry of the attention tile is the reference's entry: the window of 768 staged keys against the band of 576. -/
module

public import proofs.«01_k».proof.Proof.AttnHost
public import proofs.«01_k».proof.Proof.AttnTileAt
public import proofs.«01_k».proof.Proof.AttnRefScore

@[expose] public section

set_option maxRecDepth 16384

noncomputable section

namespace Cert.AttnIdeal.Point

open Cert.AttnIdeal Cert.AttnIdeal.Gen Idealize.ShloMosaic Idealize.ShloMosaic.TcCoe Idealize.SL.Sem Cert.AttnMath Cert.AttnIdeal.Tile

/-- The word of two. -/
theorem two : Ideal.ofBits FTy.f32 1073741824#32 = ((2 : ℝ) : EReal) := by
  simp [Ideal.ofBits, Ideal.ieee]
  rw [← EReal.coe_mul]
  norm_num

/-- The word of an eighth. -/
theorem eighth : Ideal.ofBits FTy.f32 1040187392#32 = ((1 / 8 : ℝ) : EReal) := by
  simp [Ideal.ofBits, Ideal.ieee]
  rw [← EReal.coe_mul]
  norm_num

/-- The logarithm of two is a real number. -/
theorem log_two : Ideal.log (Ideal.ofBits FTy.f32 1073741824#32) = ((Real.log 2 : ℝ) : EReal) := by
  rw [two, Ideal.log_coe, if_neg (by norm_num)]

/-- It isn't nought. -/
theorem log_two_ne : Real.log 2 ≠ 0 := (Real.log_pos (by norm_num)).ne'

/-- The queries' factor is a real number. -/
theorem factor_eq : Host.factor = ((1 / 8 * (1 / Real.log 2) : ℝ) : EReal) := by
  unfold Host.factor
  rw [log_two, eighth, Ideal.div_coe log_two_ne, ← EReal.coe_mul]

/-- A score in base two is the score over the logarithm of two. -/
theorem score_scale {n : ℕ} (f g : Fin n → ℝ) (b : ℝ) :
    (∑ x, (f x : EReal) * Host.factor * (g x : EReal)) + Ideal.div (b : EReal) (Ideal.log (Ideal.ofBits FTy.f32 1073741824#32))
      = ((((∑ x, f x * g x) * (1 / 8) + b) / Real.log 2 : ℝ) : EReal) := by
  rw [factor_eq, log_two, Ideal.div_coe log_two_ne]
  have e : ∀ x, (f x : EReal) * ((1 / 8 * (1 / Real.log 2) : ℝ) : EReal) * (g x : EReal) = ((f x * g x * (1 / 8 * (1 / Real.log 2)) : ℝ) : EReal) := fun x => by
    rw [← EReal.coe_mul, ← EReal.coe_mul]
    congr 1
    ring
  rw [Finset.sum_congr rfl fun x _ => e x, ← coe_sum, ← EReal.coe_mul, ← EReal.coe_add, ← Finset.sum_mul]
  congr 1
  ring

/-- A score as the reference takes it. -/
theorem score_plain {n : ℕ} (f g : Fin n → ℝ) (b : ℝ) :
    (∑ x, (f x : EReal) * (g x : EReal)) * Ideal.ofBits FTy.f32 1040187392#32 + (b : EReal) = (((∑ x, f x * g x) * (1 / 8) + b : ℝ) : EReal) := by
  rw [eighth]
  have e : ∀ x, (f x : EReal) * (g x : EReal) = ((f x * g x : ℝ) : EReal) := fun x => (EReal.coe_mul _ _).symm
  rw [Finset.sum_congr rfl fun x _ => e x, ← coe_sum, ← EReal.coe_mul, ← EReal.coe_add]

variable (q k v : FVec Ideal S8x4096x512 .f32) (tb : FVec Ideal S8x192 .f32)

/-- The entry of the tile whose blocks are the arrays' is the reference's. -/
theorem entry (hq : ∀ i, ∃ x : ℝ, q i = (x : EReal)) (hk : ∀ i, ∃ x : ℝ, k i = (x : EReal)) (ht : ∀ i, ∃ x : ℝ, tb i = (x : EReal))
    (s : Fin 8) (j : Fin 16) (r : Fin 256) (l : Fin 512) (M : Fin 768 → Prop) [DecidablePred M] (hM : ∀ c, M c ↔ 512 ≤ j.val * 256 + c.val)
    (Q K0 K1 K2 V0 V1 V2 : Vec Ideal S1x256x512 .bf16) (B : Vec Ideal S8x256x768 .f32)
    (hQ : ∀ y : Fin 512, (Q (ix3 0 r y) : EReal) = q (ix3 s ⟨j.val * 256 + r.val, by omega⟩ y) * Host.factor)
    (hK : ∀ (c : Fin 768) (y : Fin 512), 512 ≤ j.val * 256 + c.val → stackAt K0 K1 K2 c y = k (ix3 s ⟨j.val * 256 + c.val - 512, by omega⟩ y))
    (hV : ∀ (c : Fin 768) (y : Fin 512), 512 ≤ j.val * 256 + c.val → stackAt V0 V1 V2 c y = v (ix3 s ⟨j.val * 256 + c.val - 512, by omega⟩ y))
    (hB : ∀ (h : Fin 8) (c : Fin 768), (B (ix3 h r c) : EReal) = if r.val / 64 ≤ c.val / 64 ∧ c.val / 64 ≤ r.val / 64 + 8 then
        Ideal.div (tb (ix2 h ⟨min 191 (c.val - (384 + r.val)), by omega⟩)) (Ideal.log (Ideal.ofBits FTy.f32 1073741824#32)) else ⊥) :
    headAt (fun c => if M c then scoreAt Q K0 K1 K2 B r l c else ⊥) (fun c => stackAt V0 V1 V2 c l)
      = Cert.AttnRefIdeal.Read.attn q k v tb (ix3 s ⟨j.val * 256 + r.val, by omega⟩ l) := by
  choose qr hqr using hq
  choose kr hkr using hk
  choose tr htr using ht
  have hs : (j.val * 256 + r.val) / 64 < 64 := by omega
  rw [Cert.AttnRefIdeal.Read.attn_at]
  simp only [Cert.AttnRefIdeal.Read.probs_at, Cert.AttnRefIdeal.Read.grown_at, Cert.AttnRefIdeal.Read.top_at]
  unfold headAt
  refine attention_eq (64 * (r.val / 64)) (by omega) (fun e => 512 ≤ (j.val * 256 + r.val) / 64 * 64 + e.val)
    (fun e => (∑ x : Fin 64, qr (ix3 s ⟨j.val * 256 + r.val, by omega⟩ (lane l x)) * kr (ix3 s (Cert.AttnRefIdeal.Read.place ⟨(j.val * 256 + r.val) / 64, hs⟩ e) (lane l x))) * (1 / 8)
      + tr (ix2 ⟨l.val / 64, by omega⟩ ⟨min 191 (e.val - (384 + r.val % 64)), by omega⟩))
    ⟨⟨512, by omega⟩, by show 512 ≤ _ + 512; omega⟩ _ (fun e => ?_) _ (fun e => ?_) (fun c hc => ?_) _ _ (fun e he => ?_)
  · rw [Cert.AttnRefIdeal.Read.score_at]
    refine if_congr Iff.rfl ?_ rfl
    rw [← score_plain]
    refine congrArg₂ (fun y z : EReal => y * Ideal.ofBits FTy.f32 1040187392#32 + z) (Finset.sum_congr rfl fun x _ => ?_) ?_
    · rw [← hqr, ← hkr]
      have e1 : (⟨(j.val * 256 + r.val) / 64 * 64 + (j.val * 256 + r.val) % 64, by omega⟩ : Fin 4096) = ⟨j.val * 256 + r.val, by omega⟩ := Fin.ext (by show (j.val * 256 + r.val) / 64 * 64 + (j.val * 256 + r.val) % 64 = j.val * 256 + r.val; omega)
      exact congrArg (fun y => q (ix3 s y (lane l x)) * k (ix3 s (Cert.AttnRefIdeal.Read.place ⟨(j.val * 256 + r.val) / 64, hs⟩ e) (lane l x))) e1
    · rw [← htr]
      have e2 : (⟨min 191 (e.val - (384 + (j.val * 256 + r.val) % 64)), by omega⟩ : Fin 192) = ⟨min 191 (e.val - (384 + r.val % 64)), by omega⟩ := Fin.ext (by show min 191 (e.val - (384 + (j.val * 256 + r.val) % 64)) = min 191 (e.val - (384 + r.val % 64)); omega)
      exact congrArg (fun y => tb (ix2 ⟨l.val / 64, by omega⟩ y)) e2
  · have hd : (j.val * 256 + r.val) / 64 = 4 * j.val + r.val / 64 := by omega
    have hi : 512 ≤ j.val * 256 + (64 * (r.val / 64) + e.val) ↔ 512 ≤ (j.val * 256 + r.val) / 64 * 64 + e.val := by omega
    by_cases hm : 512 ≤ j.val * 256 + (64 * (r.val / 64) + e.val)
    case neg => rw [if_neg (fun h => hm ((hM _).1 h)), if_neg (fun h => hm (hi.2 h))]
    rw [if_pos ((hM _).2 hm), if_pos (hi.1 hm)]
    rw [← score_scale]
    unfold scoreAt
    rw [hB, if_pos (by show r.val / 64 ≤ (64 * (r.val / 64) + e.val) / 64 ∧ (64 * (r.val / 64) + e.val) / 64 ≤ r.val / 64 + 8; omega)]
    have hr : min 191 (64 * (r.val / 64) + e.val - (384 + r.val)) = min 191 (e.val - (384 + r.val % 64)) := by omega
    refine congrArg₂ (fun y z : EReal => y + Ideal.div z (Ideal.log (Ideal.ofBits FTy.f32 1073741824#32))) (Finset.sum_congr rfl fun x _ => ?_) ?_
    · rw [hQ, hK _ _ hm, hqr, hkr]
      have e3 : (⟨j.val * 256 + (64 * (r.val / 64) + e.val) - 512, by omega⟩ : Fin 4096) = Cert.AttnRefIdeal.Read.place ⟨(j.val * 256 + r.val) / 64, hs⟩ e :=
        Fin.ext (by show j.val * 256 + (64 * (r.val / 64) + e.val) - 512 = (j.val * 256 + r.val) / 64 * 64 + e.val - 512; omega)
      exact congrArg (fun y => (qr (ix3 s ⟨j.val * 256 + r.val, by omega⟩ (lane l x)) : EReal) * Host.factor * (kr (ix3 s y (lane l x)) : EReal)) e3
    · rw [← htr]
      have e4 : (⟨min 191 (64 * (r.val / 64) + e.val - (384 + r.val)), by omega⟩ : Fin 192) = ⟨min 191 (e.val - (384 + r.val % 64)), by omega⟩ := Fin.ext hr
      exact congrArg (fun y => tb (ix2 ⟨l.val / 64, by omega⟩ y)) e4
  · show (if M c then scoreAt Q K0 K1 K2 B r l c else ⊥) = ⊥
    split
    · unfold scoreAt
      rw [hB, if_neg (by omega), EReal.add_bot]
    · rfl
  · show stackAt V0 V1 V2 _ l = _
    have h5 : 512 ≤ j.val * 256 + (64 * (r.val / 64) + e.val) := by omega
    have he' : 512 ≤ (j.val * 256 + r.val) / 64 * 64 + e.val := he
    have hp : j.val * 256 + (64 * (r.val / 64) + e.val) - 512 = (j.val * 256 + r.val) / 64 * 64 + e.val - 512 := by omega
    have hl : l.val = l.val / 64 * 64 + l.val % 64 := by omega
    have hh : l.val / 64 < 8 := by omega
    have hd : l.val % 64 < 64 := by omega
    have hpp : j.val * 256 + (64 * (r.val / 64) + e.val) - 512 < 4096 := by omega
    have hb := Cert.AttnRefIdeal.Read.banded_at v s ⟨(j.val * 256 + r.val) / 64, hs⟩ e ⟨l.val / 64, hh⟩ ⟨l.val % 64, hd⟩ ⟨j.val * 256 + (64 * (r.val / 64) + e.val) - 512, hpp⟩ l he' hp hl
    exact (hV _ _ h5).trans hb.symm

end Cert.AttnIdeal.Point
-- ==== Proof.AttnValue.lean ====
/- The attention call computes the reference's attention: every tile, then the whole array. -/
module

public import proofs.«01_k».proof.Proof.AttnBlocks
public import proofs.«01_k».proof.Proof.AttnOuts
public import proofs.«01_k».proof.Proof.AttnPoint

@[expose] public section

set_option maxRecDepth 16384

noncomputable section

namespace Cert.AttnIdeal.Result

open Cert.AttnIdeal Cert.AttnIdeal.Gen Idealize.ShloMosaic Idealize.ShloMosaic.TcCoe Idealize.SL.Sem Cert.AttnIdeal.Tile Cert.AttnIdeal.Blocks

variable (m : (ℓ : Loc nD τ sig) → Buf (Elt Ideal) ℓ) (c : Dev nD)

/-- The stacked keys, from the third tile back on, are the array's rows. -/
theorem keys_at (t : Fin cfg0.N) (k : Fin 768) (y : Fin 512) (h : 512 ≤ t.val % 16 * 256 + k.val) :
    stackAt (iblk m c 1 t) (iblk m c 2 t) (iblk m c 3 t) k y
      = (show FVec Ideal S8x4096x512 .f32 from m ((c : Thread nD τ).loc main_arg1)) (ix3 ⟨t.val / 16, seq_lt t⟩ ⟨t.val % 16 * 256 + k.val - 512, by omega⟩ y) := by
  unfold stackAt
  split
  · refine (k0_at m c t _ _).trans ((Host.V_k m c _).trans ?_)
    exact congrArg (fun z => (show FVec Ideal S8x4096x512 .f32 from m ((c : Thread nD τ).loc main_arg1)) (ix3 ⟨t.val / 16, seq_lt t⟩ z y)) (Fin.ext (by show (t.val % 16 - 2) * 256 + k.val = t.val % 16 * 256 + k.val - 512; omega))
  · split
    · refine (k1_at m c t _ _).trans ((Host.V_k m c _).trans ?_)
      exact congrArg (fun z => (show FVec Ideal S8x4096x512 .f32 from m ((c : Thread nD τ).loc main_arg1)) (ix3 ⟨t.val / 16, seq_lt t⟩ z y)) (Fin.ext (by show (t.val % 16 - 1) * 256 + (k.val - 256) = t.val % 16 * 256 + k.val - 512; omega))
    · refine (k2_at m c t _ _).trans ((Host.V_k m c _).trans ?_)
      exact congrArg (fun z => (show FVec Ideal S8x4096x512 .f32 from m ((c : Thread nD τ).loc main_arg1)) (ix3 ⟨t.val / 16, seq_lt t⟩ z y)) (Fin.ext (by show t.val % 16 * 256 + (k.val - 256 - 256) = t.val % 16 * 256 + k.val - 512; omega))

/-- So are the stacked values. -/
theorem vals_at (t : Fin cfg0.N) (k : Fin 768) (y : Fin 512) (h : 512 ≤ t.val % 16 * 256 + k.val) :
    stackAt (iblk m c 4 t) (iblk m c 5 t) (iblk m c 6 t) k y
      = (show FVec Ideal S8x4096x512 .f32 from m ((c : Thread nD τ).loc main_arg2)) (ix3 ⟨t.val / 16, seq_lt t⟩ ⟨t.val % 16 * 256 + k.val - 512, by omega⟩ y) := by
  unfold stackAt
  split
  · refine (v0_at m c t _ _).trans ((Host.V_v m c _).trans ?_)
    exact congrArg (fun z => (show FVec Ideal S8x4096x512 .f32 from m ((c : Thread nD τ).loc main_arg2)) (ix3 ⟨t.val / 16, seq_lt t⟩ z y)) (Fin.ext (by show (t.val % 16 - 2) * 256 + k.val = t.val % 16 * 256 + k.val - 512; omega))
  · split
    · refine (v1_at m c t _ _).trans ((Host.V_v m c _).trans ?_)
      exact congrArg (fun z => (show FVec Ideal S8x4096x512 .f32 from m ((c : Thread nD τ).loc main_arg2)) (ix3 ⟨t.val / 16, seq_lt t⟩ z y)) (Fin.ext (by show (t.val % 16 - 1) * 256 + (k.val - 256) = t.val % 16 * 256 + k.val - 512; omega))
    · refine (v2_at m c t _ _).trans ((Host.V_v m c _).trans ?_)
      exact congrArg (fun z => (show FVec Ideal S8x4096x512 .f32 from m ((c : Thread nD τ).loc main_arg2)) (ix3 ⟨t.val / 16, seq_lt t⟩ z y)) (Fin.ext (by show t.val % 16 * 256 + (k.val - 256 - 256) = t.val % 16 * 256 + k.val - 512; omega))

/-- What a grid point leaves, at an index of its block. -/
theorem point (hq : ∀ i, ∃ x : ℝ, (show FVec Ideal S8x4096x512 .f32 from m ((c : Thread nD τ).loc main_arg0)) i = (x : EReal))
    (hk : ∀ i, ∃ x : ℝ, (show FVec Ideal S8x4096x512 .f32 from m ((c : Thread nD τ).loc main_arg1)) i = (x : EReal))
    (ht : ∀ i, ∃ x : ℝ, (show FVec Ideal S8x192 .f32 from m ((c : Thread nD τ).loc main_arg3)) i = (x : EReal))
    (t : Fin cfg0.N) (r : Fin 256) (l : Fin 512) :
    outsAt0 m c t.val t.isLt (ix3 0 r l) = Cert.AttnRefIdeal.Read.attn (m ((c : Thread nD τ).loc main_arg0)) (m ((c : Thread nD τ).loc main_arg1)) (m ((c : Thread nD τ).loc main_arg2)) (m ((c : Thread nD τ).loc main_arg3))
      (ix3 ⟨t.val / 16, seq_lt t⟩ ⟨t.val % 16 * 256 + r.val, by omega⟩ l) := by
  have fin : ∀ (M : Fin 768 → Prop) [DecidablePred M] (hM : ∀ k, M k ↔ 512 ≤ t.val % 16 * 256 + k.val), _ := fun M _ hM =>
    Point.entry (m ((c : Thread nD τ).loc main_arg0)) (m ((c : Thread nD τ).loc main_arg1)) (m ((c : Thread nD τ).loc main_arg2)) (m ((c : Thread nD τ).loc main_arg3))
      hq hk ht ⟨t.val / 16, seq_lt t⟩ ⟨t.val % 16, by omega⟩ r l M hM
      (iblk m c 0 t) (iblk m c 1 t) (iblk m c 2 t) (iblk m c 3 t) (iblk m c 4 t) (iblk m c 5 t) (iblk m c 6 t) (iblk m c 7 t)
      (fun y => (q_at m c t r y).trans (Host.V_q m c _)) (keys_at m c t) (vals_at m c t) (fun h k => (b_at m c t h r k).trans (Host.V_bias m c h r k))
  by_cases h0 : t.val % 16 ≤ 1
  · rw [outs_masked m c t h0 (by omega)]
    refine (tile_at _ (fun k => 512 ≤ (grid0.coords t 1).val * 256 + k.val) (fun s r k => maskV_at (grid0.coords t 1) s r k) _ _ _ _ _ _ _ _ r l).trans ?_
    refine fin _ fun k => ?_
    rw [(idx t).2.2.2.2.2.2.2.2.2]
  · rw [outs_plain m c t h0 (by omega)]
    refine (tile_at id (fun _ => True) (fun s r k => (if_pos trivial).symm) _ _ _ _ _ _ _ _ r l).trans ?_
    exact fin (fun _ => True) fun k => ⟨fun _ => by omega, fun _ => trivial⟩

/-- The result array is the reference's attention of the arguments. -/
theorem final (hq : ∀ i, ∃ x : ℝ, (show FVec Ideal S8x4096x512 .f32 from m ((c : Thread nD τ).loc main_arg0)) i = (x : EReal))
    (hk : ∀ i, ∃ x : ℝ, (show FVec Ideal S8x4096x512 .f32 from m ((c : Thread nD τ).loc main_arg1)) i = (x : EReal))
    (ht : ∀ i, ∃ x : ℝ, (show FVec Ideal S8x192 .f32 from m ((c : Thread nD τ).loc main_arg3)) i = (x : EReal)) :
    (dats m 0 c).arrAt 8 cfg0.N = Cert.AttnRefIdeal.Read.attn (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  obtain ⟨r, l, hy⟩ : ∃ (r : Fin 256) (l : Fin 512), y = ix3 0 r l := ⟨⟨(y 1).val, (y 1).isLt⟩, ⟨(y 2).val, (y 2).isLt⟩, by
    funext a
    match a with
    | ⟨0, _⟩ => exact Subsingleton.elim (α := Fin 1) _ _
    | ⟨1, _⟩ => rfl
    | ⟨2, _⟩ => rfl⟩
  subst hy
  refine (point m c hq hk ht t r l).trans ?_
  blk_ext [idx t]

end Cert.AttnIdeal.Result
-- ==== Proof.AttnPre.lean ====
/- What the attention's precondition says of an entry: it is a real number. -/
module

public import proofs.«01_k».proof.Proof.Gen.Pre_attn_finite
public import Idealize.ShloMosaic.PureOps.Ideal
public import Idealize.ShloMosaic.Lib.ReduceAll
public import Idealize.ShloMosaic.Lib.Affine
public import Idealize.ShloMosaic.Lib.Tactic.IndexArith

@[expose] public section

set_option maxRecDepth 16384

noncomputable section

namespace Cert.Pre_attn_finite.Read

open Cert.Pre_attn_finite Idealize.ShloMosaic

/-- The word of infinity. -/
theorem top_word : Ideal.ofBits FTy.f32 0x7F800000#32 = ⊤ := by
  simp [Ideal.ofBits, Ideal.ieee]

/-- A number whose size lies below infinity is real. -/
theorem real_of_lt (x : EReal) (h : Ideal.cmp CmpFPredicate.olt (max x (-x)) (Ideal.ofBits FTy.f32 0x7F800000#32) = 1#1) : ∃ r : ℝ, x = (r : EReal) := by
  rw [top_word] at h
  induction x with
  | bot => simp [Ideal.cmp] at h
  | coe r => exact ⟨r, rfl⟩
  | top => simp [Ideal.cmp] at h

/-- The precondition's three conjuncts, each at an index. -/
theorem real (q k v : FVec Ideal S8x4096x512 .f32) (t : FVec Ideal S8x192 .f32) (h : fn (F := Ideal) q k v t = fun _ => 1#1) :
    (∀ i, ∃ r : ℝ, q i = (r : EReal)) ∧ (∀ i, ∃ r : ℝ, k i = (r : EReal)) ∧ ∀ i, ∃ r : ℝ, t i = (r : EReal) := by
  have : Subsingleton S_.Idx := ⟨fun a b => funext fun x => x.elim0⟩
  have h0 := congrFun h (fun a => a.elim0)
  dsimp only [fn] at h0
  obtain ⟨h1, h2⟩ := IntOp.andi_eq_one.1 h0
  obtain ⟨h3, h4⟩ := IntOp.andi_eq_one.1 h1
  exact ⟨fun i => real_of_lt _ (Host.reduce_andi_all _ _ _ _ _ h3 i), fun i => real_of_lt _ (Host.reduce_andi_all _ _ _ _ _ h4 i), fun i => real_of_lt _ (Host.reduce_andi_all _ _ _ _ _ h2 i)⟩

end Cert.Pre_attn_finite.Read
-- ==== Proof.ExpertsRun.lean ====
/- The experts' body run on one tile, in its two cases: a live tile, which the expert's feed-forward part fills by eight interleaved
   stores, and a dead tile, which is filled with zeros. -/
module

public import proofs.«01_k».proof.Proof.Gen.Experts.Skeleton
public import proofs.«01_k».proof.Proof.Gen.Experts.Launch
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Init

@[expose] public section

set_option maxRecDepth 16384
set_option Elab.async false

noncomputable section

namespace Cert.Experts.Tile

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The logic's resources at this program's words. -/
abbrev Res := MT nD τ sig Unit (Elt Bits) ℕ (UR sig nD τ) ℕ

/-- The table of the tiles' experts, whole. -/
abbrev experts : Memref sig .tc .smem S160 .i32 := Memref.whole main_arg0
/-- The pair of counts, whole. -/
abbrev counts : Memref sig .tc .smem S2 .i32 := Memref.whole main_arg1

/-- The number of live tiles: the second of the two counts, as the body reads it. -/
abbrev live (T1 : S2.Idx → Elt Bits .i32) : BitVec 32 :=
  View.readAt (Elt Bits) counts.view (Rect.unit (s := S2) ![1] S1.size inb_S2_S1_1).toLoadRect T1 (Shape.Idx.first (numel1_S1.symm ▸ Nat.one_pos))

/-- Either a tile is before the number of live tiles or it is not: the body's second test is the first one's negation. -/
theorem other_iff (i : grid0.Coords) (w : BitVec 32) : k0_cond2 i w = 1#1 ↔ ¬ k0_cond1 i w = 1#1 := by
  unfold k0_cond1 k0_cond2
  rw [Scalar.guard_iff, Scalar.guard_iff]
  show IntOp.cmpi .sge _ _ = 1#1 ↔ ¬ IntOp.cmpi .slt _ _ = 1#1
  rw [IntOp.cmpi_sge, IntOp.cmpi_slt]
  omega

/-- What the body finds and leaves on a tile: the rows, the three weights, the two tables, and the tile's result filled piece by piece. -/
abbrev Runs (c : Dev nD) (i : grid0.Coords) (r : Memref sig .tc .vmem S4096x128 .f32) (hr : r.IsWhole) (g : Memref sig .tc .vmem S1x1x1024x256 .f32) (hg : g.IsWhole)
    (u : Memref sig .tc .vmem S1x1x1024x256 .f32) (hu : u.IsWhole) (d : Memref sig .tc .vmem S1x1x256x1024 .f32) (hd : d.IsWhole)
    (o : Memref sig .tc .vmem S4096x128 .f32) (ho : o.IsWhole) (T0 : S160.Idx → Elt Bits .i32) (T1 : S2.Idx → Elt Bits .i32)
    (x0 : S4096x128.Idx → Elt Bits .f32) (x1 : S1x1x1024x256.Idx → Elt Bits .f32) (x2 : S1x1x1024x256.Idx → Elt Bits .f32) (x3 : S1x1x256x1024.Idx → Elt Bits .f32)
    (out : List (View.Piece (Elt Bits) S4096x128 .f32)) : Prop :=
  ∀ K : PUnit → sProp Res,
    iprop((r.view.loc (c : Thread nD τ) ↦[r.view.set]{fullShare} r.view.rep x0)
      ∗ (g.view.loc (c : Thread nD τ) ↦[g.view.set]{fullShare} g.view.rep x1)
      ∗ (u.view.loc (c : Thread nD τ) ↦[u.view.set]{fullShare} u.view.rep x2)
      ∗ (d.view.loc (c : Thread nD τ) ↦[d.view.set]{fullShare} d.view.rep x3)
      ∗ (experts.view.loc (c : Thread nD τ) ↦{fullShare.right} T0)
      ∗ (counts.view.loc (c : Thread nD τ) ↦{fullShare.right} T1)
      ∗ (∃ d, owns (c : Thread nD τ) o fullShare d)
      ∗ (iprop((r.view.loc (c : Thread nD τ) ↦[r.view.set]{fullShare} r.view.rep x0)
          ∗ (g.view.loc (c : Thread nD τ) ↦[g.view.set]{fullShare} g.view.rep x1)
          ∗ (u.view.loc (c : Thread nD τ) ↦[u.view.set]{fullShare} u.view.rep x2)
          ∗ (d.view.loc (c : Thread nD τ) ↦[d.view.set]{fullShare} d.view.rep x3)
          ∗ (experts.view.loc (c : Thread nD τ) ↦{fullShare.right} T0)
          ∗ (counts.view.loc (c : Thread nD τ) ↦{fullShare.right} T1)
          ∗ (∃ f, o.view.loc (c : Thread nD τ) ↦[o.view.set]{fullShare} o.view.writes (Elt Bits) f out)) -∗ K ⟨⟩))
      ⊢ wp frame (wpE (defs₀ (F := Bits)) Variants.none c none) Set.univ (cc0_moe_experts i experts (Memref.isWhole_whole _) counts (Memref.isWhole_whole _) r hr g hg u hu d hd o ho) K

set_option backward.proofsInPublic true in
set_option maxHeartbeats 8000000 in
/-- The dead tile: the pieces are one store of zeros. -/
noncomputable def dead (c : Dev nD) (i : grid0.Coords) (r : Memref sig .tc .vmem S4096x128 .f32) (hr : r.IsWhole) (g : Memref sig .tc .vmem S1x1x1024x256 .f32) (hg : g.IsWhole)
    (u : Memref sig .tc .vmem S1x1x1024x256 .f32) (hu : u.IsWhole) (d : Memref sig .tc .vmem S1x1x256x1024 .f32) (hd : d.IsWhole)
    (o : Memref sig .tc .vmem S4096x128 .f32) (ho : o.IsWhole) (T0 : S160.Idx → Elt Bits .i32) (T1 : S2.Idx → Elt Bits .i32)
    (x0 : S4096x128.Idx → Elt Bits .f32) (x1 : S1x1x1024x256.Idx → Elt Bits .f32) (x2 : S1x1x1024x256.Idx → Elt Bits .f32) (x3 : S1x1x256x1024.Idx → Elt Bits .f32)
    (h1 : ¬ k0_cond1 i (live T1) = 1#1) (h2 : k0_cond2 i (live T1) = 1#1) :
    { out : List (View.Piece (Elt Bits) S4096x128 .f32) // Runs c i r hr g hg u hu d hd o ho T0 T1 x0 x1 x2 x3 out } :=
  ⟨_, fun K => by
    unfold owns
    rw [cc0_moe_experts_eq_skeleton]; unfold cc0_moe_experts_skel
    iintro ⟨H0, H1, H2, H3, HT0, HT1, ⟨%d4, %f4, -, HO4⟩, Hk⟩
    have hT0 : experts.IsWhole := Memref.isWhole_whole _
    have hT1 : counts.IsWhole := Memref.isWhole_whole _
    sl_exec! (disch := first | (guard_target = ¬(k0_cond1 _ _ = _); exact h1) | (guard_target = k0_cond2 _ _ = _; exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

set_option backward.proofsInPublic true in
set_option maxHeartbeats 16000000 in
/-- The live tile: the pieces are the eight interleaved stores of the expert's rows. -/
noncomputable def full (c : Dev nD) (i : grid0.Coords) (r : Memref sig .tc .vmem S4096x128 .f32) (hr : r.IsWhole) (g : Memref sig .tc .vmem S1x1x1024x256 .f32) (hg : g.IsWhole)
    (u : Memref sig .tc .vmem S1x1x1024x256 .f32) (hu : u.IsWhole) (d : Memref sig .tc .vmem S1x1x256x1024 .f32) (hd : d.IsWhole)
    (o : Memref sig .tc .vmem S4096x128 .f32) (ho : o.IsWhole) (T0 : S160.Idx → Elt Bits .i32) (T1 : S2.Idx → Elt Bits .i32)
    (x0 : S4096x128.Idx → Elt Bits .f32) (x1 : S1x1x1024x256.Idx → Elt Bits .f32) (x2 : S1x1x1024x256.Idx → Elt Bits .f32) (x3 : S1x1x256x1024.Idx → Elt Bits .f32)
    (h1 : k0_cond1 i (live T1) = 1#1) (h2 : ¬ k0_cond2 i (live T1) = 1#1) :
    { out : List (View.Piece (Elt Bits) S4096x128 .f32) // Runs c i r hr g hg u hu d hd o ho T0 T1 x0 x1 x2 x3 out } :=
  ⟨_, fun K => by
    unfold owns
    rw [cc0_moe_experts_eq_skeleton]; unfold cc0_moe_experts_skel
    rw [k0_part1_eq_skeleton]; unfold k0_part1_skel
    iintro ⟨H0, H1, H2, H3, HT0, HT1, ⟨%d4, %f4, -, HO4⟩, Hk⟩
    have hT0 : experts.IsWhole := Memref.isWhole_whole _
    have hT1 : counts.IsWhole := Memref.isWhole_whole _
    sl_exec! (disch := first | (guard_target = k0_cond1 _ _ = _; exact h1) | (guard_target = ¬(k0_cond2 _ _ = _); exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

end Cert.Experts.Tile

end
-- ==== Proof.ExpertsFrame.lean ====
/- The experts' call as a whole, at whatever the two tables say: every table of experts within range gives a pipeline whose blocks lie inside
   their arrays, whose body fills one tile a point, and whose final memory is the tiles in place and every argument unchanged. -/
module

public import proofs.«01_k».proof.Proof.ExpertsRun
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Adequacy

@[expose] public section

set_option maxRecDepth 16384
set_option Elab.async false

noncomputable section

namespace Cert.Experts.Tile

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the staging rounds, embedded whole. -/
abbrev emb : Emb (UR sig nD τ) Res := emb₁

/-- Two tables, the first one's experts among the 32 there are. -/
structure Tables where
  /-- Each tile's expert. -/
  te : S160.Idx → Elt Bits .i32
  /-- The two counts. -/
  cnt : S2.Idx → Elt Bits .i32
  /-- Every tile's expert is one of the 32. -/
  range : ∀ x, (show BitVec 32 from te x).toNat < 32

variable (T : Tables)

/-- The prefetched contents that the tables are. -/
def held : pre0.Contents (Elt Bits) := fun | ⟨0, _⟩ => T.te | ⟨1, _⟩ => T.cnt | ⟨_ + 2, h⟩ => absurd h (by simp)

/-- Four axes' bounds, one by one. -/
theorem four {f g h : Fin 4 → ℕ} (h0 : (f 0 + 1) * g 0 ≤ h 0) (h1 : (f 1 + 1) * g 1 ≤ h 1) (h2 : (f 2 + 1) * g 2 ≤ h 2) (h3 : (f 3 + 1) * g 3 ≤ h 3) :
    ∀ a, (f a + 1) * g a ≤ h a := by
  intro a; fin_cases a
  · exact h0
  · exact h1
  · exact h2
  · exact h3

/-- A tile's gate weights lie inside their array. -/
theorem inside1 (i : grid0.Coords) : ∀ a, (cc0_transform_1 k0_off1_inb numel1_S1 (held T) i a + 1) * S1x1x1024x256.size a ≤ S4x32x1024x256.size a := by
  refine four (show (0 + 1) * 1 ≤ 4 by decide) ?_ (show (0 + 1) * 1024 ≤ 1024 by decide) (show (0 + 1) * 256 ≤ 256 by decide)
  show ((show BitVec 32 from T.te _).toNat + 1) * 1 ≤ 32
  have := T.range ((Rect.unit (s := S160) ![(Scalar.indexCast (BitVec.ofNat 32 (i 0).val)).toNat] S1.size (k0_off1_inb i)).emb (Shape.Idx.first (numel1_S1.symm ▸ Nat.one_pos)))
  rw [Nat.mul_one]
  exact this

/-- A tile's output weights lie inside their array. -/
theorem inside3 (i : grid0.Coords) : ∀ a, (cc0_transform_3 k0_off1_inb numel1_S1 (held T) i a + 1) * S1x1x256x1024.size a ≤ S4x32x256x1024.size a := by
  refine four (show (0 + 1) * 1 ≤ 4 by decide) ?_ (show (0 + 1) * 256 ≤ 256 by decide) (show (0 + 1) * 1024 ≤ 1024 by decide)
  show ((show BitVec 32 from T.te _).toNat + 1) * 1 ≤ 32
  have := T.range ((Rect.unit (s := S160) ![(Scalar.indexCast (BitVec.ofNat 32 (i 0).val)).toNat] S1.size (k0_off1_inb i)).emb (Shape.Idx.first (numel1_S1.symm ▸ Nat.one_pos)))
  rw [Nat.mul_one]
  exact this

/-- Every block of the pipeline at the tables lies inside its array. -/
theorem ok : ok0 (F := Bits) (held T) := ⟨fun i => ⟨inside1 T i, .inl rfl⟩, fun i => ⟨inside1 T i, .inl rfl⟩, fun i => ⟨inside3 T i, .inl rfl⟩⟩

/-- The tables as contents that the pipeline admits, -/
def adm : (pcfg0 (F := Bits)).Adm := ⟨held T, ok T⟩
/-- and the pipeline at them. -/
abbrev cfg : Pipeline.Cfg sig Λ₀ := cfg0 (F := Bits) (adm T)
/-- The program's one pipeline at them. -/
abbrev pcs : Fin 1 → Pipeline.Cfg sig Λ₀ := Pipeline.pin (pcfgs (F := Bits)) fun _ => adm T

variable (m : (ℓ : Loc nD τ sig) → Buf (Elt Bits) ℓ) (ρ : Dev nD → PrngReg)

/-- A point's coordinate. -/
abbrev crd (t : Fin (cfg T).N) : (cfg T).grid.Coords := (cfg T).grid.coords t

/-- The rows' staging buffer at a point, whole. -/
abbrev b0 (t : Fin (cfg T).N) : Memref sig .tc .vmem S4096x128 .f32 := spec0_0.stage ((cfg T).slots t (0 : Fin 5))
abbrev w0 (t : Fin (cfg T).N) : (b0 T t).IsWhole := hstage0_0 (((cfg T).slots t (0 : Fin 5)).cast nbuf0_0)
/-- The gate weights'. -/
abbrev b1 (t : Fin (cfg T).N) : Memref sig .tc .vmem S1x1x1024x256 .f32 := spec0_1.stage ((cfg T).slots t (1 : Fin 5))
abbrev w1 (t : Fin (cfg T).N) : (b1 T t).IsWhole := hstage0_1 (((cfg T).slots t (1 : Fin 5)).cast nbuf0_1)
/-- The up weights'. -/
abbrev b2 (t : Fin (cfg T).N) : Memref sig .tc .vmem S1x1x1024x256 .f32 := spec0_2.stage ((cfg T).slots t (2 : Fin 5))
abbrev w2 (t : Fin (cfg T).N) : (b2 T t).IsWhole := hstage0_2 (((cfg T).slots t (2 : Fin 5)).cast nbuf0_2)
/-- The output weights'. -/
abbrev b3 (t : Fin (cfg T).N) : Memref sig .tc .vmem S1x1x256x1024 .f32 := spec0_3.stage ((cfg T).slots t (3 : Fin 5))
abbrev w3 (t : Fin (cfg T).N) : (b3 T t).IsWhole := hstage0_3 (((cfg T).slots t (3 : Fin 5)).cast nbuf0_3)
/-- The result's. -/
abbrev b4 (t : Fin (cfg T).N) : Memref sig .tc .vmem S4096x128 .f32 := spec0_4.stage ((cfg T).slots t (4 : Fin 5))
abbrev w4 (t : Fin (cfg T).N) : (b4 T t).IsWhole := hstage0_4 (((cfg T).slots t (4 : Fin 5)).cast nbuf0_4)

/-- A window's block at a point, read off its array at the start. -/
def blk (c : Dev nD) (w : Fin (cfg T).W) (t : Fin (cfg T).N) : (((cfg T).win w).xblock (crd T t)).Idx → Elt Bits ((cfg T).win w).elt :=
  (((cfg T).win w).blk t).view.read (Elt Bits) ((s₀ m ρ).mem (((cfg T).win w).arr.view.loc (c : Thread nD τ)))

/-- What the body stores into the result's staging buffer at a point, piece by piece. -/
def pieces (c : Dev nD) (t : Fin (cfg T).N) : List (View.Piece (Elt Bits) S4096x128 .f32) :=
  if h : k0_cond1 (crd T t) (live T.cnt) = 1#1 then
    (full c (crd T t) (b0 T t) (w0 T t) (b1 T t) (w1 T t) (b2 T t) (w2 T t) (b3 T t) (w3 T t) (b4 T t) (w4 T t) T.te T.cnt
      (blk T m ρ c (0 : Fin 5) t) (blk T m ρ c (1 : Fin 5) t) (blk T m ρ c (2 : Fin 5) t) (blk T m ρ c (3 : Fin 5) t) h (fun h2 => (other_iff _ _).1 h2 h)).1
  else
    (dead c (crd T t) (b0 T t) (w0 T t) (b1 T t) (w1 T t) (b2 T t) (w2 T t) (b3 T t) (w3 T t) (b4 T t) (w4 T t) T.te T.cnt
      (blk T m ρ c (0 : Fin 5) t) (blk T m ρ c (1 : Fin 5) t) (blk T m ρ c (2 : Fin 5) t) (blk T m ρ c (3 : Fin 5) t) h ((other_iff _ _).2 h)).1

/-- The body runs at every point, whatever its case, and leaves the pieces. -/
theorem runs (c : Dev nD) (t : Fin (cfg T).N) :
    Runs c (crd T t) (b0 T t) (w0 T t) (b1 T t) (w1 T t) (b2 T t) (w2 T t) (b3 T t) (w3 T t) (b4 T t) (w4 T t) T.te T.cnt
      (blk T m ρ c (0 : Fin 5) t) (blk T m ρ c (1 : Fin 5) t) (blk T m ρ c (2 : Fin 5) t) (blk T m ρ c (3 : Fin 5) t) (pieces T m ρ c t) := by
  unfold pieces
  split
  · exact (full c (crd T t) (b0 T t) (w0 T t) (b1 T t) (w1 T t) (b2 T t) (w2 T t) (b3 T t) (w3 T t) (b4 T t) (w4 T t) T.te T.cnt _ _ _ _ _ _).2
  · exact (dead c (crd T t) (b0 T t) (w0 T t) (b1 T t) (w1 T t) (b2 T t) (w2 T t) (b3 T t) (w3 T t) (b4 T t) (w4 T t) T.te T.cnt _ _ _ _ _ _).2

/-- A list of pieces which, whatever else, lie at the eight residues of the rows and have all of a residue's rows. -/
theorem cover_rows (L : List (View.Piece (Elt Bits) S4096x128 .f32))
    (h : ∀ k : Fin 8, ∃ p ∈ L, (p.1.off = ![k.val, 0] ∧ p.1.stride = ![8, 1] ∧ p.1.size = ![512, 128])) (y : S4096x128.Idx) : ∃ p ∈ L, y ∈ p.1.set := by
  have hy0 : (y 0).val < 4096 := (y 0).isLt
  have hy1 : (y 1).val < 128 := (y 1).isLt
  obtain ⟨p, hp, ho, hs, hz⟩ := h ⟨(y 0).val % 8, Nat.mod_lt _ (by decide)⟩
  refine ⟨p, hp, ?_⟩
  rw [LoadRect.mem_set]
  intro a
  rw [ho, hs, hz]
  fin_cases a
  · refine ⟨(y 0).val / 8, ?_, ?_⟩
    · show (y 0).val / 8 < 512
      omega
    · show (y 0).val = (y 0).val % 8 + 8 * ((y 0).val / 8)
      omega
  · refine ⟨(y 1).val, hy1, ?_⟩
    show (y 1).val = 0 + 1 * (y 1).val
    omega

/-- The pieces fill the tile. -/
theorem cover (c : Dev nD) (t : Fin (cfg T).N) (y : S4096x128.Idx) : ∃ p ∈ pieces T m ρ c t, y ∈ p.1.set := by
  unfold pieces
  split
  · refine cover_rows _ (fun k => ?_) y
    fin_cases k
    · exact ⟨_, .tail _ (.tail _ (.tail _ (.tail _ (.tail _ (.tail _ (.tail _ (.head _))))))), rfl, rfl, rfl⟩
    · exact ⟨_, .tail _ (.tail _ (.tail _ (.tail _ (.tail _ (.tail _ (.head _)))))), rfl, rfl, rfl⟩
    · exact ⟨_, .tail _ (.tail _ (.tail _ (.tail _ (.tail _ (.head _))))), rfl, rfl, rfl⟩
    · exact ⟨_, .tail _ (.tail _ (.tail _ (.tail _ (.head _)))), rfl, rfl, rfl⟩
    · exact ⟨_, .tail _ (.tail _ (.tail _ (.head _))), rfl, rfl, rfl⟩
    · exact ⟨_, .tail _ (.tail _ (.head _)), rfl, rfl, rfl⟩
    · exact ⟨_, .tail _ (.head _), rfl, rfl, rfl⟩
    · exact ⟨_, .head _, rfl, rfl, rfl⟩
  · exact View.cover_of_tiledL _ S4096x128.size (by sl_kernel_rfl) y

/-- A staging buffer of the result, through which its contents are told. -/
abbrev spare : View sig .tc .vmem S4096x128 .f32 := (Memref.whole cc0_stg4_0 : Memref sig .tc .vmem S4096x128 .f32).view

/-- What a point leaves of its tile. -/
def tile (c : Dev nD) (t : Fin (cfg T).N) : S4096x128.Idx → Elt Bits .f32 :=
  spare.read (Elt Bits) (spare.writes (Elt Bits) spare.junk (pieces T m ρ c t))

/-- What the pipeline's data are on a core: the inputs' blocks stay, the result's is the tile, and the body keeps half of each table. -/
def dats (_ : Fin 1) (c : Dev nD) : Dat τ (Elt Bits) Unit ℕ (UR sig nD τ) ℕ (cfg T) c where
  A w := (s₀ m ρ).mem (((cfg T).win w).arr.view.loc (c : Thread nD τ))
  after w t := match w with
    | ⟨0, _⟩ => blk T m ρ c (0 : Fin 5) t
    | ⟨1, _⟩ => blk T m ρ c (1 : Fin 5) t
    | ⟨2, _⟩ => blk T m ρ c (2 : Fin 5) t
    | ⟨3, _⟩ => blk T m ρ c (3 : Fin 5) t
    | ⟨4, _⟩ => tile T m ρ c t
  Φ _ := iprop((experts.view.loc (c : Thread nD τ) ↦{fullShare.right} T.te) ∗ (counts.view.loc (c : Thread nD τ) ↦{fullShare.right} T.cnt))
  q _ := fullShare
  owed _ := 0

/-- What the body leaves in each staging buffer: the inputs' blocks, and the tile. -/
theorem after0 (c : Dev nD) (t : Fin (cfg T).N) : (dats T m ρ 0 c).after (0 : Fin 5) t = blk T m ρ c (0 : Fin 5) t := rfl
theorem after1 (c : Dev nD) (t : Fin (cfg T).N) : (dats T m ρ 0 c).after (1 : Fin 5) t = blk T m ρ c (1 : Fin 5) t := rfl
theorem after2 (c : Dev nD) (t : Fin (cfg T).N) : (dats T m ρ 0 c).after (2 : Fin 5) t = blk T m ρ c (2 : Fin 5) t := rfl
theorem after3 (c : Dev nD) (t : Fin (cfg T).N) : (dats T m ρ 0 c).after (3 : Fin 5) t = blk T m ρ c (3 : Fin 5) t := rfl
theorem after4 (c : Dev nD) (t : Fin (cfg T).N) : (dats T m ρ 0 c).after (4 : Fin 5) t = tile T m ρ c t := rfl

/-- An input's staging buffer holds its block when the body runs: the rows', -/
theorem before0 (c : Dev nD) (t : Fin (cfg T).N) (d) : (dats T m ρ 0 c).before (0 : Fin 5) t d = blk T m ρ c (0 : Fin 5) t :=
  ((dats T m ρ 0 c).before_in_eq_fetched (0 : Fin 5) rfl (fun _ => rfl) (fun _ _ _ => rfl) (fun t => by rw [after0]; unfold Dat.blockOf blk; rfl) t d).trans
    (by unfold Dat.fetched Dat.blockOf blk; rfl)
/-- the gate weights', -/
theorem before1 (c : Dev nD) (t : Fin (cfg T).N) (d) : (dats T m ρ 0 c).before (1 : Fin 5) t d = blk T m ρ c (1 : Fin 5) t :=
  ((dats T m ρ 0 c).before_in_eq_fetched (1 : Fin 5) rfl (fun _ => rfl) (fun _ _ _ => rfl) (fun t => by rw [after1]; unfold Dat.blockOf blk; rfl) t d).trans
    (by unfold Dat.fetched Dat.blockOf blk; rfl)
/-- the up weights', -/
theorem before2 (c : Dev nD) (t : Fin (cfg T).N) (d) : (dats T m ρ 0 c).before (2 : Fin 5) t d = blk T m ρ c (2 : Fin 5) t :=
  ((dats T m ρ 0 c).before_in_eq_fetched (2 : Fin 5) rfl (fun _ => rfl) (fun _ _ _ => rfl) (fun t => by rw [after2]; unfold Dat.blockOf blk; rfl) t d).trans
    (by unfold Dat.fetched Dat.blockOf blk; rfl)
/-- and the output weights'. -/
theorem before3 (c : Dev nD) (t : Fin (cfg T).N) (d) : (dats T m ρ 0 c).before (3 : Fin 5) t d = blk T m ρ c (3 : Fin 5) t :=
  ((dats T m ρ 0 c).before_in_eq_fetched (3 : Fin 5) rfl (fun _ => rfl) (fun _ _ _ => rfl) (fun t => by rw [after3]; unfold Dat.blockOf blk; rfl) t d).trans
    (by unfold Dat.fetched Dat.blockOf blk; rfl)

/-- The count of live tiles as the pipeline reads it and as the body does. -/
theorem live_eq : (held T).atD 1 ![1] = live T.cnt := rfl

/-- The body stores into the result's staging buffer at every point. -/
theorem busy (t : Fin (cfg T).N) : (cfg T).idle (4 : Fin 5) ((cfg T).grid.coords t) = false := by
  show (!(k0_cond1 (crd T t) ((held T).atD 1 ![1]) == 1#1) && !(k0_cond2 (crd T t) ((held T).atD 1 ![1]) == 1#1)) = false
  by_cases h : k0_cond1 (crd T t) ((held T).atD 1 ![1]) = 1#1
  · simp [h]
  · simp [h, (other_iff _ _).2 h]

/-- The body at a point, on its staging buffers. -/
abbrev bodyAt (t : Fin (cfg T).N) : Prog (TpuEff nD τ sig (Elt Bits) Λ₀ .tc) PUnit :=
  cc0_moe_experts (crd T t) experts (Memref.isWhole_whole _) counts (Memref.isWhole_whole _) (b0 T t) (w0 T t) (b1 T t) (w1 T t) (b2 T t) (w2 T t) (b3 T t) (w3 T t) (b4 T t) (w4 T t)

set_option maxHeartbeats 4000000 in
/-- The body keeps the pipeline's bargain at every point. -/
theorem sound (c : Dev nD) (t : Fin (cfg T).N) :
    iprop((dats T m ρ 0 c).Φ t.castSucc ∗ (dats T m ρ 0 c).owesAt () t.castSucc
        ∗ (∃ d, owns (c : Thread nD τ) (b0 T t) fullShare ((dats T m ρ 0 c).before (0 : Fin 5) t d))
        ∗ (∃ d, owns (c : Thread nD τ) (b1 T t) fullShare ((dats T m ρ 0 c).before (1 : Fin 5) t d))
        ∗ (∃ d, owns (c : Thread nD τ) (b2 T t) fullShare ((dats T m ρ 0 c).before (2 : Fin 5) t d))
        ∗ (∃ d, owns (c : Thread nD τ) (b3 T t) fullShare ((dats T m ρ 0 c).before (3 : Fin 5) t d))
        ∗ (∃ d, owns (c : Thread nD τ) (b4 T t) fullShare ((dats T m ρ 0 c).before (4 : Fin 5) t d)))
      ⊢ wp frame (wpE (defs₀ (F := Bits)) Variants.none c none) Set.univ (bodyAt T t) fun _ =>
          iprop((dats T m ρ 0 c).Φ t.succ ∗ (dats T m ρ 0 c).owesAt () t.succ
            ∗ bigSep Finset.univ fun w : Fin (cfg T).W =>
                match (cfg T).idle w ((cfg T).grid.coords t) with
                | true =>
                  match ((cfg T).win w).flush t with
                  | false => iprop(∃ d, owns (c : Thread nD τ) (((cfg T).win w).stage ((cfg T).slots t w)) fullShare ((dats T m ρ 0 c).before w t d))
                  | true => owns (c : Thread nD τ) (((cfg T).win w).stage ((cfg T).slots t w)) fullShare ((dats T m ρ 0 c).after w t)
                | false => owns (c : Thread nD τ) (((cfg T).win w).stage ((cfg T).slots t w)) fullShare ((dats T m ρ 0 c).after w t)) := by
  rw [bigSep_W0]
  rewrite [busy T t]
  simp only [before0, before1, before2, before3, after0, after1, after2, after3, after4]
  rewrite [show (dats T m ρ 0 c).Φ t.succ = (dats T m ρ 0 c).Φ t.castSucc from rfl,
    show (dats T m ρ 0 c).owesAt () t.succ = (dats T m ρ 0 c).owesAt () t.castSucc from rfl,
    show (dats T m ρ 0 c).Φ t.castSucc = iprop((experts.view.loc (c : Thread nD τ) ↦{fullShare.right} T.te) ∗ (counts.view.loc (c : Thread nD τ) ↦{fullShare.right} T.cnt)) from rfl]
  iintro ⟨⟨HT0, HT1⟩, Ho, ⟨%d0, H0⟩, ⟨%d1, H1⟩, ⟨%d2, H2⟩, ⟨%d3, H3⟩, ⟨%d4, H4⟩⟩
  iapply (runs T m ρ c t _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  iintro ⟨H0, H1, H2, H3, HT0, HT1, ⟨%e4, H4⟩⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact View.read_writes_of_cover _ _ _ _ _ (cover T m ρ c t)

/-- The same, as the pipeline asks for it. -/
theorem obligation (c : Dev nD) : BodyObligation (dats T m ρ 0 c) (defs₀ (F := Bits)) Variants.none () Set.univ := fun t => by
  rw [bigSep_W0]
  exact sound T m ρ c t

/-- The start of the staging rounds. -/
def start : UR sig nD τ :=
  initOf (Pipeline.cells (pcs T) ((launch0 (F := Bits)).cellOf_inj fun _ => adm T))
    (Pipeline.launchToks (pcs T) ((launch0 (F := Bits)).cellOf_inj fun _ => adm T))

/-- Each array is the pipeline's own. -/
theorem share_eq (c : Dev nD) (w : Fin (cfg T).W) : (dats T m ρ 0 c).share w = fullShare := by unfold Dat.share; split <;> rfl

/-- The tables, one by one. -/
theorem held_eq (c : Dev nD) (q : Fin 2 → PosShare TreeShare) (v : pre0.Contents (Elt Bits)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The body's halves of the tables are there at the first point, -/
theorem enter (c : Dev nD) :
    iprop(BI.emp ∗ Pipeline.prefHeld pre0 c (fun _ => fullShare.right) (adm T).1 ∗ Pipeline.scopedRest spec0 c) ⊢ (dats T m ρ 0 c).Φ 0 := by
  rw [held_eq, scopedRest0_eq, show (dats T m ρ 0 c).Φ 0 = iprop((experts.view.loc (c : Thread nD τ) ↦{fullShare.right} T.te) ∗ (counts.view.loc (c : Thread nD τ) ↦{fullShare.right} T.cnt)) from rfl]
  iintro ⟨-, ⟨HT0, HT1⟩, -⟩
  isplitl [HT0]
  · iexact HT0
  iexact HT1

/-- and are let go at the last. -/
theorem leave (c : Dev nD) : (dats T m ρ 0 c).Φ (Fin.last (cfg T).N) ⊢ iprop(BI.emp ∗ Pipeline.scopedRest spec0 c) := by
  rw [scopedRest0_eq]
  iintro -
  isplitr; · iempintro
  iempintro

/-- The memory holds the tables. -/
def Holds : Prop := (∀ c : Dev nD, m ((c : Thread nD τ).loc main_arg0) = T.te) ∧ (∀ c : Dev nD, m ((c : Thread nD τ).loc main_arg1) = T.cnt)

/-- What is true at the end: every array is as the tiles leave it, and the tables are unchanged. -/
def Post : PUnit × MemSt nD τ sig (Elt Bits) → Prop := fun r =>
  ∀ c : Dev nD, (∀ w : Fin (cfg T).W, r.2.mem (((cfg T).win w).arr.view.loc (c : Thread nD τ)) = (dats T m ρ 0 c).arrAt w (cfg T).N)
    ∧ ∀ j, r.2.mem ((c : Thread nD τ).loc (pre0.ref j)) = (adm T).1 j

/-- The tables in memory are the admitted contents. -/
theorem tables_eq (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a memory that holds the tables the call runs to that end, every semaphore at zero. -/
theorem run (hp : Holds T m) : θ_run (defs (F := Bits)) (onTc (τ := τ) (main (F := Bits))) (s₀ m ρ) (fun r => Post T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre emb defs₀ Variants.none m ρ main
    (hbody := fun c => (obligation T m ρ c).loose) (hne := (launch0 (F := Bits)).block_pos)
    (harr := (launch0 (F := Bits)).arr_whole) (hstage := (launch0 (F := Bits)).stage_whole) (howed := fun _ _ => rfl)
    (u₀ := start T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := tables_eq T m hp)
    (X := fun _ => iprop(emp)) (Y := fun _ => iprop(emp)) (Z := fun _ => iprop(emp))
    (hX := fun c => by rw [unscopedRestP0_eq]; iintro -; isplitr <;> iempintro)
    (hin := enter T m ρ)
    (hout := leave T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- At the end the arguments are what they were. -/
theorem kept (hp : Holds T m) (r : PUnit × MemSt nD τ sig (Elt Bits)) (h : Post T m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩

end Cert.Experts.Tile

end
-- ==== Proof.ExpertsIdealRun.lean ====
/- The experts' body run on one tile, in its two cases: a live tile, which the expert's feed-forward part fills by eight interleaved
   stores, and a dead tile, which is filled with zeros. -/
module

public import proofs.«01_k».proof.Proof.Gen.ExpertsIdeal.Skeleton
public import proofs.«01_k».proof.Proof.Gen.ExpertsIdeal.Launch
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Init

@[expose] public section

set_option maxRecDepth 16384
set_option Elab.async false

noncomputable section

namespace Cert.ExpertsIdeal.Tile

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The logic's resources at this program's words. -/
abbrev Res := MT nD τ sig Unit (Elt Ideal) ℕ (UR sig nD τ) ℕ

/-- The table of the tiles' experts, whole. -/
abbrev experts : Memref sig .tc .smem S160 .i32 := Memref.whole main_arg0
/-- The pair of counts, whole. -/
abbrev counts : Memref sig .tc .smem S2 .i32 := Memref.whole main_arg1

/-- The number of live tiles: the second of the two counts, as the body reads it. -/
abbrev live (T1 : S2.Idx → Elt Ideal .i32) : BitVec 32 :=
  View.readAt (Elt Ideal) counts.view (Rect.unit (s := S2) ![1] S1.size inb_S2_S1_1).toLoadRect T1 (Shape.Idx.first (numel1_S1.symm ▸ Nat.one_pos))

/-- Either a tile is before the number of live tiles or it is not: the body's second test is the first one's negation. -/
theorem other_iff (i : grid0.Coords) (w : BitVec 32) : k0_cond2 i w = 1#1 ↔ ¬ k0_cond1 i w = 1#1 := by
  unfold k0_cond1 k0_cond2
  rw [Scalar.guard_iff, Scalar.guard_iff]
  show IntOp.cmpi .sge _ _ = 1#1 ↔ ¬ IntOp.cmpi .slt _ _ = 1#1
  rw [IntOp.cmpi_sge, IntOp.cmpi_slt]
  omega

/-- What the body finds and leaves on a tile: the rows, the three weights, the two tables, and the tile's result filled piece by piece. -/
abbrev Runs (c : Dev nD) (i : grid0.Coords) (r : Memref sig .tc .vmem S4096x128 .f32) (hr : r.IsWhole) (g : Memref sig .tc .vmem S1x1x1024x256 .f32) (hg : g.IsWhole)
    (u : Memref sig .tc .vmem S1x1x1024x256 .f32) (hu : u.IsWhole) (d : Memref sig .tc .vmem S1x1x256x1024 .f32) (hd : d.IsWhole)
    (o : Memref sig .tc .vmem S4096x128 .f32) (ho : o.IsWhole) (T0 : S160.Idx → Elt Ideal .i32) (T1 : S2.Idx → Elt Ideal .i32)
    (x0 : S4096x128.Idx → Elt Ideal .f32) (x1 : S1x1x1024x256.Idx → Elt Ideal .f32) (x2 : S1x1x1024x256.Idx → Elt Ideal .f32) (x3 : S1x1x256x1024.Idx → Elt Ideal .f32)
    (out : List (View.Piece (Elt Ideal) S4096x128 .f32)) : Prop :=
  ∀ K : PUnit → sProp Res,
    iprop((r.view.loc (c : Thread nD τ) ↦[r.view.set]{fullShare} r.view.rep x0)
      ∗ (g.view.loc (c : Thread nD τ) ↦[g.view.set]{fullShare} g.view.rep x1)
      ∗ (u.view.loc (c : Thread nD τ) ↦[u.view.set]{fullShare} u.view.rep x2)
      ∗ (d.view.loc (c : Thread nD τ) ↦[d.view.set]{fullShare} d.view.rep x3)
      ∗ (experts.view.loc (c : Thread nD τ) ↦{fullShare.right} T0)
      ∗ (counts.view.loc (c : Thread nD τ) ↦{fullShare.right} T1)
      ∗ (∃ d, owns (c : Thread nD τ) o fullShare d)
      ∗ (iprop((r.view.loc (c : Thread nD τ) ↦[r.view.set]{fullShare} r.view.rep x0)
          ∗ (g.view.loc (c : Thread nD τ) ↦[g.view.set]{fullShare} g.view.rep x1)
          ∗ (u.view.loc (c : Thread nD τ) ↦[u.view.set]{fullShare} u.view.rep x2)
          ∗ (d.view.loc (c : Thread nD τ) ↦[d.view.set]{fullShare} d.view.rep x3)
          ∗ (experts.view.loc (c : Thread nD τ) ↦{fullShare.right} T0)
          ∗ (counts.view.loc (c : Thread nD τ) ↦{fullShare.right} T1)
          ∗ (∃ f, o.view.loc (c : Thread nD τ) ↦[o.view.set]{fullShare} o.view.writes (Elt Ideal) f out)) -∗ K ⟨⟩))
      ⊢ wp frame (wpE (defs₀ (F := Ideal)) Variants.none c none) Set.univ (cc0_moe_experts i experts (Memref.isWhole_whole _) counts (Memref.isWhole_whole _) r hr g hg u hu d hd o ho) K

set_option backward.proofsInPublic true in
set_option maxHeartbeats 8000000 in
/-- The dead tile: the pieces are one store of zeros. -/
noncomputable def dead (c : Dev nD) (i : grid0.Coords) (r : Memref sig .tc .vmem S4096x128 .f32) (hr : r.IsWhole) (g : Memref sig .tc .vmem S1x1x1024x256 .f32) (hg : g.IsWhole)
    (u : Memref sig .tc .vmem S1x1x1024x256 .f32) (hu : u.IsWhole) (d : Memref sig .tc .vmem S1x1x256x1024 .f32) (hd : d.IsWhole)
    (o : Memref sig .tc .vmem S4096x128 .f32) (ho : o.IsWhole) (T0 : S160.Idx → Elt Ideal .i32) (T1 : S2.Idx → Elt Ideal .i32)
    (x0 : S4096x128.Idx → Elt Ideal .f32) (x1 : S1x1x1024x256.Idx → Elt Ideal .f32) (x2 : S1x1x1024x256.Idx → Elt Ideal .f32) (x3 : S1x1x256x1024.Idx → Elt Ideal .f32)
    (h1 : ¬ k0_cond1 i (live T1) = 1#1) (h2 : k0_cond2 i (live T1) = 1#1) :
    { out : List (View.Piece (Elt Ideal) S4096x128 .f32) // Runs c i r hr g hg u hu d hd o ho T0 T1 x0 x1 x2 x3 out } :=
  ⟨_, fun K => by
    unfold owns
    rw [cc0_moe_experts_eq_skeleton]; unfold cc0_moe_experts_skel
    iintro ⟨H0, H1, H2, H3, HT0, HT1, ⟨%d4, %f4, -, HO4⟩, Hk⟩
    have hT0 : experts.IsWhole := Memref.isWhole_whole _
    have hT1 : counts.IsWhole := Memref.isWhole_whole _
    sl_exec! (disch := first | (guard_target = ¬(k0_cond1 _ _ = _); exact h1) | (guard_target = k0_cond2 _ _ = _; exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

set_option backward.proofsInPublic true in
set_option maxHeartbeats 16000000 in
/-- The live tile: the pieces are the eight interleaved stores of the expert's rows. -/
noncomputable def full (c : Dev nD) (i : grid0.Coords) (r : Memref sig .tc .vmem S4096x128 .f32) (hr : r.IsWhole) (g : Memref sig .tc .vmem S1x1x1024x256 .f32) (hg : g.IsWhole)
    (u : Memref sig .tc .vmem S1x1x1024x256 .f32) (hu : u.IsWhole) (d : Memref sig .tc .vmem S1x1x256x1024 .f32) (hd : d.IsWhole)
    (o : Memref sig .tc .vmem S4096x128 .f32) (ho : o.IsWhole) (T0 : S160.Idx → Elt Ideal .i32) (T1 : S2.Idx → Elt Ideal .i32)
    (x0 : S4096x128.Idx → Elt Ideal .f32) (x1 : S1x1x1024x256.Idx → Elt Ideal .f32) (x2 : S1x1x1024x256.Idx → Elt Ideal .f32) (x3 : S1x1x256x1024.Idx → Elt Ideal .f32)
    (h1 : k0_cond1 i (live T1) = 1#1) (h2 : ¬ k0_cond2 i (live T1) = 1#1) :
    { out : List (View.Piece (Elt Ideal) S4096x128 .f32) // Runs c i r hr g hg u hu d hd o ho T0 T1 x0 x1 x2 x3 out } :=
  ⟨_, fun K => by
    unfold owns
    rw [cc0_moe_experts_eq_skeleton]; unfold cc0_moe_experts_skel
    rw [k0_part1_eq_skeleton]; unfold k0_part1_skel
    iintro ⟨H0, H1, H2, H3, HT0, HT1, ⟨%d4, %f4, -, HO4⟩, Hk⟩
    have hT0 : experts.IsWhole := Memref.isWhole_whole _
    have hT1 : counts.IsWhole := Memref.isWhole_whole _
    sl_exec! (disch := first | (guard_target = k0_cond1 _ _ = _; exact h1) | (guard_target = ¬(k0_cond2 _ _ = _); exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

end Cert.ExpertsIdeal.Tile

end
-- ==== Proof.ExpertsIdealFrame.lean ====
/- The experts' call as a whole, at whatever the two tables say: every table of experts within range gives a pipeline whose blocks lie inside
   their arrays, whose body fills one tile a point, and whose final memory is the tiles in place and every argument unchanged. -/
module

public import proofs.«01_k».proof.Proof.ExpertsIdealRun
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Adequacy

@[expose] public section

set_option maxRecDepth 16384
set_option Elab.async false

noncomputable section

namespace Cert.ExpertsIdeal.Tile

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the staging rounds, embedded whole. -/
abbrev emb : Emb (UR sig nD τ) Res := emb₁

/-- Two tables, the first one's experts among the 32 there are. -/
structure Tables where
  /-- Each tile's expert. -/
  te : S160.Idx → Elt Ideal .i32
  /-- The two counts. -/
  cnt : S2.Idx → Elt Ideal .i32
  /-- Every tile's expert is one of the 32. -/
  range : ∀ x, (show BitVec 32 from te x).toNat < 32

variable (T : Tables)

/-- The prefetched contents that the tables are. -/
def held : pre0.Contents (Elt Ideal) := fun | ⟨0, _⟩ => T.te | ⟨1, _⟩ => T.cnt | ⟨_ + 2, h⟩ => absurd h (by simp)

/-- Four axes' bounds, one by one. -/
theorem four {f g h : Fin 4 → ℕ} (h0 : (f 0 + 1) * g 0 ≤ h 0) (h1 : (f 1 + 1) * g 1 ≤ h 1) (h2 : (f 2 + 1) * g 2 ≤ h 2) (h3 : (f 3 + 1) * g 3 ≤ h 3) :
    ∀ a, (f a + 1) * g a ≤ h a := by
  intro a; fin_cases a
  · exact h0
  · exact h1
  · exact h2
  · exact h3

/-- A tile's gate weights lie inside their array. -/
theorem inside1 (i : grid0.Coords) : ∀ a, (cc0_transform_1 k0_off1_inb numel1_S1 (held T) i a + 1) * S1x1x1024x256.size a ≤ S4x32x1024x256.size a := by
  refine four (show (0 + 1) * 1 ≤ 4 by decide) ?_ (show (0 + 1) * 1024 ≤ 1024 by decide) (show (0 + 1) * 256 ≤ 256 by decide)
  show ((show BitVec 32 from T.te _).toNat + 1) * 1 ≤ 32
  have := T.range ((Rect.unit (s := S160) ![(Scalar.indexCast (BitVec.ofNat 32 (i 0).val)).toNat] S1.size (k0_off1_inb i)).emb (Shape.Idx.first (numel1_S1.symm ▸ Nat.one_pos)))
  rw [Nat.mul_one]
  exact this

/-- A tile's output weights lie inside their array. -/
theorem inside3 (i : grid0.Coords) : ∀ a, (cc0_transform_3 k0_off1_inb numel1_S1 (held T) i a + 1) * S1x1x256x1024.size a ≤ S4x32x256x1024.size a := by
  refine four (show (0 + 1) * 1 ≤ 4 by decide) ?_ (show (0 + 1) * 256 ≤ 256 by decide) (show (0 + 1) * 1024 ≤ 1024 by decide)
  show ((show BitVec 32 from T.te _).toNat + 1) * 1 ≤ 32
  have := T.range ((Rect.unit (s := S160) ![(Scalar.indexCast (BitVec.ofNat 32 (i 0).val)).toNat] S1.size (k0_off1_inb i)).emb (Shape.Idx.first (numel1_S1.symm ▸ Nat.one_pos)))
  rw [Nat.mul_one]
  exact this

/-- Every block of the pipeline at the tables lies inside its array. -/
theorem ok : ok0 (F := Ideal) (held T) := ⟨fun i => ⟨inside1 T i, .inl rfl⟩, fun i => ⟨inside1 T i, .inl rfl⟩, fun i => ⟨inside3 T i, .inl rfl⟩⟩

/-- The tables as contents that the pipeline admits, -/
def adm : (pcfg0 (F := Ideal)).Adm := ⟨held T, ok T⟩
/-- and the pipeline at them. -/
abbrev cfg : Pipeline.Cfg sig Λ₀ := cfg0 (F := Ideal) (adm T)
/-- The program's one pipeline at them. -/
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-- A point's coordinate. -/
abbrev crd (t : Fin (cfg T).N) : (cfg T).grid.Coords := (cfg T).grid.coords t

/-- The rows' staging buffer at a point, whole. -/
abbrev b0 (t : Fin (cfg T).N) : Memref sig .tc .vmem S4096x128 .f32 := spec0_0.stage ((cfg T).slots t (0 : Fin 5))
abbrev w0 (t : Fin (cfg T).N) : (b0 T t).IsWhole := hstage0_0 (((cfg T).slots t (0 : Fin 5)).cast nbuf0_0)
/-- The gate weights'. -/
abbrev b1 (t : Fin (cfg T).N) : Memref sig .tc .vmem S1x1x1024x256 .f32 := spec0_1.stage ((cfg T).slots t (1 : Fin 5))
abbrev w1 (t : Fin (cfg T).N) : (b1 T t).IsWhole := hstage0_1 (((cfg T).slots t (1 : Fin 5)).cast nbuf0_1)
/-- The up weights'. -/
abbrev b2 (t : Fin (cfg T).N) : Memref sig .tc .vmem S1x1x1024x256 .f32 := spec0_2.stage ((cfg T).slots t (2 : Fin 5))
abbrev w2 (t : Fin (cfg T).N) : (b2 T t).IsWhole := hstage0_2 (((cfg T).slots t (2 : Fin 5)).cast nbuf0_2)
/-- The output weights'. -/
abbrev b3 (t : Fin (cfg T).N) : Memref sig .tc .vmem S1x1x256x1024 .f32 := spec0_3.stage ((cfg T).slots t (3 : Fin 5))
abbrev w3 (t : Fin (cfg T).N) : (b3 T t).IsWhole := hstage0_3 (((cfg T).slots t (3 : Fin 5)).cast nbuf0_3)
/-- The result's. -/
abbrev b4 (t : Fin (cfg T).N) : Memref sig .tc .vmem S4096x128 .f32 := spec0_4.stage ((cfg T).slots t (4 : Fin 5))
abbrev w4 (t : Fin (cfg T).N) : (b4 T t).IsWhole := hstage0_4 (((cfg T).slots t (4 : Fin 5)).cast nbuf0_4)

/-- A window's block at a point, read off its array at the start. -/
def blk (c : Dev nD) (w : Fin (cfg T).W) (t : Fin (cfg T).N) : (((cfg T).win w).xblock (crd T t)).Idx → Elt Ideal ((cfg T).win w).elt :=
  (((cfg T).win w).blk t).view.read (Elt Ideal) ((s₀ m ρ).mem (((cfg T).win w).arr.view.loc (c : Thread nD τ)))

/-- What the body stores into the result's staging buffer at a point, piece by piece. -/
def pieces (c : Dev nD) (t : Fin (cfg T).N) : List (View.Piece (Elt Ideal) S4096x128 .f32) :=
  if h : k0_cond1 (crd T t) (live T.cnt) = 1#1 then
    (full c (crd T t) (b0 T t) (w0 T t) (b1 T t) (w1 T t) (b2 T t) (w2 T t) (b3 T t) (w3 T t) (b4 T t) (w4 T t) T.te T.cnt
      (blk T m ρ c (0 : Fin 5) t) (blk T m ρ c (1 : Fin 5) t) (blk T m ρ c (2 : Fin 5) t) (blk T m ρ c (3 : Fin 5) t) h (fun h2 => (other_iff _ _).1 h2 h)).1
  else
    (dead c (crd T t) (b0 T t) (w0 T t) (b1 T t) (w1 T t) (b2 T t) (w2 T t) (b3 T t) (w3 T t) (b4 T t) (w4 T t) T.te T.cnt
      (blk T m ρ c (0 : Fin 5) t) (blk T m ρ c (1 : Fin 5) t) (blk T m ρ c (2 : Fin 5) t) (blk T m ρ c (3 : Fin 5) t) h ((other_iff _ _).2 h)).1

/-- The body runs at every point, whatever its case, and leaves the pieces. -/
theorem runs (c : Dev nD) (t : Fin (cfg T).N) :
    Runs c (crd T t) (b0 T t) (w0 T t) (b1 T t) (w1 T t) (b2 T t) (w2 T t) (b3 T t) (w3 T t) (b4 T t) (w4 T t) T.te T.cnt
      (blk T m ρ c (0 : Fin 5) t) (blk T m ρ c (1 : Fin 5) t) (blk T m ρ c (2 : Fin 5) t) (blk T m ρ c (3 : Fin 5) t) (pieces T m ρ c t) := by
  unfold pieces
  split
  · exact (full c (crd T t) (b0 T t) (w0 T t) (b1 T t) (w1 T t) (b2 T t) (w2 T t) (b3 T t) (w3 T t) (b4 T t) (w4 T t) T.te T.cnt _ _ _ _ _ _).2
  · exact (dead c (crd T t) (b0 T t) (w0 T t) (b1 T t) (w1 T t) (b2 T t) (w2 T t) (b3 T t) (w3 T t) (b4 T t) (w4 T t) T.te T.cnt _ _ _ _ _ _).2

/-- A list of pieces which, whatever else, lie at the eight residues of the rows and have all of a residue's rows. -/
theorem cover_rows (L : List (View.Piece (Elt Ideal) S4096x128 .f32))
    (h : ∀ k : Fin 8, ∃ p ∈ L, (p.1.off = ![k.val, 0] ∧ p.1.stride = ![8, 1] ∧ p.1.size = ![512, 128])) (y : S4096x128.Idx) : ∃ p ∈ L, y ∈ p.1.set := by
  have hy0 : (y 0).val < 4096 := (y 0).isLt
  have hy1 : (y 1).val < 128 := (y 1).isLt
  obtain ⟨p, hp, ho, hs, hz⟩ := h ⟨(y 0).val % 8, Nat.mod_lt _ (by decide)⟩
  refine ⟨p, hp, ?_⟩
  rw [LoadRect.mem_set]
  intro a
  rw [ho, hs, hz]
  fin_cases a
  · refine ⟨(y 0).val / 8, ?_, ?_⟩
    · show (y 0).val / 8 < 512
      omega
    · show (y 0).val = (y 0).val % 8 + 8 * ((y 0).val / 8)
      omega
  · refine ⟨(y 1).val, hy1, ?_⟩
    show (y 1).val = 0 + 1 * (y 1).val
    omega

/-- The pieces fill the tile. -/
theorem cover (c : Dev nD) (t : Fin (cfg T).N) (y : S4096x128.Idx) : ∃ p ∈ pieces T m ρ c t, y ∈ p.1.set := by
  unfold pieces
  split
  · refine cover_rows _ (fun k => ?_) y
    fin_cases k
    · exact ⟨_, .tail _ (.tail _ (.tail _ (.tail _ (.tail _ (.tail _ (.tail _ (.head _))))))), rfl, rfl, rfl⟩
    · exact ⟨_, .tail _ (.tail _ (.tail _ (.tail _ (.tail _ (.tail _ (.head _)))))), rfl, rfl, rfl⟩
    · exact ⟨_, .tail _ (.tail _ (.tail _ (.tail _ (.tail _ (.head _))))), rfl, rfl, rfl⟩
    · exact ⟨_, .tail _ (.tail _ (.tail _ (.tail _ (.head _)))), rfl, rfl, rfl⟩
    · exact ⟨_, .tail _ (.tail _ (.tail _ (.head _))), rfl, rfl, rfl⟩
    · exact ⟨_, .tail _ (.tail _ (.head _)), rfl, rfl, rfl⟩
    · exact ⟨_, .tail _ (.head _), rfl, rfl, rfl⟩
    · exact ⟨_, .head _, rfl, rfl, rfl⟩
  · exact View.cover_of_tiledL _ S4096x128.size (by sl_kernel_rfl) y

/-- A staging buffer of the result, through which its contents are told. -/
abbrev spare : View sig .tc .vmem S4096x128 .f32 := (Memref.whole cc0_stg4_0 : Memref sig .tc .vmem S4096x128 .f32).view

/-- What a point leaves of its tile. -/
def tile (c : Dev nD) (t : Fin (cfg T).N) : S4096x128.Idx → Elt Ideal .f32 :=
  spare.read (Elt Ideal) (spare.writes (Elt Ideal) spare.junk (pieces T m ρ c t))

/-- What the pipeline's data are on a core: the inputs' blocks stay, the result's is the tile, and the body keeps half of each table. -/
def dats (_ : Fin 1) (c : Dev nD) : Dat τ (Elt Ideal) Unit ℕ (UR sig nD τ) ℕ (cfg T) c where
  A w := (s₀ m ρ).mem (((cfg T).win w).arr.view.loc (c : Thread nD τ))
  after w t := match w with
    | ⟨0, _⟩ => blk T m ρ c (0 : Fin 5) t
    | ⟨1, _⟩ => blk T m ρ c (1 : Fin 5) t
    | ⟨2, _⟩ => blk T m ρ c (2 : Fin 5) t
    | ⟨3, _⟩ => blk T m ρ c (3 : Fin 5) t
    | ⟨4, _⟩ => tile T m ρ c t
  Φ _ := iprop((experts.view.loc (c : Thread nD τ) ↦{fullShare.right} T.te) ∗ (counts.view.loc (c : Thread nD τ) ↦{fullShare.right} T.cnt))
  q _ := fullShare
  owed _ := 0

/-- What the body leaves in each staging buffer: the inputs' blocks, and the tile. -/
theorem after0 (c : Dev nD) (t : Fin (cfg T).N) : (dats T m ρ 0 c).after (0 : Fin 5) t = blk T m ρ c (0 : Fin 5) t := rfl
theorem after1 (c : Dev nD) (t : Fin (cfg T).N) : (dats T m ρ 0 c).after (1 : Fin 5) t = blk T m ρ c (1 : Fin 5) t := rfl
theorem after2 (c : Dev nD) (t : Fin (cfg T).N) : (dats T m ρ 0 c).after (2 : Fin 5) t = blk T m ρ c (2 : Fin 5) t := rfl
theorem after3 (c : Dev nD) (t : Fin (cfg T).N) : (dats T m ρ 0 c).after (3 : Fin 5) t = blk T m ρ c (3 : Fin 5) t := rfl
theorem after4 (c : Dev nD) (t : Fin (cfg T).N) : (dats T m ρ 0 c).after (4 : Fin 5) t = tile T m ρ c t := rfl

/-- An input's staging buffer holds its block when the body runs: the rows', -/
theorem before0 (c : Dev nD) (t : Fin (cfg T).N) (d) : (dats T m ρ 0 c).before (0 : Fin 5) t d = blk T m ρ c (0 : Fin 5) t :=
  ((dats T m ρ 0 c).before_in_eq_fetched (0 : Fin 5) rfl (fun _ => rfl) (fun _ _ _ => rfl) (fun t => by rw [after0]; unfold Dat.blockOf blk; rfl) t d).trans
    (by unfold Dat.fetched Dat.blockOf blk; rfl)
/-- the gate weights', -/
theorem before1 (c : Dev nD) (t : Fin (cfg T).N) (d) : (dats T m ρ 0 c).before (1 : Fin 5) t d = blk T m ρ c (1 : Fin 5) t :=
  ((dats T m ρ 0 c).before_in_eq_fetched (1 : Fin 5) rfl (fun _ => rfl) (fun _ _ _ => rfl) (fun t => by rw [after1]; unfold Dat.blockOf blk; rfl) t d).trans
    (by unfold Dat.fetched Dat.blockOf blk; rfl)
/-- the up weights', -/
theorem before2 (c : Dev nD) (t : Fin (cfg T).N) (d) : (dats T m ρ 0 c).before (2 : Fin 5) t d = blk T m ρ c (2 : Fin 5) t :=
  ((dats T m ρ 0 c).before_in_eq_fetched (2 : Fin 5) rfl (fun _ => rfl) (fun _ _ _ => rfl) (fun t => by rw [after2]; unfold Dat.blockOf blk; rfl) t d).trans
    (by unfold Dat.fetched Dat.blockOf blk; rfl)
/-- and the output weights'. -/
theorem before3 (c : Dev nD) (t : Fin (cfg T).N) (d) : (dats T m ρ 0 c).before (3 : Fin 5) t d = blk T m ρ c (3 : Fin 5) t :=
  ((dats T m ρ 0 c).before_in_eq_fetched (3 : Fin 5) rfl (fun _ => rfl) (fun _ _ _ => rfl) (fun t => by rw [after3]; unfold Dat.blockOf blk; rfl) t d).trans
    (by unfold Dat.fetched Dat.blockOf blk; rfl)

/-- The count of live tiles as the pipeline reads it and as the body does. -/
theorem live_eq : (held T).atD 1 ![1] = live T.cnt := rfl

/-- The body stores into the result's staging buffer at every point. -/
theorem busy (t : Fin (cfg T).N) : (cfg T).idle (4 : Fin 5) ((cfg T).grid.coords t) = false := by
  show (!(k0_cond1 (crd T t) ((held T).atD 1 ![1]) == 1#1) && !(k0_cond2 (crd T t) ((held T).atD 1 ![1]) == 1#1)) = false
  by_cases h : k0_cond1 (crd T t) ((held T).atD 1 ![1]) = 1#1
  · simp [h]
  · simp [h, (other_iff _ _).2 h]

/-- The body at a point, on its staging buffers. -/
abbrev bodyAt (t : Fin (cfg T).N) : Prog (TpuEff nD τ sig (Elt Ideal) Λ₀ .tc) PUnit :=
  cc0_moe_experts (crd T t) experts (Memref.isWhole_whole _) counts (Memref.isWhole_whole _) (b0 T t) (w0 T t) (b1 T t) (w1 T t) (b2 T t) (w2 T t) (b3 T t) (w3 T t) (b4 T t) (w4 T t)

set_option maxHeartbeats 4000000 in
/-- The body keeps the pipeline's bargain at every point. -/
theorem sound (c : Dev nD) (t : Fin (cfg T).N) :
    iprop((dats T m ρ 0 c).Φ t.castSucc ∗ (dats T m ρ 0 c).owesAt () t.castSucc
        ∗ (∃ d, owns (c : Thread nD τ) (b0 T t) fullShare ((dats T m ρ 0 c).before (0 : Fin 5) t d))
        ∗ (∃ d, owns (c : Thread nD τ) (b1 T t) fullShare ((dats T m ρ 0 c).before (1 : Fin 5) t d))
        ∗ (∃ d, owns (c : Thread nD τ) (b2 T t) fullShare ((dats T m ρ 0 c).before (2 : Fin 5) t d))
        ∗ (∃ d, owns (c : Thread nD τ) (b3 T t) fullShare ((dats T m ρ 0 c).before (3 : Fin 5) t d))
        ∗ (∃ d, owns (c : Thread nD τ) (b4 T t) fullShare ((dats T m ρ 0 c).before (4 : Fin 5) t d)))
      ⊢ wp frame (wpE (defs₀ (F := Ideal)) Variants.none c none) Set.univ (bodyAt T t) fun _ =>
          iprop((dats T m ρ 0 c).Φ t.succ ∗ (dats T m ρ 0 c).owesAt () t.succ
            ∗ bigSep Finset.univ fun w : Fin (cfg T).W =>
                match (cfg T).idle w ((cfg T).grid.coords t) with
                | true =>
                  match ((cfg T).win w).flush t with
                  | false => iprop(∃ d, owns (c : Thread nD τ) (((cfg T).win w).stage ((cfg T).slots t w)) fullShare ((dats T m ρ 0 c).before w t d))
                  | true => owns (c : Thread nD τ) (((cfg T).win w).stage ((cfg T).slots t w)) fullShare ((dats T m ρ 0 c).after w t)
                | false => owns (c : Thread nD τ) (((cfg T).win w).stage ((cfg T).slots t w)) fullShare ((dats T m ρ 0 c).after w t)) := by
  rw [bigSep_W0]
  rewrite [busy T t]
  simp only [before0, before1, before2, before3, after0, after1, after2, after3, after4]
  rewrite [show (dats T m ρ 0 c).Φ t.succ = (dats T m ρ 0 c).Φ t.castSucc from rfl,
    show (dats T m ρ 0 c).owesAt () t.succ = (dats T m ρ 0 c).owesAt () t.castSucc from rfl,
    show (dats T m ρ 0 c).Φ t.castSucc = iprop((experts.view.loc (c : Thread nD τ) ↦{fullShare.right} T.te) ∗ (counts.view.loc (c : Thread nD τ) ↦{fullShare.right} T.cnt)) from rfl]
  iintro ⟨⟨HT0, HT1⟩, Ho, ⟨%d0, H0⟩, ⟨%d1, H1⟩, ⟨%d2, H2⟩, ⟨%d3, H3⟩, ⟨%d4, H4⟩⟩
  iapply (runs T m ρ c t _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  iintro ⟨H0, H1, H2, H3, HT0, HT1, ⟨%e4, H4⟩⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact View.read_writes_of_cover _ _ _ _ _ (cover T m ρ c t)

/-- The same, as the pipeline asks for it. -/
theorem obligation (c : Dev nD) : BodyObligation (dats T m ρ 0 c) (defs₀ (F := Ideal)) Variants.none () Set.univ := fun t => by
  rw [bigSep_W0]
  exact sound T m ρ c t

/-- The start of the staging rounds. -/
def start : UR sig nD τ :=
  initOf (Pipeline.cells (pcs T) ((launch0 (F := Ideal)).cellOf_inj fun _ => adm T))
    (Pipeline.launchToks (pcs T) ((launch0 (F := Ideal)).cellOf_inj fun _ => adm T))

/-- Each array is the pipeline's own. -/
theorem share_eq (c : Dev nD) (w : Fin (cfg T).W) : (dats T m ρ 0 c).share w = fullShare := by unfold Dat.share; split <;> rfl

/-- The tables, one by one. -/
theorem held_eq (c : Dev nD) (q : Fin 2 → PosShare TreeShare) (v : pre0.Contents (Elt Ideal)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The body's halves of the tables are there at the first point, -/
theorem enter (c : Dev nD) :
    iprop(BI.emp ∗ Pipeline.prefHeld pre0 c (fun _ => fullShare.right) (adm T).1 ∗ Pipeline.scopedRest spec0 c) ⊢ (dats T m ρ 0 c).Φ 0 := by
  rw [held_eq, scopedRest0_eq, show (dats T m ρ 0 c).Φ 0 = iprop((experts.view.loc (c : Thread nD τ) ↦{fullShare.right} T.te) ∗ (counts.view.loc (c : Thread nD τ) ↦{fullShare.right} T.cnt)) from rfl]
  iintro ⟨-, ⟨HT0, HT1⟩, -⟩
  isplitl [HT0]
  · iexact HT0
  iexact HT1

/-- and are let go at the last. -/
theorem leave (c : Dev nD) : (dats T m ρ 0 c).Φ (Fin.last (cfg T).N) ⊢ iprop(BI.emp ∗ Pipeline.scopedRest spec0 c) := by
  rw [scopedRest0_eq]
  iintro -
  isplitr; · iempintro
  iempintro

/-- The memory holds the tables. -/
def Holds : Prop := (∀ c : Dev nD, m ((c : Thread nD τ).loc main_arg0) = T.te) ∧ (∀ c : Dev nD, m ((c : Thread nD τ).loc main_arg1) = T.cnt)

/-- What is true at the end: every array is as the tiles leave it, and the tables are unchanged. -/
def Post : PUnit × MemSt nD τ sig (Elt Ideal) → Prop := fun r =>
  ∀ c : Dev nD, (∀ w : Fin (cfg T).W, r.2.mem (((cfg T).win w).arr.view.loc (c : Thread nD τ)) = (dats T m ρ 0 c).arrAt w (cfg T).N)
    ∧ ∀ j, r.2.mem ((c : Thread nD τ).loc (pre0.ref j)) = (adm T).1 j

/-- The tables in memory are the admitted contents. -/
theorem tables_eq (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From a memory that holds the tables the call runs to that end, every semaphore at zero. -/
theorem run (hp : Holds T m) : θ_run (defs (F := Ideal)) (onTc (τ := τ) (main (F := Ideal))) (s₀ m ρ) (fun r => Post T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre emb defs₀ Variants.none m ρ main
    (hbody := fun c => (obligation T m ρ c).loose) (hne := (launch0 (F := Ideal)).block_pos)
    (harr := (launch0 (F := Ideal)).arr_whole) (hstage := (launch0 (F := Ideal)).stage_whole) (howed := fun _ _ => rfl)
    (u₀ := start T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := tables_eq T m hp)
    (X := fun _ => iprop(emp)) (Y := fun _ => iprop(emp)) (Z := fun _ => iprop(emp))
    (hX := fun c => by rw [unscopedRestP0_eq]; iintro -; isplitr <;> iempintro)
    (hin := enter T m ρ)
    (hout := leave T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- At the end the arguments are what they were. -/
theorem kept (hp : Holds T m) (r : PUnit × MemSt nD τ sig (Elt Ideal)) (h : Post T m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩

end Cert.ExpertsIdeal.Tile

end
-- ==== Proof.ExpertsMath.lean ====
/- One expert's feed-forward part of one row, as a sum over its hidden units. -/
module

public import Idealize.ShloMosaic.PureOps.Ideal

@[expose] public section

noncomputable section

namespace Cert.ExpertsMath

open Idealize.ShloMosaic

/-- A hidden unit: the gate, times its own sigmoid, times the other projection. -/
def gated (g u : EReal) : EReal := g * Ideal.div 1 (1 + Ideal.exp (-g)) * u

/-- One entry of a row's feed-forward part, from the row, the gate's and the other projection's weights, and the output weights' column. -/
def feed (x : Fin 1024 → EReal) (g u : Fin 1024 → Fin 256 → EReal) (d : Fin 256 → EReal) : EReal :=
  ∑ f, gated (∑ k, x k * g k f) (∑ k, x k * u k f) * d f

/-- The result's entry at a row of 128 lanes, eight of them to one of the model's rows: a tile's 4096 rows go through that tile's expert, and a tile past the live ones is zero.
    `e` is the tiles' experts, `on` the number of the live tiles, `X` the rows, `G`, `U` and `D` the experts' weights. -/
def fed (e : Fin 160 → Fin 32) (on : ℤ) (X : Fin 655360 → Fin 128 → EReal) (G U : Fin 32 → Fin 1024 → Fin 256 → EReal) (D : Fin 32 → Fin 256 → Fin 1024 → EReal)
    (p : Fin 655360) (l : Fin 128) : EReal :=
  if ((p.val / 4096 : ℕ) : ℤ) < on then
    feed (fun k => X ⟨8 * (p.val / 8) + k.val / 128, by omega⟩ ⟨k.val % 128, by omega⟩) (G (e ⟨p.val / 4096, by omega⟩)) (U (e ⟨p.val / 4096, by omega⟩))
      (fun f => D (e ⟨p.val / 4096, by omega⟩) f ⟨128 * (p.val % 8) + l.val, by omega⟩)
  else 0

section

variable (e : Fin 160 → Fin 32) (on : ℤ) (X : Fin 655360 → Fin 128 → EReal) (G U : Fin 32 → Fin 1024 → Fin 256 → EReal) (D : Fin 32 → Fin 256 → Fin 1024 → EReal)

/-- A live tile's rows. -/
theorem fed_live (i : Fin 160) (p : Fin 4096) (l : Fin 128) (h : (i.val : ℤ) < on) :
    fed e on X G U D ⟨i.val * 4096 + p.val, by omega⟩ l
      = feed (fun k => X ⟨i.val * 4096 + (8 * (p.val / 8) + k.val / 128), by omega⟩ ⟨k.val % 128, by omega⟩) (G (e i)) (U (e i)) (fun f => D (e i) f ⟨128 * (p.val % 8) + l.val, by omega⟩) := by
  have hd : (i.val * 4096 + p.val) / 4096 = i.val := by omega
  have hi : (⟨(i.val * 4096 + p.val) / 4096, by omega⟩ : Fin 160) = i := Fin.ext hd
  have hj : (⟨128 * ((i.val * 4096 + p.val) % 8) + l.val, by omega⟩ : Fin 1024) = ⟨128 * (p.val % 8) + l.val, by omega⟩ :=
    Fin.ext (by show 128 * ((i.val * 4096 + p.val) % 8) + l.val = 128 * (p.val % 8) + l.val; omega)
  have hx : (fun k : Fin 1024 => X ⟨8 * ((i.val * 4096 + p.val) / 8) + k.val / 128, by omega⟩ ⟨k.val % 128, by omega⟩)
      = fun k => X ⟨i.val * 4096 + (8 * (p.val / 8) + k.val / 128), by omega⟩ ⟨k.val % 128, by omega⟩ :=
    funext fun k => congrArg (fun a => X a _) (Fin.ext (by show 8 * ((i.val * 4096 + p.val) / 8) + k.val / 128 = i.val * 4096 + (8 * (p.val / 8) + k.val / 128); omega))
  unfold fed
  dsimp only
  rw [if_pos (by rw [hd]; exact h), hi, hj, hx]

/-- A tile past the live ones. -/
theorem fed_dead (i : Fin 160) (p : Fin 4096) (l : Fin 128) (h : ¬ (i.val : ℤ) < on) : fed e on X G U D ⟨i.val * 4096 + p.val, by omega⟩ l = 0 := by
  have hd : (i.val * 4096 + p.val) / 4096 = i.val := by omega
  unfold fed
  dsimp only
  rw [if_neg (by rw [hd]; exact h)]

end

end Cert.ExpertsMath

end
-- ==== Proof.ExpertsIdealTileAt.lean ====
/- A tile of the experts' call at an index: a live tile's entry is the expert's feed-forward part of its row, a dead one's is zero. -/
module

public import proofs.«01_k».proof.Proof.ExpertsIdealFrame
public import proofs.«01_k».proof.Proof.ExpertsMath
public import Idealize.ShloMosaic.Lib.Pipeline.ValueKit

@[expose] public section

set_option maxRecDepth 16384

noncomputable section

namespace Cert.ExpertsIdeal.Tile

open Cert.ExpertsIdeal Cert.ExpertsIdeal.Gen Idealize.ShloMosaic Idealize.ShloMosaic.TcCoe Idealize.SL.Sem Cert.ExpertsMath

/-- The output projection. -/
theorem pay1_at (v35 : FVec Ideal S512x256 .bf16) (v36 : Vec Ideal S1x1x256x1024 .f32) (r : Fin 512) (j : Fin 1024) :
    k0_pay1 v35 v36 (ix2 r j) = ∑ f : Fin 256, (v35 (ix2 r f) : EReal) * v36 (ix4 0 0 f j) := by
  pointwise [k0_pay1]

/-- Every eighth row of a block, from row `k`. -/
def every (x : S4096x128.Idx → EReal) (k : Fin 8) : Vec Ideal S512x128 .f32 := fun y => x (ix2 ⟨k.val + 8 * (y 0).val, by have : (y 0).val < 512 := (y 0).isLt; omega⟩ (y 1))

/-- A row of the model's width: eight rows of the block beside each other. -/
def wide (x : S4096x128.Idx → EReal) (r : Fin 512) (d : Fin 1024) : EReal := x (ix2 ⟨8 * r.val + d.val / 128, by omega⟩ ⟨d.val % 128, by omega⟩)

/-- One of a block's rows in a wide one. -/
theorem every_wide (x : S4096x128.Idx → EReal) (k : Fin 8) (r : Fin 512) (d : Fin 1024) (e : Fin 128) (h : d.val = 128 * k.val + e.val) :
    every x k (ix2 r e) = wide x r d := by
  unfold every wide
  have h0 : (⟨k.val + 8 * r.val, by omega⟩ : Fin 4096) = ⟨8 * r.val + d.val / 128, by omega⟩ := Fin.ext (by show k.val + 8 * r.val = 8 * r.val + d.val / 128; omega)
  have h1 : e = ⟨d.val % 128, by omega⟩ := Fin.ext (by show e.val = d.val % 128; omega)
  exact congrArg₂ (fun a b => x (ix2 a b)) h0 h1

/-- The eight beside each other. -/
theorem cat_at (x : S4096x128.Idx → EReal) (r : Fin 512) (d : Fin 1024) :
    concatenate S512x1024 1 [⟨S512x128, every x 0⟩, ⟨S512x128, every x 1⟩, ⟨S512x128, every x 2⟩, ⟨S512x128, every x 3⟩, ⟨S512x128, every x 4⟩, ⟨S512x128, every x 5⟩, ⟨S512x128, every x 6⟩, ⟨S512x128, every x 7⟩]
      concatenates_S512x128_S512x128_S512x128_S512x128_S512x128_S512x128_S512x128_S512x128_S512x1024_d1 (ix2 r d) = wide x r d := by
  pointwise
  split
  · exact every_wide x 0 r d _ (by show d.val = 128 * 0 + d.val; omega)
  split
  · exact every_wide x 1 r d _ (by show d.val = 128 * 1 + (d.val - 128); omega)
  split
  · exact every_wide x 2 r d _ (by show d.val = 128 * 2 + (d.val - 128 - 128); omega)
  split
  · exact every_wide x 3 r d _ (by show d.val = 128 * 3 + (d.val - 128 - 128 - 128); omega)
  split
  · exact every_wide x 4 r d _ (by show d.val = 128 * 4 + (d.val - 128 - 128 - 128 - 128); omega)
  split
  · exact every_wide x 5 r d _ (by show d.val = 128 * 5 + (d.val - 128 - 128 - 128 - 128 - 128); omega)
  split
  · exact every_wide x 6 r d _ (by show d.val = 128 * 6 + (d.val - 128 - 128 - 128 - 128 - 128 - 128); omega)
  · exact every_wide x 7 r d _ (by show d.val = 128 * 7 + (d.val - 128 - 128 - 128 - 128 - 128 - 128 - 128); omega)

/-- A hidden unit of a row. -/
theorem pay11_at (x : S4096x128.Idx → EReal) (g u : Vec Ideal S1x1x1024x256 .f32) (r : Fin 512) (f : Fin 256) :
    k0_pay11 (F := Ideal) (every x 0) (every x 1) (every x 2) (every x 3) (every x 4) (every x 5) (every x 6) (every x 7) g u (ix2 r f)
      = gated (∑ k, wide x r k * g (ix4 0 0 k f)) (∑ k, wide x r k * u (ix4 0 0 k f)) := by
  have hc := cat_at x r
  unfold k0_pay11
  revert hc
  generalize (concatenate S512x1024 1 [⟨S512x128, every x 0⟩, ⟨S512x128, every x 1⟩, ⟨S512x128, every x 2⟩, ⟨S512x128, every x 3⟩, ⟨S512x128, every x 4⟩, ⟨S512x128, every x 5⟩, ⟨S512x128, every x 6⟩, ⟨S512x128, every x 7⟩]
    concatenates_S512x128_S512x128_S512x128_S512x128_S512x128_S512x128_S512x128_S512x128_S512x1024_d1) = z
  intro hc
  pointwise
  simp only [hc, gated, zero_sub]

variable (x0 : S4096x128.Idx → EReal) (x1 x2 : S1x1x1024x256.Idx → EReal) (x3 : S1x1x256x1024.Idx → EReal)

/-- What a live tile's stores write, in the blocks it was given. -/
def whole : FVec Ideal S512x1024 .f32 :=
  k0_pay1 (F := Ideal) (k0_pay11 (F := Ideal) (every x0 0) (every x0 1) (every x0 2) (every x0 3) (every x0 4) (every x0 5) (every x0 6) (every x0 7) x1 x2) x3

/-- It is the feed-forward part of each row. -/
theorem whole_at (r : Fin 512) (j : Fin 1024) :
    whole x0 x1 x2 x3 (ix2 r j) = feed (wide x0 r) (fun k f => x1 (ix4 0 0 k f)) (fun k f => x2 (ix4 0 0 k f)) (fun f => x3 (ix4 0 0 f j)) := by
  unfold whole feed
  rw [pay1_at]
  exact Finset.sum_congr rfl fun f _ => by rw [pay11_at]

/-- The live tile's entries, laid out as the tile is: eight of its rows to one of the model's. -/
def live_tile : S4096x128.Idx → EReal := fun y => whole x0 x1 x2 x3
  (ix2 ⟨(y 0).val / 8, by have : (y 0).val < 4096 := (y 0).isLt; omega⟩ ⟨128 * ((y 0).val % 8) + (y 1).val, by have : (y 1).val < 128 := (y 1).isLt; omega⟩)

/-- A slice of lanes, stored at every eighth row, is the tile's. -/
theorem slice_at (k o : ℕ) (hk : k < 8) (ho : o = 128 * k) (h : S512x1024.Slices ![0, o] S512x128) (inb : ∀ a, (![512, 128] : Fin 2 → ℕ) a = 0 ∨ (![k, 0] : Fin 2 → ℕ) a + (![8, 1] : Fin 2 → ℕ) a * ((![512, 128] : Fin 2 → ℕ) a - 1) < S4096x128.size a) (sp)
    (x : S512x128.Idx) : (extractStridedSlice S512x128 ![0, o] (whole x0 x1 x2 x3) h : FVec Ideal S512x128 .f32) x
      = live_tile x0 x1 x2 x3 ((⟨(⟨![k, 0], ![512, 128], ![8, 1], inb⟩ : LoadRect S4096x128), sp⟩ : Rect S4096x128).emb x) := by
  have h0 : (x 0).val < 512 := (x 0).isLt
  have h1 : (x 1).val < 128 := (x 1).isLt
  unfold live_tile
  refine congrArg (whole x0 x1 x2 x3) (funext fun a => Fin.ext ?_)
  match a with
  | ⟨0, _⟩ =>
    show 0 + (x 0).val = (k + 8 * (x 0).val) / 8
    omega
  | ⟨1, _⟩ =>
    show o + (x 1).val = 128 * ((k + 8 * (x 0).val) % 8) + (0 + 1 * (x 1).val)
    omega

/-- A strided load of a staging buffer reads every eighth row of its block. -/
theorem read_every (b : Memref sig .tc .vmem S4096x128 .f32) (x : S4096x128.Idx → EReal) (k : ℕ) (hk : k < 8)
    (inb : ∀ a, (![512, 128] : Fin 2 → ℕ) a = 0 ∨ (![k, 0] : Fin 2 → ℕ) a + (![8, 1] : Fin 2 → ℕ) a * ((![512, 128] : Fin 2 → ℕ) a - 1) < S4096x128.size a) :
    View.readAt (Elt Ideal) b.view (⟨![k, 0], ![512, 128], ![8, 1], inb⟩ : LoadRect S4096x128) (b.view.rep x) = every x ⟨k, hk⟩ := by
  rw [View.readAt_rep]
  funext y
  unfold every
  refine congrArg x (funext fun a => Fin.ext ?_)
  match a with
  | ⟨0, _⟩ => show k + 8 * (y 0).val = k + 8 * (y 0).val; rfl
  | ⟨1, _⟩ => show 0 + 1 * (y 1).val = (y 1).val; omega

variable (T : Tables) (m : (ℓ : Loc nD τ sig) → Buf (Elt Ideal) ℓ) (ρ : Dev nD → PrngReg)

/-- A live point leaves the experts' tile of its blocks. -/
theorem tile_live (c : Dev nD) (t : Fin (cfg T).N) (h : k0_cond1 (crd T t) (live T.cnt) = 1#1) :
    tile T m ρ c t = live_tile (blk T m ρ c (0 : Fin 5) t) (blk T m ρ c (1 : Fin 5) t) (blk T m ρ c (2 : Fin 5) t) (blk T m ρ c (3 : Fin 5) t) := by
  funext y
  unfold tile
  refine View.read_writes_apply_of_pieces _ _ (live_tile (blk T m ρ c (0 : Fin 5) t) (blk T m ρ c (1 : Fin 5) t) (blk T m ρ c (2 : Fin 5) t) (blk T m ρ c (3 : Fin 5) t)) _ ?_ y (cover T m ρ c t y)
  unfold pieces
  rw [dif_pos h]
  dsimp only [full]
  rw [read_every _ _ 0 (by decide), read_every _ _ 1 (by decide), read_every _ _ 2 (by decide), read_every _ _ 3 (by decide), read_every _ _ 4 (by decide), read_every _ _ 5 (by decide),
    read_every _ _ 6 (by decide), read_every _ _ 7 (by decide)]
  have e1 : ∀ (b : Memref sig .tc .vmem S1x1x1024x256 .f32) (x : S1x1x1024x256.Idx → EReal), View.readAt (Elt Ideal) b.view (Rect.unit (s := S1x1x1024x256) ![0, 0, 0, 0] ![1, 1, 1024, 256] inb_S1x1x1024x256_S1x1x1024x256_0_0_0_0).toLoadRect (b.view.rep x) = x :=
    fun b x => by
      rw [View.readAt_rep]
      funext y
      refine congrArg x (funext fun a => Fin.ext ?_)
      match a with
      | ⟨0, _⟩ => show 0 + 1 * (y 0).val = (y 0).val; omega
      | ⟨1, _⟩ => show 0 + 1 * (y 1).val = (y 1).val; omega
      | ⟨2, _⟩ => show 0 + 1 * (y 2).val = (y 2).val; omega
      | ⟨3, _⟩ => show 0 + 1 * (y 3).val = (y 3).val; omega
  have e2 : ∀ (b : Memref sig .tc .vmem S1x1x256x1024 .f32) (x : S1x1x256x1024.Idx → EReal), View.readAt (Elt Ideal) b.view (Rect.unit (s := S1x1x256x1024) ![0, 0, 0, 0] ![1, 1, 256, 1024] inb_S1x1x256x1024_S1x1x256x1024_0_0_0_0).toLoadRect (b.view.rep x) = x :=
    fun b x => by
      rw [View.readAt_rep]
      funext y
      refine congrArg x (funext fun a => Fin.ext ?_)
      match a with
      | ⟨0, _⟩ => show 0 + 1 * (y 0).val = (y 0).val; omega
      | ⟨1, _⟩ => show 0 + 1 * (y 1).val = (y 1).val; omega
      | ⟨2, _⟩ => show 0 + 1 * (y 2).val = (y 2).val; omega
      | ⟨3, _⟩ => show 0 + 1 * (y 3).val = (y 3).val; omega
  rw [e1, e1, e2]
  intro p hp x
  simp only [List.mem_cons, List.not_mem_nil, or_false] at hp
  rcases hp with rfl | rfl | rfl | rfl | rfl | rfl | rfl | rfl
  · exact slice_at _ _ _ _ 7 896 (by decide) rfl slices_S512x1024_o0_896_S512x128 inb_S4096x128_S512x128_7_0_s_8_1 spos_8_1 x
  · exact slice_at _ _ _ _ 6 768 (by decide) rfl slices_S512x1024_o0_768_S512x128 inb_S4096x128_S512x128_6_0_s_8_1 spos_8_1 x
  · exact slice_at _ _ _ _ 5 640 (by decide) rfl slices_S512x1024_o0_640_S512x128 inb_S4096x128_S512x128_5_0_s_8_1 spos_8_1 x
  · exact slice_at _ _ _ _ 4 512 (by decide) rfl slices_S512x1024_o0_512_S512x128 inb_S4096x128_S512x128_4_0_s_8_1 spos_8_1 x
  · exact slice_at _ _ _ _ 3 384 (by decide) rfl slices_S512x1024_o0_384_S512x128 inb_S4096x128_S512x128_3_0_s_8_1 spos_8_1 x
  · exact slice_at _ _ _ _ 2 256 (by decide) rfl slices_S512x1024_o0_256_S512x128 inb_S4096x128_S512x128_2_0_s_8_1 spos_8_1 x
  · exact slice_at _ _ _ _ 1 128 (by decide) rfl slices_S512x1024_o0_128_S512x128 inb_S4096x128_S512x128_1_0_s_8_1 spos_8_1 x
  · exact slice_at _ _ _ _ 0 0 (by decide) rfl slices_S512x1024_o0_0_S512x128 inb_S4096x128_S512x128_0_0_s_8_1 spos_8_1 x

/-- A dead point leaves zeros. -/
theorem tile_dead (c : Dev nD) (t : Fin (cfg T).N) (h : ¬ k0_cond1 (crd T t) (live T.cnt) = 1#1) (y : S4096x128.Idx) : tile T m ρ c t y = (0 : EReal) := by
  unfold tile
  refine View.read_writes_apply_of_pieces _ _ (fun _ => (0 : EReal)) _ ?_ y (cover T m ρ c t y)
  unfold pieces
  rw [dif_neg h]
  dsimp only [dead]
  intro p hp x
  rcases List.mem_cons.1 hp with rfl | hp
  swap; · exact absurd hp List.not_mem_nil
  show Ideal.ofBits FTy.f32 0#32 = 0
  simp [Ideal.ofBits, Ideal.ieee]

end Cert.ExpertsIdeal.Tile

end
-- ==== Proof.ExpertsIdealValue.lean ====
/- The experts' result array of the kernel, from the arguments. -/
module

public import proofs.«01_k».proof.Proof.ExpertsIdealTileAt

@[expose] public section

set_option maxRecDepth 16384

noncomputable section

namespace Cert.ExpertsIdeal.Tile

open Cert.ExpertsIdeal Cert.ExpertsIdeal.Gen
open Cert.ExpertsMath
open Idealize.ShloMosaic
open Idealize.ShloMosaic.TcCoe Idealize.ShloMosaic.Tactic

variable (T : Tables) (m : (ℓ : Loc nD τ sig) → Buf (Elt Ideal) ℓ) (ρ : Dev nD → PrngReg)

/-- The result's blocks cover it. -/
theorem covers : ((cfg T).win (4 : Fin 5)).Covers := of_decide_eq_true (by sl_kernel_rfl)

/-- A point's coordinate is its number. -/
theorem point_no : ∀ t : Fin grid0.N, (grid0.coords t 0).val = t.val := by decide +kernel

/-- A tile's rows. -/
theorem rows_at (c : Dev nD) (t : Fin (cfg T).N) (p : Fin 4096) (l : Fin 128) :
   (show S4096x128.Idx → EReal from blk T m ρ c (0 : Fin 5) t) (ix2 p l) = (show S655360x128.Idx → EReal from m ((c : Thread nD τ).loc main_arg2)) (ix2 ⟨t.val * 4096 + p.val, by have : t.val < 160 := t.isLt; omega⟩ l) := by
  refine congrArg (show S655360x128.Idx → EReal from m ((c : Thread nD τ).loc main_arg2)) (funext fun a => Fin.ext ?_)
  have h := point_no t
  have ht : t.val < 160 := t.isLt
  match a with
  | ⟨0, _⟩ =>
    show (BitVec.ofNat 32 (grid0.coords t 0).val).toNat * 4096 + 1 * p.val = t.val * 4096 + p.val
    rw [h, BitVec.toNat_ofNat, Nat.mod_eq_of_lt (by omega)]
    omega
  | ⟨1, _⟩ =>
    show 0 * 128 + 1 * l.val = l.val
    omega

/-- A tile's expert. -/
def expert (t : Fin 160) : Fin 32 := ⟨(show BitVec 32 from T.te (ix1 t)).toNat, T.range _⟩

/-- The table's word that a tile's weights are chosen by. -/
theorem word_at (t : Fin (cfg T).N) :
    T.te ((Rect.unit (s := S160) ![(Scalar.indexCast (BitVec.ofNat 32 (grid0.coords t 0).val)).toNat] S1.size (k0_off1_inb (grid0.coords t))).emb (Shape.Idx.first (numel1_S1.symm ▸ Nat.one_pos)))
      = T.te (ix1 t) := by
  refine congrArg T.te (funext fun a => ?_)
  match a with
  | ⟨0, _⟩ =>
    refine Fin.ext ?_
    show (Scalar.indexCast (BitVec.ofNat 32 (grid0.coords t 0).val)).toNat + 1 * 0 = t.val
    rw [point_no t]
    exact (by decide +kernel : ∀ t : Fin 160, (Scalar.indexCast (BitVec.ofNat 32 t.val)).toNat + 1 * 0 = t.val) t

/-- The gate's weights at a tile: its expert's. -/
theorem gate_at (c : Dev nD) (t : Fin (cfg T).N) (k : Fin 1024) (f : Fin 256) :
    (show S1x1x1024x256.Idx → EReal from blk T m ρ c (1 : Fin 5) t) (ix4 0 0 k f)
      = (show S4x32x1024x256.Idx → EReal from m ((c : Thread nD τ).loc main_arg3)) (ix4 0 (expert T t) k f) := by
  refine congrArg (show S4x32x1024x256.Idx → EReal from m ((c : Thread nD τ).loc main_arg3)) (funext fun a => Fin.ext ?_)
  match a with
  | ⟨0, _⟩ => show 0 * 1 + 1 * 0 = 0; rfl
  | ⟨1, _⟩ =>
    show (show BitVec 32 from T.te ((Rect.unit (s := S160) ![(Scalar.indexCast (BitVec.ofNat 32 (grid0.coords t 0).val)).toNat] S1.size (k0_off1_inb (grid0.coords t))).emb (Shape.Idx.first (numel1_S1.symm ▸ Nat.one_pos)))).toNat * 1 + 1 * 0 = (show BitVec 32 from T.te (ix1 t)).toNat
    rw [word_at T t]
    exact Nat.mul_one _
  | ⟨2, _⟩ => show 0 * 1024 + 1 * k.val = k.val; omega
  | ⟨3, _⟩ => show 0 * 256 + 1 * f.val = f.val; omega

/-- The other projection's. -/
theorem up_at (c : Dev nD) (t : Fin (cfg T).N) (k : Fin 1024) (f : Fin 256) :
    (show S1x1x1024x256.Idx → EReal from blk T m ρ c (2 : Fin 5) t) (ix4 0 0 k f)
      = (show S4x32x1024x256.Idx → EReal from m ((c : Thread nD τ).loc main_arg4)) (ix4 0 (expert T t) k f) := by
  refine congrArg (show S4x32x1024x256.Idx → EReal from m ((c : Thread nD τ).loc main_arg4)) (funext fun a => Fin.ext ?_)
  match a with
  | ⟨0, _⟩ => show 0 * 1 + 1 * 0 = 0; rfl
  | ⟨1, _⟩ =>
    show (show BitVec 32 from T.te ((Rect.unit (s := S160) ![(Scalar.indexCast (BitVec.ofNat 32 (grid0.coords t 0).val)).toNat] S1.size (k0_off1_inb (grid0.coords t))).emb (Shape.Idx.first (numel1_S1.symm ▸ Nat.one_pos)))).toNat * 1 + 1 * 0 = (show BitVec 32 from T.te (ix1 t)).toNat
    rw [word_at T t]
    exact Nat.mul_one _
  | ⟨2, _⟩ => show 0 * 1024 + 1 * k.val = k.val; omega
  | ⟨3, _⟩ => show 0 * 256 + 1 * f.val = f.val; omega

/-- The output's. -/
theorem down_at (c : Dev nD) (t : Fin (cfg T).N) (f : Fin 256) (j : Fin 1024) :
    (show S1x1x256x1024.Idx → EReal from blk T m ρ c (3 : Fin 5) t) (ix4 0 0 f j)
      = (show S4x32x256x1024.Idx → EReal from m ((c : Thread nD τ).loc main_arg5)) (ix4 0 (expert T t) f j) := by
  refine congrArg (show S4x32x256x1024.Idx → EReal from m ((c : Thread nD τ).loc main_arg5)) (funext fun a => Fin.ext ?_)
  match a with
  | ⟨0, _⟩ => show 0 * 1 + 1 * 0 = 0; rfl
  | ⟨1, _⟩ =>
    show (show BitVec 32 from T.te ((Rect.unit (s := S160) ![(Scalar.indexCast (BitVec.ofNat 32 (grid0.coords t 0).val)).toNat] S1.size (k0_off1_inb (grid0.coords t))).emb (Shape.Idx.first (numel1_S1.symm ▸ Nat.one_pos)))).toNat * 1 + 1 * 0 = (show BitVec 32 from T.te (ix1 t)).toNat
    rw [word_at T t]
    exact Nat.mul_one _
  | ⟨2, _⟩ => show 0 * 256 + 1 * f.val = f.val; omega
  | ⟨3, _⟩ => show 0 * 1024 + 1 * j.val = j.val; omega

/-- A tile is live when its number is below the count. -/
theorem live_iff (t : Fin (cfg T).N) : k0_cond1 (crd T t) (live T.cnt) = 1#1 ↔ (t.val : ℤ) < (show BitVec 32 from T.cnt (ix1 1)).toInt := by
  unfold k0_cond1
  rw [Scalar.guard_iff]
  show IntOp.cmpi .slt _ _ = 1#1 ↔ _
  rw [IntOp.cmpi_slt]
  have e : live T.cnt = T.cnt (ix1 1) := congrArg T.cnt (funext fun a => by
    match a with
    | ⟨0, _⟩ => exact Fin.ext rfl)
  rw [e]
  have h := point_no t
  show (BitVec.ofNat 32 (grid0.coords t 0).val).toInt < _ ↔ _
  rw [h]
  have : (BitVec.ofNat 32 t.val).toInt = t.val := (by decide +kernel : ∀ t : Fin 160, (BitVec.ofNat 32 t.val).toInt = t.val) t
  rw [this]

/-- The whole result from the arguments. -/
def spec (c : Dev nD) : S655360x128.Idx → EReal := fun y =>
  fed (expert T) (show BitVec 32 from T.cnt (ix1 1)).toInt
    (fun p l => (show S655360x128.Idx → EReal from m ((c : Thread nD τ).loc main_arg2)) (ix2 p l))
    (fun e k f => (show S4x32x1024x256.Idx → EReal from m ((c : Thread nD τ).loc main_arg3)) (ix4 0 e k f))
    (fun e k f => (show S4x32x1024x256.Idx → EReal from m ((c : Thread nD τ).loc main_arg4)) (ix4 0 e k f))
    (fun e f j => (show S4x32x256x1024.Idx → EReal from m ((c : Thread nD τ).loc main_arg5)) (ix4 0 e f j)) (y 0) (y 1)

/-- What a tile leaves is the result at its rows. -/
theorem tile_at (c : Dev nD) (t : Fin (cfg T).N) (p : Fin 4096) (l : Fin 128) :
    tile T m ρ c t (ix2 p l) = spec T m c (ix2 ⟨t.val * 4096 + p.val, by have : t.val < 160 := t.isLt; omega⟩ l) := by
  have ht : t.val < 160 := t.isLt
  unfold spec
  by_cases h : k0_cond1 (crd T t) (live T.cnt) = 1#1
  · rw [tile_live T m ρ c t h]
    refine Eq.trans ?_ (fed_live _ _ _ _ _ _ (t : Fin 160) p l ((live_iff T t).1 h)).symm
    unfold live_tile
    rw [whole_at]
    have hw : wide (blk T m ρ c (0 : Fin 5) t) ⟨p.val / 8, by omega⟩
        = fun k => (show S655360x128.Idx → EReal from m ((c : Thread nD τ).loc main_arg2)) (ix2 ⟨t.val * 4096 + (8 * (p.val / 8) + k.val / 128), by omega⟩ ⟨k.val % 128, by omega⟩) := by
      funext k
      unfold wide
      exact rows_at T m ρ c t _ _
    have hgate : (fun k f => (show S1x1x1024x256.Idx → EReal from blk T m ρ c (1 : Fin 5) t) (ix4 0 0 k f)) = fun k f => _ := funext fun k => funext fun f => gate_at T m ρ c t k f
    have hup : (fun k f => (show S1x1x1024x256.Idx → EReal from blk T m ρ c (2 : Fin 5) t) (ix4 0 0 k f)) = fun k f => _ := funext fun k => funext fun f => up_at T m ρ c t k f
    have hdown : (fun f => (show S1x1x256x1024.Idx → EReal from blk T m ρ c (3 : Fin 5) t) (ix4 0 0 f ⟨128 * (p.val % 8) + l.val, by omega⟩)) = fun f => _ := funext fun f => down_at T m ρ c t f _
    exact (congrArg₂ (fun a b => feed a b _ _) hw hgate).trans (congrArg₂ (fun a b => feed _ _ a b) hup hdown)
  · rw [tile_dead T m ρ c t h]
    exact (fed_dead _ _ _ _ _ _ (t : Fin 160) p l fun hh => h ((live_iff T t).2 hh)).symm

/-- The result array is that. -/
theorem final (c : Dev nD) : (dats T m ρ 0 c).arrAt (4 : Fin 5) (cfg T).N = spec T m c := by
  refine (dats T m ρ 0 c).arrAt_eq_of_covers (4 : Fin 5) (spec T m c) (covers T) (fun t _ y => ?_) (harr := Memref.isWhole_whole _)
  have ht : t.val < 160 := t.isLt
  obtain ⟨p, l, hy⟩ : ∃ (p : Fin 4096) (l : Fin 128), y = ix2 p l := ⟨⟨(y 0).val, (y 0).isLt⟩, ⟨(y 1).val, (y 1).isLt⟩, by
    funext a
    match a with
    | ⟨0, _⟩ => rfl
    | ⟨1, _⟩ => rfl⟩
  subst hy
  refine (tile_at T m ρ c t p l).trans (congrArg (spec T m c) (funext fun a => Fin.ext ?_))
  match a with
  | ⟨0, _⟩ =>
    show t.val * 4096 + p.val = (BitVec.ofNat 32 (grid0.coords t 0).val).toNat * 4096 + 1 * p.val
    rw [point_no t, BitVec.toNat_ofNat, Nat.mod_eq_of_lt (by omega)]
    omega
  | ⟨1, _⟩ =>
    show l.val = 0 * 128 + 1 * l.val
    omega

end Cert.ExpertsIdeal.Tile
end
-- ==== Proof.ExpertsRef.lean ====
/- The reference of the experts, in named parts, each read at an index. -/
module

public import proofs.«01_k».proof.Proof.Gen.ExpertsRefIdeal.Run
public import proofs.«01_k».proof.Proof.ExpertsMath
public import Idealize.ShloMosaic.Lib.Pipeline.ValueKit
public import Idealize.ShloMosaic.Lib.Pointwise
public import Idealize.ShloMosaic.Lib.Tactic.IndexArith
public import Idealize.ShloMosaic.Lib.Tactic.WordOmega
public import Idealize.ShloMosaic.Lib.Affine

@[expose] public section

set_option maxRecDepth 16384

noncomputable section

namespace Cert.ExpertsRefIdeal.Read

open Cert.ExpertsRefIdeal Cert.ExpertsRefIdeal.Gen Cert.ExpertsMath Idealize.ShloMosaic Idealize.ShloMosaic.TcCoe Idealize.SL.Sem

/-- The rows of the model's width. -/
def rows (x : FVec Ideal S655360x128 .f32) : FVec Ideal S81920x1024 .f32 := shapeCast _ x shapeCasts_S655360x128_S81920x1024

/-- The first layer's weights of a projection. -/
def ins (w : FVec Ideal S4x32x1024x256 .f32) : FVec Ideal S32x1024x256 .f32 := shapeCast _ (extractStridedSlice S1x32x1024x256 ![0, 0, 0, 0] w slices_S4x32x1024x256_S1x32x1024x256_0_0_0_0 : FVec Ideal S1x32x1024x256 .f32) shapeCasts_S1x32x1024x256_S32x1024x256

/-- The first layer's output weights. -/
def outs (w : FVec Ideal S4x32x256x1024 .f32) : FVec Ideal S32x256x1024 .f32 := shapeCast _ (extractStridedSlice S1x32x256x1024 ![0, 0, 0, 0] w slices_S4x32x256x1024_S1x32x256x1024_0_0_0_0 : FVec Ideal S1x32x256x1024 .f32) shapeCasts_S1x32x256x1024_S32x256x1024

/-- Which of the tiles has which expert. -/
def chosen (te : IVec S160 32) : FVec Ideal S160x32 .f32 := uitofp .f32 (cmpi .eq (broadcastInDim S160x32 ![0, 1] bcast_S160x1_S160x32_0_1 (broadcastInDim S160x1 ![0] bcast_S160_S160x1_0 te)) (broadcastInDim S160x32 ![0, 1] bcast_S1x32_S160x32_0_1 (iotaInDim S1x32 32 1)))

/-- Which of the tiles are live. -/
def lively (cnt : IVec S2 32) : FVec Ideal S160 .f32 := uitofp .f32 (cmpi .slt (iotaInDim S160 32 0) (broadcastInDim S160 ![] bcast_S_S160 (shapeCast _ (extractStridedSlice S1 ![1] cnt slices_S2_S1_1) shapeCasts_S1_S_)))

/-- The share of each row that each expert gets: one or none. -/
def share (te : IVec S160 32) (cnt : IVec S2 32) : FVec Ideal S81920x32 .f32 := shapeCast _ (broadcastInDim S160x512x32 ![0, 2] bcast_S160x32_S160x512x32_0_2 (mulf (chosen te) (broadcastInDim S160x32 ![0, 1] bcast_S160x1_S160x32_0_1 (broadcastInDim S160x1 ![0] bcast_S160_S160x1_0 (lively cnt)))) : FVec Ideal S160x512x32 .f32) shapeCasts_S160x512x32_S81920x32

/-- The rows' projections by eight experts. -/
def proj (x : FVec Ideal S655360x128 .f32) (w : FVec Ideal S8x1024x256 .f32) : FVec Ideal S81920x8x256 .f32 := Host.dotGeneral dot_S81920x1024_S8x1024x256_S81920x8x256_1_1_0_02_n_n none (rows x) w

/-- The hidden units of eight experts, times each row's share. -/
def hidden (g u : FVec Ideal S81920x8x256 .f32) (s : FVec Ideal S81920x8 .f32) : FVec Ideal S81920x8x256 .f32 := mulf (mulf (mulf g (Host.divf (broadcastInDim S81920x8x256 ![] bcast_S_S81920x8x256 (constant S_ .f32 0x3F800000#32)) (addf (broadcastInDim S81920x8x256 ![] bcast_S_S81920x8x256 (constant S_ .f32 0x3F800000#32)) (Host.exp (Host.negf g))))) u) (broadcastInDim S81920x8x256 ![0, 1, 2] bcast_S81920x8x1_S81920x8x256_0_1_2 (broadcastInDim S81920x8x1 ![0, 1] bcast_S81920x8_S81920x8x1_0_1 s))

/-- Eight experts' part of the result, from the first of them. -/
def part (te : IVec S160 32) (cnt : IVec S2 32) (x : FVec Ideal S655360x128 .f32) (g u : FVec Ideal S4x32x1024x256 .f32) (d : FVec Ideal S4x32x256x1024 .f32)
    (o : ℕ) (h : S32x1024x256.Slices ![o, 0, 0] S8x1024x256) (h' : S81920x32.Slices ![0, o] S81920x8) (h'' : S32x256x1024.Slices ![o, 0, 0] S8x256x1024) : FVec Ideal S81920x1024 .f32 :=
  Host.dotGeneral dot_S81920x8x256_S8x256x1024_S81920x1024_12_01_0_2_n_n none
    (hidden (proj x (extractStridedSlice S8x1024x256 ![o, 0, 0] (ins g) h)) (proj x (extractStridedSlice S8x1024x256 ![o, 0, 0] (ins u) h)) (extractStridedSlice S81920x8 ![0, o] (share te cnt) h'))
    (extractStridedSlice S8x256x1024 ![o, 0, 0] (outs d) h'')

/-- The four parts together. -/
def parts (te : IVec S160 32) (cnt : IVec S2 32) (x : FVec Ideal S655360x128 .f32) (g u : FVec Ideal S4x32x1024x256 .f32) (d : FVec Ideal S4x32x256x1024 .f32) : FVec Ideal S81920x1024 .f32 :=
  addf (addf (addf (addf (broadcastInDim S81920x1024 ![] bcast_S_S81920x1024 (constant S_ .f32 0x00000000#32))
    (part te cnt x g u d 0 slices_S32x1024x256_S8x1024x256_0_0_0 slices_S81920x32_S81920x8_0_0 slices_S32x256x1024_S8x256x1024_0_0_0))
    (part te cnt x g u d 8 slices_S32x1024x256_S8x1024x256_8_0_0 slices_S81920x32_S81920x8_0_8 slices_S32x256x1024_S8x256x1024_8_0_0))
    (part te cnt x g u d 16 slices_S32x1024x256_S8x1024x256_16_0_0 slices_S81920x32_S81920x8_0_16 slices_S32x256x1024_S8x256x1024_16_0_0))
    (part te cnt x g u d 24 slices_S32x1024x256_S8x1024x256_24_0_0 slices_S81920x32_S81920x8_0_24 slices_S32x256x1024_S8x256x1024_24_0_0)

/-- The reference's result. -/
def experts (te : IVec S160 32) (cnt : IVec S2 32) (x : FVec Ideal S655360x128 .f32) (g u : FVec Ideal S4x32x1024x256 .f32) (d : FVec Ideal S4x32x256x1024 .f32) : FVec Ideal S655360x128 .f32 :=
  shapeCast _ (parts te cnt x g u d) shapeCasts_S81920x1024_S655360x128

/-- What the reference returns is that of its arguments. -/
theorem result_eq (m : (ℓ : Loc nD τ sig) → Buf (Elt Ideal) ℓ) (c : Dev nD) :
    Value.res_main_v72 m c = experts (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  delta Value.res_main_v72 experts parts part hidden proj share lively chosen outs ins rows
  rfl

variable (te : IVec S160 32) (cnt : IVec S2 32) (x : FVec Ideal S655360x128 .f32) (g u : FVec Ideal S4x32x1024x256 .f32) (d : FVec Ideal S4x32x256x1024 .f32)

/-- A row's entry. -/
theorem rows_at (n : Fin 81920) (k : Fin 1024) : rows x (ix2 n k) = x (ix2 ⟨8 * n.val + k.val / 128, by omega⟩ ⟨k.val % 128, by omega⟩) := by
  unfold rows
  pointwise
  exact congrArg x (congrArg₂ ix2 (Fin.ext (by show n.val * 8 + k.val / 128 = 8 * n.val + k.val / 128; omega)) rfl)

/-- An expert's weight in a projection. -/
theorem ins_at (e : Fin 32) (k : Fin 1024) (f : Fin 256) : ins g (ix3 e k f) = g (ix4 0 e k f) := by
  unfold ins
  pointwise

/-- An expert's output weight. -/
theorem outs_at (e : Fin 32) (f : Fin 256) (j : Fin 1024) : outs d (ix3 e f j) = d (ix4 0 e f j) := by
  unfold outs
  pointwise

/-- A bit as a number. -/
theorem bit (b : BitVec 1) : (FloatOps.uitofp (F := Ideal) FTy.f32 b : EReal) = if b = 1#1 then 1 else 0 := by
  have h : b = 0#1 ∨ b = 1#1 := by
    revert b
    decide
  rcases h with rfl | rfl
  · show ((((0#1 : BitVec 1).toNat : ℕ) : ℝ) : EReal) = _
    simp
  · show ((((1#1 : BitVec 1).toNat : ℕ) : ℝ) : EReal) = _
    simp

/-- A tile has the expert of its word. -/
theorem chosen_at (i : Fin 160) (e : Fin 32) : chosen te (ix2 i e) = if te (ix1 i) = BitVec.ofNat 32 e.val then 1 else 0 := by
  unfold chosen
  pointwise
  rw [bit]
  refine if_congr ?_ rfl rfl
  show BitVec.ofBool (te (ix1 i) == BitVec.ofNat 32 e.val) = 1#1 ↔ _
  by_cases h : te (ix1 i) = BitVec.ofNat 32 e.val
  · simp [h]
  · rw [beq_eq_false_iff_ne.2 h]
    exact ⟨fun hh => absurd hh (by decide), fun hh => absurd hh h⟩

/-- A tile is live when its number is below the count. -/
theorem lively_at (i : Fin 160) : lively cnt (ix1 i) = if (i.val : ℤ) < (cnt (ix1 1)).toInt then 1 else 0 := by
  unfold lively
  pointwise
  rw [bit]
  refine if_congr ?_ rfl rfl
  rw [IntOp.cmpi_slt, (by decide +kernel : ∀ t : Fin 160, (BitVec.ofNat 32 t.val).toInt = t.val) i]

/-- A row's share of an expert, from its tile. -/
theorem share_at (n : Fin 81920) (e : Fin 32) : share te cnt (ix2 n e) = chosen te (ix2 ⟨n.val / 512, by omega⟩ e) * lively cnt (ix1 ⟨n.val / 512, by omega⟩) := by
  unfold share
  pointwise

/-- A row's projection. -/
theorem proj_at (w : FVec Ideal S8x1024x256 .f32) (n : Fin 81920) (e : Fin 8) (f : Fin 256) : proj x w (ix3 n e f) = ∑ k : Fin 1024, rows x (ix2 n k) * w (ix3 e k f) := by
  unfold proj
  pointwise

/-- A hidden unit times the row's share. -/
theorem hidden_at (g u : FVec Ideal S81920x8x256 .f32) (s : FVec Ideal S81920x8 .f32) (n : Fin 81920) (e : Fin 8) (f : Fin 256) :
    hidden g u s (ix3 n e f) = gated (g (ix3 n e f)) (u (ix3 n e f)) * s (ix2 n e) := by
  unfold hidden gated
  pointwise

/-- One expert's part of one entry. -/
def term (n : Fin 81920) (j : Fin 1024) (e : Fin 32) : EReal :=
  ∑ f : Fin 256, gated (∑ k : Fin 1024, rows x (ix2 n k) * ins g (ix3 e k f)) (∑ k : Fin 1024, rows x (ix2 n k) * ins u (ix3 e k f)) * share te cnt (ix2 n e) * outs d (ix3 e f j)

/-- Eight experts' part is the sum of theirs. -/
theorem part_at (o : ℕ) (ho : o ≤ 24) (h : S32x1024x256.Slices ![o, 0, 0] S8x1024x256) (h' : S81920x32.Slices ![0, o] S81920x8) (h'' : S32x256x1024.Slices ![o, 0, 0] S8x256x1024)
    (n : Fin 81920) (j : Fin 1024) : part te cnt x g u d o h h' h'' (ix2 n j) = ∑ e : Fin 8, term te cnt x g u d n j ⟨o + e.val, by omega⟩ := by
  unfold part
  pointwise [hidden_at, proj_at]
  rfl

/-- A sum over the experts, eight at a time. -/
theorem sum_four (f : Fin 32 → EReal) :
    ∑ e, f e = (((∑ e : Fin 8, f ⟨0 + e.val, by omega⟩) + ∑ e : Fin 8, f ⟨8 + e.val, by omega⟩) + ∑ e : Fin 8, f ⟨16 + e.val, by omega⟩) + ∑ e : Fin 8, f ⟨24 + e.val, by omega⟩ := by
  rw [Fin.sum_univ_add (a := 24) (b := 8) f, Fin.sum_univ_add (a := 16) (b := 8), Fin.sum_univ_add (a := 8) (b := 8)]
  refine congrArg₂ (· + ·) (congrArg₂ (· + ·) (congrArg₂ (· + ·) ?_ ?_) ?_) ?_
  · exact Finset.sum_congr rfl fun e _ => congrArg f (Fin.ext (Nat.zero_add _).symm)
  all_goals exact Finset.sum_congr rfl fun e _ => congrArg f (Fin.ext rfl)

/-- All the experts' parts. -/
theorem parts_at (n : Fin 81920) (j : Fin 1024) : parts te cnt x g u d (ix2 n j) = ∑ e, term te cnt x g u d n j e := by
  refine Eq.trans ?_ (sum_four _).symm
  unfold parts
  pointwise
  rw [part_at te cnt x g u d 0 (by decide), part_at te cnt x g u d 8 (by decide), part_at te cnt x g u d 16 (by decide), part_at te cnt x g u d 24 (by decide)]
  refine congrArg₂ (· + ·) (congrArg₂ (· + ·) (congrArg₂ (· + ·) ?_ rfl) rfl) rfl
  exact Finset.sum_congr rfl fun e _ => congrArg (term te cnt x g u d n j) (Fin.ext (Nat.zero_add _))

/-- An expert that isn't the row's, or whose tile isn't live, has no part. -/
theorem term_off (n : Fin 81920) (j : Fin 1024) (e : Fin 32) (h : share te cnt (ix2 n e) = 0) : term te cnt x g u d n j e = 0 := by
  unfold term
  refine Finset.sum_eq_zero fun f _ => ?_
  rw [h, mul_zero, zero_mul]

/-- The row's own expert's part, its tile live. -/
theorem term_on (n : Fin 81920) (j : Fin 1024) (e : Fin 32) (h : share te cnt (ix2 n e) = 1) :
    term te cnt x g u d n j e = feed (fun k => x (ix2 ⟨8 * n.val + k.val / 128, by omega⟩ ⟨k.val % 128, by omega⟩)) (fun k f => g (ix4 0 e k f)) (fun k f => u (ix4 0 e k f)) (fun f => d (ix4 0 e f j)) := by
  unfold term feed
  refine Finset.sum_congr rfl fun f _ => ?_
  rw [h, mul_one, outs_at]
  simp only [rows_at, ins_at]

/-- The reference's result where each tile has one of the experts: the tile's rows go through that expert. -/
theorem experts_at (e : Fin 160 → Fin 32) (he : ∀ i, (te (ix1 i)).toNat = (e i).val) (p : Fin 655360) (l : Fin 128) :
    experts te cnt x g u d (ix2 p l)
      = fed e (cnt (ix1 1)).toInt (fun p l => x (ix2 p l)) (fun e k f => g (ix4 0 e k f)) (fun e k f => u (ix4 0 e k f)) (fun e f j => d (ix4 0 e f j)) p l := by
  have hr : experts te cnt x g u d (ix2 p l) = parts te cnt x g u d (ix2 ⟨p.val / 8, by omega⟩ ⟨128 * (p.val % 8) + l.val, by omega⟩) := by
    unfold experts
    pointwise
    exact congrArg (parts te cnt x g u d) (congrArg₂ ix2 rfl (Fin.ext (by show p.val % 8 * 128 + l.val = 128 * (p.val % 8) + l.val; omega)))
  have hi : (⟨p.val / 8 / 512, by omega⟩ : Fin 160) = ⟨p.val / 4096, by omega⟩ := Fin.ext (by show p.val / 8 / 512 = p.val / 4096; omega)
  have hs : ∀ e', share te cnt (ix2 ⟨p.val / 8, by omega⟩ e') = chosen te (ix2 ⟨p.val / 4096, by omega⟩ e') * lively cnt (ix1 ⟨p.val / 4096, by omega⟩) := fun e' => by
    rw [share_at]
    dsimp only
    rw [hi]
  have hw : ∀ e' : Fin 32, te (ix1 ⟨p.val / 4096, by omega⟩) = BitVec.ofNat 32 e'.val ↔ e' = e ⟨p.val / 4096, by omega⟩ := fun e' => by
    have := he ⟨p.val / 4096, by omega⟩
    constructor
    · intro h
      rw [h, BitVec.toNat_ofNat, Nat.mod_eq_of_lt (by omega)] at this
      exact Fin.ext this
    · rintro rfl
      rw [← this, BitVec.ofNat_toNat, BitVec.setWidth_eq]
  rw [hr, parts_at]
  unfold fed
  by_cases hl : ((p.val / 4096 : ℕ) : ℤ) < (cnt (ix1 1)).toInt
  · rw [if_pos hl, Finset.sum_eq_single (e ⟨p.val / 4096, by omega⟩)]
    · exact term_on te cnt x g u d _ _ _ (by rw [hs, chosen_at, lively_at, if_pos ((hw _).2 rfl), if_pos hl, mul_one])
    · exact fun e' _ hn => term_off te cnt x g u d _ _ _ (by rw [hs, chosen_at, if_neg (fun h => hn ((hw _).1 h)), zero_mul])
    · exact fun h => absurd (Finset.mem_univ _) h
  · rw [if_neg hl]
    exact Finset.sum_eq_zero fun e' _ => term_off te cnt x g u d _ _ _ (by rw [hs, lively_at, if_neg hl, mul_zero])

end Cert.ExpertsRefIdeal.Read

end
-- ==== Proof.ExpertsPre.lean ====
/- What the experts' precondition says of a tile: its expert is one of the 32. -/
module

public import proofs.«01_k».proof.Proof.Gen.Pre_experts_in_range
public import Idealize.ShloMosaic.PureOps.Ideal
public import Idealize.ShloMosaic.Lib.ReduceAll
public import Idealize.ShloMosaic.Lib.Affine
public import Idealize.ShloMosaic.Lib.Tactic.IndexArith

@[expose] public section

set_option maxRecDepth 16384

noncomputable section

namespace Cert.Pre_experts_in_range.Read

open Cert.Pre_experts_in_range Idealize.ShloMosaic

/-- A word that is at least 0 and below 32 is one of the 32. -/
theorem word_lt (b : BitVec 32) (h0 : IntOp.cmpi .sge b 0#32 = 1#1) (h1 : IntOp.cmpi .slt b 32#32 = 1#1) : b.toNat < 32 := by
  rw [IntOp.cmpi_sge] at h0
  rw [IntOp.cmpi_slt] at h1
  have e0 : (0#32 : BitVec 32).toInt = 0 := rfl
  have e1 : (32#32 : BitVec 32).toInt = 32 := rfl
  rw [e0] at h0
  rw [e1] at h1
  have := BitVec.toInt_eq_toNat_cond b
  split at this <;> omega

/-- Every tile's expert is one of the 32. -/
theorem range {F : FTy → Type} [FloatOps F] (te : IVec S160 32) (cnt : IVec S2 32) (x : FVec F S655360x128 .f32) (g u : FVec F S4x32x1024x256 .f32) (d : FVec F S4x32x256x1024 .f32)
    (h : fn (F := F) te cnt x g u d = fun _ => 1#1) (i : S160.Idx) : (te i).toNat < 32 := by
  have : Subsingleton S_.Idx := ⟨fun a b => funext fun x => x.elim0⟩
  have h0 := congrFun h (fun a => a.elim0)
  dsimp only [fn] at h0
  have h1 := Host.reduce_andi_all _ _ _ _ _ h0 i
  obtain ⟨h2, h3⟩ := IntOp.andi_eq_one.1 h1
  exact word_lt _ h2 h3

end Cert.Pre_experts_in_range.Read

end
-- ==== Proof.ProjTile.lean ====
/- The projection's tile at an index of its blocks. -/
module

public import proofs.«01_k».proof.Proof.Gen.ProjIdeal.Value
public import Idealize.ShloMosaic.Lib.Pipeline.ValueKit
public import Idealize.ShloMosaic.Lib.Pointwise
public import Idealize.ShloMosaic.Lib.Tactic.IndexArith
public import Idealize.ShloMosaic.Lib.Tactic.WordOmega
public import Idealize.ShloMosaic.Lib.Affine

@[expose] public section

set_option maxRecDepth 16384

noncomputable section

namespace Cert.ProjIdeal.Tile

open Cert.ProjIdeal Cert.ProjIdeal.Gen Idealize.ShloMosaic Idealize.ShloMosaic.TcCoe Idealize.SL.Sem

/-- The modulated norm of a tile's row. -/
theorem norm_at (x : Vec Ideal S1x512x1024 .f32) (g : Vec Ideal S1x1024 .f32) (sc sh : Vec Ideal S1x1x1024 .f32) (r : Fin 512) (k : Fin 1024) :
    k0_pay2 x g sc sh (ix2 r k) = x (ix3 0 r k) * Ideal.rsqrt (Ideal.div (∑ j : Fin 1024, x (ix3 0 r j) * x (ix3 0 r j)) (Ideal.ofBits FTy.f32 0x44800000#32) + Ideal.ofBits FTy.f32 0x358637BD#32)
      * g (ix2 0 k) * (Ideal.ofBits FTy.f32 0x3F800000#32 + sc (ix3 0 0 k)) + sh (ix3 0 0 k) := by
  unfold k0_pay2
  pointwise

/-- The scaled queries of a tile. -/
theorem qa_at (x : Vec Ideal S1x512x1024 .f32) (g : Vec Ideal S1x1024 .f32) (sc sh : Vec Ideal S1x1x1024 .f32) (w : Vec Ideal S1024x512 .bf16) (r l : Fin 512) :
    k0_pay3 x g sc sh w (ix3 0 r l) = (∑ k : Fin 1024, k0_pay2 x g sc sh (ix2 r k) * w (ix2 k l)) * Ideal.ofBits FTy.f32 0x3E38AA3B#32 := by
  unfold k0_pay3
  pointwise

variable (h : FVec Ideal S512x1024 .bf16)

/-- The keys of a tile. -/
theorem ka_at (w : Vec Ideal S1024x512 .bf16) (r l : Fin 512) : k0_pay4 h w (ix3 0 r l) = ∑ k : Fin 1024, h (ix2 r k) * w (ix2 k l) := by
  unfold k0_pay4
  pointwise

/-- The values of a tile. -/
theorem va_at (w : Vec Ideal S1024x512 .bf16) (r l : Fin 512) : k0_pay5 h w (ix3 0 r l) = ∑ k : Fin 1024, h (ix2 r k) * w (ix2 k l) := by
  unfold k0_pay5
  pointwise

/-- The state space's inputs of a tile. -/
theorem us_at (w : Vec Ideal S1024x256 .bf16) (r : Fin 512) (l : Fin 256) : k0_pay6 h w (ix2 r l) = ∑ k : Fin 1024, h (ix2 r k) * w (ix2 k l) := by
  unfold k0_pay6
  pointwise

/-- The projection of a tile that the queries' rotation takes. -/
theorem zr_at (w : Vec Ideal S1024x256 .bf16) (r : Fin 512) (l : Fin 256) : k0_pay10 h w (ix2 r l) = ∑ k : Fin 1024, h (ix2 r k) * w (ix2 k l) := by
  unfold k0_pay10
  pointwise

/-- The retention's values of a tile. -/
theorem vr_at (w : Vec Ideal S1024x256 .bf16) (r : Fin 512) (l : Fin 256) : k0_pay13 h w (ix3 0 r l) = ∑ k : Fin 1024, h (ix2 r k) * w (ix2 k l) := by
  unfold k0_pay13
  pointwise

/-- The retention's gates of a tile. -/
theorem gr_at (w : Vec Ideal S1024x256 .bf16) (r : Fin 512) (l : Fin 256) : k0_pay1 (k0_pay14 h w) (ix3 0 r l) = ∑ k : Fin 1024, h (ix2 r k) * w (ix2 k l) := by
  unfold k0_pay1 k0_pay14
  pointwise

/-- Whether a lane lies in the first half of its head. -/
theorem half_at (r : Fin 512) (l : Fin 256) : k0_pay9 (ix2 r l) = 1#1 ↔ l.val % 64 < 32 := by
  unfold k0_pay9
  pointwise
  exact (by decide +kernel : ∀ l : Fin 256, IntOp.cmpi CmpIPredicate.eq (IntOp.andi (BitVec.ofNat 32 l.val) 32#32) 0#32 = 1#1 ↔ l.val % 64 < 32) l

/-- A rotated lane in the tile: the lane and its partner, each times its table's entry. -/
def mixedLane (z : Fin 256 → EReal) (C S : EReal) (l : Fin 256) : EReal :=
  z l * C + (if hi : l.val % 64 < 32 then z ⟨l.val + 32, by omega⟩ else z ⟨l.val - 32, by omega⟩) * S

/-- The choice of a lane's partner: half a head ahead in the first half of the head, half a head back in the other. -/
theorem pick (z : Fin 256 → EReal) (r : Fin 512) (l : Fin 256) :
    Scalar.select (k0_pay9 (ix2 r l)) (z ⟨(l.val + 256 - 224) % 256, by omega⟩) (z ⟨(l.val + 256 - 32) % 256, by omega⟩)
      = if hi : l.val % 64 < 32 then z ⟨l.val + 32, by omega⟩ else z ⟨l.val - 32, by omega⟩ := by
  by_cases hi : l.val % 64 < 32
  · rw [dif_pos hi, (half_at r l).2 hi]
    exact congrArg z (Fin.ext (by show (l.val + 256 - 224) % 256 = l.val + 32; omega))
  · rw [dif_neg hi]
    refine (if_neg fun hh => hi ((half_at r l).1 hh)).trans ?_
    exact congrArg z (Fin.ext (by show (l.val + 256 - 32) % 256 = l.val - 32; omega))

/-- The rotated queries of a tile. -/
theorem qr_at (C S z : FVec Ideal S512x256 .f32) (r : Fin 512) (l : Fin 256) :
    k0_pay11 C S k0_pay9 z 224#32 (ix3 0 r l) = mixedLane (fun i => z (ix2 r i)) (C (ix2 r l)) (S (ix2 r l)) l := by
  unfold k0_pay11 mixedLane
  pointwise
  exact congrArg (fun y : EReal => _ + y * _) (pick (fun i => z (ix2 r i)) r l)

/-- The rotated keys of a tile. -/
theorem kr_at (C S : FVec Ideal S512x256 .f32) (w : Vec Ideal S1024x256 .bf16) (r : Fin 512) (l : Fin 256) :
    k0_pay12 h C S k0_pay9 w (ix3 0 r l) = mixedLane (fun i => ∑ k : Fin 1024, h (ix2 r k) * w (ix2 k i)) (C (ix2 r l)) (S (ix2 r l)) l * Ideal.ofBits FTy.f32 0x3E000000#32 := by
  unfold k0_pay12 mixedLane
  pointwise
  exact congrArg (fun y : EReal => (_ + y * _) * _) (pick (fun i => ∑ k : Fin 1024, h (ix2 r k) * w (ix2 k i)) r l)

end Cert.ProjIdeal.Tile
-- ==== Proof.ProjRef.lean ====
/- The reference of the input projection, in named parts, each read at an index. -/
module

public import proofs.«01_k».proof.Proof.Gen.ProjRefIdeal.Run
public import Idealize.ShloMosaic.Lib.Pipeline.ValueKit
public import Idealize.ShloMosaic.Lib.Pointwise
public import Idealize.ShloMosaic.Lib.Tactic.IndexArith
public import Idealize.ShloMosaic.Lib.Tactic.WordOmega
public import Idealize.ShloMosaic.Lib.Affine

@[expose] public section

set_option maxRecDepth 16384

noncomputable section

namespace Cert.ProjRefIdeal.Read

open Cert.ProjRefIdeal Cert.ProjRefIdeal.Gen Idealize.ShloMosaic Idealize.ShloMosaic.TcCoe Idealize.SL.Sem

/-- The modulated norm of the rows. -/
def hidden (x : FVec Ideal S8x4096x1024 .f32) (sc sh : FVec Ideal S8x1x1024 .f32) (g : FVec Ideal S1x1024 .f32) : FVec Ideal S8x4096x1024 .f32 := addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh)

/-- All the projections, side by side. -/
def mixed (h : FVec Ideal S8x4096x1024 .f32) (w : FVec Ideal S1024x2816 .f32) : FVec Ideal S8x4096x2816 .f32 := Host.dotGeneral dot_S8x4096x1024_S1024x2816_S8x4096x2816_2_0_01_1_n_n none h w

/-- The scaled queries of the attention. -/
def queries (y : FVec Ideal S8x4096x2816 .f32) : FVec Ideal S8x4096x512 .bf16 := truncf .bf16 (mulf (extractStridedSlice S8x4096x512 ![0, 0, 0] y slices_S8x4096x2816_S8x4096x512_0_0_0 : FVec Ideal S8x4096x512 .f32) (broadcastInDim S8x4096x512 ![] bcast_S_S8x4096x512 (constant S_ .f32 0x3E38AA3B#32))) bitsLt_bf16_f32

/-- Its keys. -/
def keys (y : FVec Ideal S8x4096x2816 .f32) : FVec Ideal S8x4096x512 .bf16 := truncf .bf16 (extractStridedSlice S8x4096x512 ![0, 0, 512] y slices_S8x4096x2816_S8x4096x512_0_0_512 : FVec Ideal S8x4096x512 .f32) bitsLt_bf16_f32

/-- Its values. -/
def vals (y : FVec Ideal S8x4096x2816 .f32) : FVec Ideal S8x4096x512 .bf16 := truncf .bf16 (extractStridedSlice S8x4096x512 ![0, 0, 1024] y slices_S8x4096x2816_S8x4096x512_0_0_1024 : FVec Ideal S8x4096x512 .f32) bitsLt_bf16_f32

/-- The state space's inputs, time first. -/
def inputs (y : FVec Ideal S8x4096x2816 .f32) : FVec Ideal S4096x2048 .f32 := shapeCast _ (transpose S4096x8x256 [1, 0, 2] (extractStridedSlice S8x4096x256 ![0, 0, 1536] y slices_S8x4096x2816_S8x4096x256_0_0_1536 : FVec Ideal S8x4096x256 .f32) transposes_S8x4096x256_S4096x8x256_1_0_2) shapeCasts_S4096x8x256_S4096x2048

/-- The angle of every position in every pair of lanes. -/
def angle : FVec Ideal S4096x32 .f32 := mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A table of the positions, for every sequence and head. -/
def spread (a : FVec Ideal S4096x32 .f32) : FVec Ideal S8x4096x4x32 .f32 := broadcastInDim S8x4096x4x32 ![0, 1, 2, 3] bcast_S1x4096x1x32_S8x4096x4x32_0_1_2_3 (broadcastInDim S1x4096x1x32 ![1, 3] bcast_S4096x32_S1x4096x1x32_1_3 a)

/-- The rotation of the heads by the positions' angles. -/
def turned (z : FVec Ideal S8x4096x4x64 .f32) : FVec Ideal S8x4096x4x64 .f32 := concatenate S8x4096x4x64 3 [⟨S8x4096x4x32, (subf (mulf (extractStridedSlice S8x4096x4x32 ![0, 0, 0, 0] z slices_S8x4096x4x64_S8x4096x4x32_0_0_0_0) (spread (Host.cos angle))) (mulf (extractStridedSlice S8x4096x4x32 ![0, 0, 0, 32] z slices_S8x4096x4x64_S8x4096x4x32_0_0_0_32) (spread (Host.sin angle))))⟩, ⟨S8x4096x4x32, (addf (mulf (extractStridedSlice S8x4096x4x32 ![0, 0, 0, 0] z slices_S8x4096x4x64_S8x4096x4x32_0_0_0_0) (spread (Host.sin angle))) (mulf (extractStridedSlice S8x4096x4x32 ![0, 0, 0, 32] z slices_S8x4096x4x64_S8x4096x4x32_0_0_0_32) (spread (Host.cos angle))))⟩] concatenates_S8x4096x4x32_S8x4096x4x32_S8x4096x4x64_d3

/-- The retention's queries, rotated. -/
def asked (y : FVec Ideal S8x4096x2816 .f32) : FVec Ideal S8x4096x256 .bf16 := truncf .bf16 (shapeCast _ (turned (shapeCast _ (extractStridedSlice S8x4096x256 ![0, 0, 1792] y slices_S8x4096x2816_S8x4096x256_0_0_1792 : FVec Ideal S8x4096x256 .f32) shapeCasts_S8x4096x256_S8x4096x4x64)) shapeCasts_S8x4096x4x64_S8x4096x256 : FVec Ideal S8x4096x256 .f32) bitsLt_bf16_f32

/-- The retention's keys, rotated and scaled. -/
def stored (y : FVec Ideal S8x4096x2816 .f32) : FVec Ideal S8x4096x256 .bf16 := truncf .bf16 (shapeCast _ (mulf (turned (shapeCast _ (extractStridedSlice S8x4096x256 ![0, 0, 2048] y slices_S8x4096x2816_S8x4096x256_0_0_2048 : FVec Ideal S8x4096x256 .f32) shapeCasts_S8x4096x256_S8x4096x4x64)) (broadcastInDim S8x4096x4x64 ![] bcast_S_S8x4096x4x64 (constant S_ .f32 0x3E000000#32))) shapeCasts_S8x4096x4x64_S8x4096x256 : FVec Ideal S8x4096x256 .f32) bitsLt_bf16_f32

/-- The retention's values. -/
def kept (y : FVec Ideal S8x4096x2816 .f32) : FVec Ideal S8x4096x256 .bf16 := truncf .bf16 (extractStridedSlice S8x4096x256 ![0, 0, 2304] y slices_S8x4096x2816_S8x4096x256_0_0_2304 : FVec Ideal S8x4096x256 .f32) bitsLt_bf16_f32

/-- The retention's gates. -/
def gates (y : FVec Ideal S8x4096x2816 .f32) : FVec Ideal S8x4096x256 .f32 := extractStridedSlice S8x4096x256 ![0, 0, 2560] y slices_S8x4096x2816_S8x4096x256_0_0_2560

/-- The projections of an argument memory. -/
def all (m : (ℓ : Loc nD τ sig) → Buf (Elt Ideal) ℓ) (c : Dev nD) : FVec Ideal S8x4096x2816 .f32 :=
  mixed (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

/-- The rotated queries that the reference returns. -/
theorem asked_eq (m : (ℓ : Loc nD τ sig) → Buf (Elt Ideal) ℓ) (c : Dev nD) : Value.res_main_v101 m c = asked (all m c) := by
  delta Value.res_main_v101 asked turned spread angle all mixed hidden
  rfl

/-- The rotated keys that it returns. -/
theorem stored_eq (m : (ℓ : Loc nD τ sig) → Buf (Elt Ideal) ℓ) (c : Dev nD) : Value.res_main_v102 m c = stored (all m c) := by
  delta Value.res_main_v102 stored turned spread angle all mixed hidden
  rfl

/-- The reference returns the parts named here and leaves its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v98) = queries (all m c)
      ∧ r.2.mem ((c.tc : Thread nD τ).loc main_v99) = keys (all m c)
      ∧ r.2.mem ((c.tc : Thread nD τ).loc main_v100) = vals (all m c)
      ∧ r.2.mem ((c.tc : Thread nD τ).loc main_v97) = inputs (all m c)
      ∧ r.2.mem ((c.tc : Thread nD τ).loc main_v101) = asked (all m c)
      ∧ r.2.mem ((c.tc : Thread nD τ).loc main_v102) = stored (all m c)
      ∧ r.2.mem ((c.tc : Thread nD τ).loc main_v103) = kept (all m c)
      ∧ r.2.mem ((c.tc : Thread nD τ).loc main_v29) = gates (all m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run (F := Ideal) m ρ)
  obtain ⟨h0, h1, h2, h3, h4, h5, h6, h7, hk⟩ := h c
  exact ⟨h0, h1, h2, h3, h4.trans (asked_eq m c), h5.trans (stored_eq m c), h6, h7, hk⟩

variable (x : FVec Ideal S8x4096x1024 .f32) (sc sh : FVec Ideal S8x1x1024 .f32) (g : FVec Ideal S1x1024 .f32) (w : FVec Ideal S1024x2816 .f32) (h : FVec Ideal S8x4096x1024 .f32) (y : FVec Ideal S8x4096x2816 .f32)

/-- An entry of the modulated norm. -/
theorem hidden_at (b : Fin 8) (s : Fin 4096) (k : Fin 1024) :
    hidden x sc sh g (ix3 b s k) = x (ix3 b s k) * Ideal.rsqrt (Ideal.div (∑ j : Fin 1024, x (ix3 b s j) * x (ix3 b s j)) (Ideal.ofBits FTy.f32 0x44800000#32) + Ideal.ofBits FTy.f32 0x358637BD#32)
      * g (ix2 0 k) * (Ideal.ofBits FTy.f32 0x3F800000#32 + sc (ix3 b 0 k)) + sh (ix3 b 0 k) := by
  unfold hidden
  pointwise

/-- An entry of the projections. -/
theorem mixed_at (b : Fin 8) (s : Fin 4096) (l : Fin 2816) : mixed h w (ix3 b s l) = ∑ k : Fin 1024, h (ix3 b s k) * w (ix2 k l) := by
  unfold mixed
  pointwise

/-- A scaled query. -/
theorem queries_at (b : Fin 8) (s : Fin 4096) (l : Fin 512) : queries y (ix3 b s l) = y (ix3 b s ⟨l.val, by omega⟩) * Ideal.ofBits FTy.f32 0x3E38AA3B#32 := by
  unfold queries
  pointwise

/-- A key. -/
theorem keys_at (b : Fin 8) (s : Fin 4096) (l : Fin 512) : keys y (ix3 b s l) = y (ix3 b s ⟨512 + l.val, by omega⟩) := by
  unfold keys
  pointwise

/-- A value. -/
theorem vals_at (b : Fin 8) (s : Fin 4096) (l : Fin 512) : vals y (ix3 b s l) = y (ix3 b s ⟨1024 + l.val, by omega⟩) := by
  unfold vals
  pointwise

/-- A state space's input. -/
theorem inputs_at (s : Fin 4096) (l : Fin 2048) : inputs y (ix2 s l) = y (ix3 ⟨l.val / 256, by omega⟩ s ⟨1536 + l.val % 256, by omega⟩) := by
  unfold inputs
  pointwise

/-- A retention's value. -/
theorem kept_at (b : Fin 8) (s : Fin 4096) (l : Fin 256) : kept y (ix3 b s l) = y (ix3 b s ⟨2304 + l.val, by omega⟩) := by
  unfold kept
  pointwise

/-- A retention's gate. -/
theorem gates_at (b : Fin 8) (s : Fin 4096) (l : Fin 256) : gates y (ix3 b s l) = y (ix3 b s ⟨2560 + l.val, by omega⟩) := by
  unfold gates
  pointwise

/-- A table's entry, for any sequence and head. -/
theorem spread_at (a : FVec Ideal S4096x32 .f32) (b : Fin 8) (s : Fin 4096) (e : Fin 4) (i : Fin 32) : spread a (ix4 b s e i) = a (ix2 s i) := by
  unfold spread
  pointwise

/-- A rotated lane of a head. -/
theorem turned_at (z : FVec Ideal S8x4096x4x64 .f32) (b : Fin 8) (s : Fin 4096) (e : Fin 4) (i : Fin 64) :
    turned z (ix4 b s e i) = if hi : i.val < 32 then z (ix4 b s e i) * Ideal.cos (angle (ix2 s ⟨i.val, hi⟩)) - z (ix4 b s e ⟨32 + i.val, by omega⟩) * Ideal.sin (angle (ix2 s ⟨i.val, hi⟩))
      else z (ix4 b s e ⟨i.val - 32, by omega⟩) * Ideal.sin (angle (ix2 s ⟨i.val - 32, by omega⟩)) + z (ix4 b s e ⟨32 + (i.val - 32), by omega⟩) * Ideal.cos (angle (ix2 s ⟨i.val - 32, by omega⟩)) := by
  unfold turned
  pointwise [spread_at]

/-- A rotated lane, from the lanes of its row: the lane and its partner, half a head away. -/
def spun (z : Fin 256 → EReal) (s : Fin 4096) (l : Fin 256) : EReal :=
  if hi : l.val % 64 < 32 then z l * Ideal.cos (angle (ix2 s ⟨l.val % 32, by omega⟩)) - z ⟨l.val + 32, by omega⟩ * Ideal.sin (angle (ix2 s ⟨l.val % 32, by omega⟩))
  else z ⟨l.val - 32, by omega⟩ * Ideal.sin (angle (ix2 s ⟨l.val % 32, by omega⟩)) + z l * Ideal.cos (angle (ix2 s ⟨l.val % 32, by omega⟩))

/-- The rotation, its lanes numbered through the heads. -/
theorem turned_flat (z : FVec Ideal S8x4096x4x64 .f32) (z' : Fin 256 → EReal) (b : Fin 8) (s : Fin 4096) (l : Fin 256)
    (hz : ∀ (e : Fin 4) (i : Fin 64), z (ix4 b s e i) = z' ⟨64 * e.val + i.val, by omega⟩) :
    turned z (ix4 b s ⟨l.val / 64, by omega⟩ ⟨l.val % 64, by omega⟩) = spun z' s l := by
  rw [turned_at]
  unfold spun
  simp only [hz]
  by_cases h : l.val % 64 < 32
  · rw [dif_pos h, dif_pos h]
    have e1 : (⟨64 * (l.val / 64) + l.val % 64, by omega⟩ : Fin 256) = l := Fin.ext (by show 64 * (l.val / 64) + l.val % 64 = l.val; omega)
    have e2 : (⟨64 * (l.val / 64) + (32 + l.val % 64), by omega⟩ : Fin 256) = ⟨l.val + 32, by omega⟩ := Fin.ext (by show 64 * (l.val / 64) + (32 + l.val % 64) = l.val + 32; omega)
    have e3 : (⟨l.val % 64, h⟩ : Fin 32) = ⟨l.val % 32, by omega⟩ := Fin.ext (by show l.val % 64 = l.val % 32; omega)
    rw [e1, e2, e3]
  · rw [dif_neg h, dif_neg h]
    have e1 : (⟨64 * (l.val / 64) + (32 + (l.val % 64 - 32)), by omega⟩ : Fin 256) = l := Fin.ext (by show 64 * (l.val / 64) + (32 + (l.val % 64 - 32)) = l.val; omega)
    have e2 : (⟨64 * (l.val / 64) + (l.val % 64 - 32), by omega⟩ : Fin 256) = ⟨l.val - 32, by omega⟩ := Fin.ext (by show 64 * (l.val / 64) + (l.val % 64 - 32) = l.val - 32; omega)
    have e3 : (⟨l.val % 64 - 32, by omega⟩ : Fin 32) = ⟨l.val % 32, by omega⟩ := Fin.ext (by show l.val % 64 - 32 = l.val % 32; omega)
    rw [e1, e2, e3]

/-- A rotated query. -/
theorem asked_at (b : Fin 8) (s : Fin 4096) (l : Fin 256) : asked y (ix3 b s l) = spun (fun i => y (ix3 b s ⟨1792 + i.val, by omega⟩)) s l := by
  unfold asked
  pointwise
  refine turned_flat _ _ b s l fun e i => ?_
  pointwise
  exact congrArg (fun z => y (ix3 b s z)) (Fin.ext (by show 1792 + (e.val * 64 + i.val) = 1792 + (64 * e.val + i.val); omega))

/-- A rotated and scaled key. -/
theorem stored_at (b : Fin 8) (s : Fin 4096) (l : Fin 256) : stored y (ix3 b s l) = spun (fun i => y (ix3 b s ⟨2048 + i.val, by omega⟩)) s l * Ideal.ofBits FTy.f32 0x3E000000#32 := by
  unfold stored
  pointwise
  refine congrArg (fun z : EReal => z * _) (turned_flat _ _ b s l fun e i => ?_)
  pointwise
  exact congrArg (fun z => y (ix3 b s z)) (Fin.ext (by show 2048 + (e.val * 64 + i.val) = 2048 + (64 * e.val + i.val); omega))

end Cert.ProjRefIdeal.Read
-- ==== Proof.ProjHost.lean ====
/- What the projection's windows stage: the host's arrays, and their blocks, in terms of the arguments. -/
module

public import proofs.«01_k».proof.Proof.ProjTile
public import proofs.«01_k».proof.Proof.ProjRef
public import Idealize.ShloMosaic.Lib.StableHlo.ReadAt

@[expose] public section

set_option maxRecDepth 16384

noncomputable section

namespace Cert.ProjIdeal.Host

open Cert.ProjIdeal Cert.ProjIdeal.Gen Idealize.ShloMosaic Idealize.ShloMosaic.TcCoe Idealize.SL.Sem

variable (m : (ℓ : Loc nD τ sig) → Buf (Elt Ideal) ℓ) (c : Dev nD)

/-- The staged weights are the argument's. -/
theorem V_w (i : S1024x2816.Idx) : (show FVec Ideal S1024x2816 .bf16 from V m c main_v22) i = (show FVec Ideal S1024x2816 .f32 from m ((c : Thread nD τ).loc main_arg4)) i := by
  unfold V
  after_reads_at

/-- The angle of a position in a pair of lanes. -/
theorem angle_at (s : Fin 4096) (i : Fin 32) : Cert.ProjRefIdeal.Read.angle (ix2 s i)
    = (FloatOps.sitofp (F := Ideal) FTy.f32 (BitVec.ofNat 32 s.val) : EReal) * Ideal.pow (Ideal.ofBits FTy.f32 0x461C4000#32) (Ideal.div (-(FloatOps.sitofp (F := Ideal) FTy.f32 (BitVec.ofNat 32 i.val) : EReal)) (Ideal.ofBits FTy.f32 0x42000000#32)) := by
  unfold Cert.ProjRefIdeal.Read.angle
  pointwise

/-- The staged cosines. -/
theorem V_cos (s : Fin 4096) (l : Fin 256) : (show FVec Ideal S4096x256 .f32 from V m c main_v15) (ix2 s l) = Ideal.cos (Cert.ProjRefIdeal.Read.angle (ix2 s ⟨l.val % 32, by omega⟩)) := by
  unfold V
  after_reads_at
  rw [angle_at]

/-- The staged sines, of the first half of a head negated. -/
theorem V_sin (s : Fin 4096) (l : Fin 256) : (show FVec Ideal S4096x256 .f32 from V m c main_v21) (ix2 s l)
    = if l.val % 64 < 32 then -Ideal.sin (Cert.ProjRefIdeal.Read.angle (ix2 s ⟨l.val % 32, by omega⟩)) else Ideal.sin (Cert.ProjRefIdeal.Read.angle (ix2 s ⟨l.val % 32, by omega⟩)) := by
  unfold V
  after_reads_at
  by_cases h : l.val % 64 < 32
  · rw [dif_pos h, if_pos h]
    have e : (⟨l.val % 64, h⟩ : Fin 32) = ⟨l.val % 32, by omega⟩ := Fin.ext (by show l.val % 64 = l.val % 32; omega)
    rw [e, angle_at]
    after_reads_at
  · rw [dif_neg h, if_neg h]
    have e : (⟨l.val % 64 - 32, by omega⟩ : Fin 32) = ⟨l.val % 32, by omega⟩ := Fin.ext (by show l.val % 64 - 32 = l.val % 32; omega)
    rw [e, angle_at]
    after_reads_at

/-- The blocks of every grid point: eight tiles a sequence. -/
theorem idx : ∀ t : Fin cfg0.N, win0_0.index t = ![t.val / 8, t.val % 8, 0]
    ∧ win0_1.index t = ![t.val / 8, 0, 0] ∧ win0_2.index t = ![t.val / 8, 0, 0] ∧ win0_3.index t = ![0, 0] ∧ win0_4.index t = ![0, 0]
    ∧ win0_5.index t = ![t.val % 8, 0] ∧ win0_6.index t = ![t.val % 8, 0]
    ∧ win0_7.index t = ![t.val / 8, t.val % 8, 0] ∧ win0_8.index t = ![t.val / 8, t.val % 8, 0] ∧ win0_9.index t = ![t.val / 8, t.val % 8, 0]
    ∧ win0_10.index t = ![t.val % 8, t.val / 8]
    ∧ win0_11.index t = ![t.val / 8, t.val % 8, 0] ∧ win0_12.index t = ![t.val / 8, t.val % 8, 0] ∧ win0_13.index t = ![t.val / 8, t.val % 8, 0] ∧ win0_14.index t = ![t.val / 8, t.val % 8, 0] :=
  (by decide +kernel : ∀ t : Fin grid0.N, _)

variable (t : Fin cfg0.N)

/-- The sequence of a grid point. -/
theorem seq_lt : t.val / 8 < 8 := by
  have h : t.val < 64 := t.isLt
  omega

/-- The sequence of a grid point. -/
def seq : Fin 8 := ⟨t.val / 8, seq_lt t⟩

/-- The position of a tile's row. -/
def pos (r : Fin 512) : Fin 4096 := ⟨t.val % 8 * 512 + r.val, by omega⟩

/-- The staged rows are the tile's. -/
theorem x_at (r : Fin 512) (k : Fin 1024) : (show FVec Ideal S1x512x1024 .f32 from iblk m c 0 t) (ix3 0 r k)
    = (show FVec Ideal S8x4096x1024 .f32 from V m c main_arg0) (ix3 (seq t) (pos t r) k) := by
  unfold seq pos
  blk_ext [iblk, idx t]

/-- The staged factors are the sequence's. -/
theorem sc_at (k : Fin 1024) : (show FVec Ideal S1x1x1024 .f32 from iblk m c 1 t) (ix3 0 0 k)
    = (show FVec Ideal S8x1x1024 .f32 from V m c main_arg1) (ix3 (seq t) 0 k) := by
  unfold seq
  blk_ext [iblk, idx t]

/-- The staged shifts are the sequence's. -/
theorem sh_at (k : Fin 1024) : (show FVec Ideal S1x1x1024 .f32 from iblk m c 2 t) (ix3 0 0 k)
    = (show FVec Ideal S8x1x1024 .f32 from V m c main_arg2) (ix3 (seq t) 0 k) := by
  unfold seq
  blk_ext [iblk, idx t]

/-- The staged weights of the norm are the whole array. -/
theorem g_at (k : Fin 1024) : (show FVec Ideal S1x1024 .f32 from iblk m c 3 t) (ix2 0 k)
    = (show FVec Ideal S1x1024 .f32 from V m c main_arg3) (ix2 0 k) := by
  blk_ext [iblk, idx t]

/-- The staged weights of the projections are the whole array. -/
theorem w_at (k : Fin 1024) (l : Fin 2816) : (show FVec Ideal S1024x2816 .bf16 from iblk m c 4 t) (ix2 k l)
    = (show FVec Ideal S1024x2816 .bf16 from V m c main_v22) (ix2 k l) := by
  blk_ext [iblk, idx t]

/-- The staged cosines are the tile's. -/
theorem cos_at (r : Fin 512) (l : Fin 256) : (show FVec Ideal S512x256 .f32 from iblk m c 5 t) (ix2 r l)
    = (show FVec Ideal S4096x256 .f32 from V m c main_v15) (ix2 (pos t r) l) := by
  unfold pos
  blk_ext [iblk, idx t]

/-- The staged sines are the tile's. -/
theorem sin_at (r : Fin 512) (l : Fin 256) : (show FVec Ideal S512x256 .f32 from iblk m c 6 t) (ix2 r l)
    = (show FVec Ideal S4096x256 .f32 from V m c main_v21) (ix2 (pos t r) l) := by
  unfold pos
  blk_ext [iblk, idx t]

end Cert.ProjIdeal.Host
-- ==== Proof.ProjValue.lean ====
/- The projection call computes the reference's projections: every tile, then the whole arrays. -/
module

public import proofs.«01_k».proof.Proof.ProjHost

@[expose] public section

set_option maxRecDepth 16384

noncomputable section

namespace Cert.ProjIdeal.Result

open Cert.ProjIdeal Cert.ProjIdeal.Gen Idealize.ShloMosaic Idealize.ShloMosaic.TcCoe Idealize.SL.Sem Cert.ProjIdeal.Tile Cert.ProjIdeal.Host

variable (m : (ℓ : Loc nD τ sig) → Buf (Elt Ideal) ℓ) (c : Dev nD)

/-- The reference's projections of the arguments. -/
def all : FVec Ideal Cert.ProjRefIdeal.S8x4096x2816 .f32 :=
  Cert.ProjRefIdeal.Read.mixed (Cert.ProjRefIdeal.Read.hidden (m ((c : Thread nD τ).loc main_arg0)) (m ((c : Thread nD τ).loc main_arg1)) (m ((c : Thread nD τ).loc main_arg2)) (m ((c : Thread nD τ).loc main_arg3))) (m ((c : Thread nD τ).loc main_arg4))

/-- The tile's rows after the modulated norm. -/
def rows (t : Fin cfg0.N) : FVec Ideal S512x1024 .bf16 := k0_pay2 (iblk m c 0 t) (iblk m c 3 t) (iblk m c 1 t) (iblk m c 2 t)

/-- Columns of the weights, from one on. -/
def cols (w : Vec Ideal S1024x2816 .bf16) (n o : ℕ) (h : ∀ a, (![0, o] : Fin 2 → ℕ) a + (![1024, n] : Fin 2 → ℕ) a ≤ S1024x2816.size a) : (⟨2, ![1024, n]⟩ : Shape).Idx → EReal :=
  View.ld w (Rect.unit (s := S1024x2816) ![0, o] ![1024, n] h)

/-- An entry of those columns. -/
theorem cols_at (w : Vec Ideal S1024x2816 .bf16) (n o : ℕ) (h : ∀ a, (![0, o] : Fin 2 → ℕ) a + (![1024, n] : Fin 2 → ℕ) a ≤ S1024x2816.size a)
    (k : Fin 1024) (l : Fin n) (ho : o + l.val < 2816) : cols w n o h (ix2 k l) = w (ix2 k ⟨o + l.val, ho⟩) := by
  show w _ = w _
  congr 1
  funext a
  match a with
  | ⟨0, _⟩ => exact Fin.ext (by show 0 + 1 * k.val = k.val; omega)
  | ⟨1, _⟩ => exact Fin.ext (by show o + 1 * l.val = o + l.val; omega)

/-- A row of the tile is the reference's row. -/
theorem rows_at (t : Fin cfg0.N) (r : Fin 512) (k : Fin 1024) :
    rows m c t (ix2 r k) = Cert.ProjRefIdeal.Read.hidden (m ((c : Thread nD τ).loc main_arg0)) (m ((c : Thread nD τ).loc main_arg1)) (m ((c : Thread nD τ).loc main_arg2)) (m ((c : Thread nD τ).loc main_arg3)) (ix3 (seq t) (pos t r) k) := by
  have hx : ∀ k, (show FVec Ideal S1x512x1024 .f32 from iblk m c 0 t) (ix3 0 r k) = (show FVec Ideal S8x4096x1024 .f32 from m ((c : Thread nD τ).loc main_arg0)) (ix3 (seq t) (pos t r) k) := fun k => by
    rw [x_at, V_main_arg0]
  have hs : (show FVec Ideal S1x1x1024 .f32 from iblk m c 1 t) (ix3 0 0 k) = (show FVec Ideal S8x1x1024 .f32 from m ((c : Thread nD τ).loc main_arg1)) (ix3 (seq t) 0 k) := by
    rw [sc_at, V_main_arg1]
  have hh : (show FVec Ideal S1x1x1024 .f32 from iblk m c 2 t) (ix3 0 0 k) = (show FVec Ideal S8x1x1024 .f32 from m ((c : Thread nD τ).loc main_arg2)) (ix3 (seq t) 0 k) := by
    rw [sh_at, V_main_arg2]
  have hg : (show FVec Ideal S1x1024 .f32 from iblk m c 3 t) (ix2 0 k) = (show FVec Ideal S1x1024 .f32 from m ((c : Thread nD τ).loc main_arg3)) (ix2 0 k) := by
    rw [g_at, V_main_arg3]
  rw [Cert.ProjRefIdeal.Read.hidden_at]
  refine (norm_at _ _ _ _ r k).trans ?_
  refine congrArg₂ (· + ·) (congrArg₂ (· * ·) (congrArg₂ (· * ·) (congrArg₂ (· * ·) (hx k) (congrArg (fun z : EReal => Ideal.rsqrt (Ideal.div z _ + _)) (Finset.sum_congr rfl fun j _ => congrArg₂ (· * ·) (hx j) (hx j)))) hg) (congrArg (fun z : EReal => _ + z) hs)) hh

/-- A tile's row times a column of the weights is the reference's projection. -/
theorem dot_at (t : Fin cfg0.N) (n o : ℕ) (h : ∀ a, (![0, o] : Fin 2 → ℕ) a + (![1024, n] : Fin 2 → ℕ) a ≤ S1024x2816.size a) (r : Fin 512) (l : Fin n) (ho : o + l.val < 2816) :
    ∑ k : Fin 1024, rows m c t (ix2 r k) * cols (iblk m c 4 t) n o h (ix2 k l) = all m c (ix3 (seq t) (pos t r) ⟨o + l.val, ho⟩) := by
  unfold all
  rw [Cert.ProjRefIdeal.Read.mixed_at]
  refine Finset.sum_congr rfl fun k _ => congrArg₂ (· * ·) (rows_at m c t r k) ?_
  exact (cols_at _ n o h k l ho).trans ((w_at m c t k _).trans (V_w m c _))

/-- An index of a block of rows is a row and a lane. -/
theorem split3 {n : ℕ} (y : (⟨3, ![1, 512, n]⟩ : Shape).Idx) : ∃ (r : Fin 512) (l : Fin n), y = ix3 0 r l :=
  ⟨⟨(y 1).val, (y 1).isLt⟩, ⟨(y 2).val, (y 2).isLt⟩, by
    funext a
    match a with
    | ⟨0, _⟩ => exact Subsingleton.elim (α := Fin 1) _ _
    | ⟨1, _⟩ => rfl
    | ⟨2, _⟩ => rfl⟩

/-- The tile's rows, as the later parts of the body take them. -/
theorem pay15_eq (x0 : Vec Ideal S1x512x1024 .f32) (x1 x2 : Vec Ideal S1x1x1024 .f32) (x3 : Vec Ideal S1x1024 .f32) (x4 : Vec Ideal S1024x2816 .bf16) (x5 x6 : Vec Ideal S512x256 .f32) :
    k0_pay15 x0 x1 x2 x3 x4 x5 x6 = k0_pay2 x0 x3 x1 x2 := by
  unfold k0_pay15 r0_0 r0_1 r0_2
  rw [View.ld_unit_zero (S := S1x512x1024) (by decide), View.ld_unit_zero (S := S1x1024) (by decide), View.ld_unit_zero (S := S1x1x1024) (by decide), View.ld_unit_zero (S := S1x1x1024) (by decide)]

/-- The table of cosines, as the rotations take it. -/
theorem pay16_at (x0 : Vec Ideal S1x512x1024 .f32) (x1 x2 : Vec Ideal S1x1x1024 .f32) (x3 : Vec Ideal S1x1024 .f32) (x4 : Vec Ideal S1024x2816 .bf16) (x5 x6 : Vec Ideal S512x256 .f32) (r : Fin 512) (l : Fin 256) :
    k0_pay16 x0 x1 x2 x3 x4 x5 x6 (ix2 r l) = x5 (ix2 r l) := by
  unfold k0_pay16 k0_pay7 r0_8
  rw [View.ld_unit_zero (S := S512x256) (by decide)]
  pointwise

/-- The table of sines. -/
theorem pay17_at (x0 : Vec Ideal S1x512x1024 .f32) (x1 x2 : Vec Ideal S1x1x1024 .f32) (x3 : Vec Ideal S1x1024 .f32) (x4 : Vec Ideal S1024x2816 .bf16) (x5 x6 : Vec Ideal S512x256 .f32) (r : Fin 512) (l : Fin 256) :
    k0_pay17 x0 x1 x2 x3 x4 x5 x6 (ix2 r l) = x6 (ix2 r l) := by
  unfold k0_pay17 k0_pay8 r0_8
  rw [View.ld_unit_zero (S := S512x256) (by decide)]
  pointwise

/-- The scaled queries of the attention. -/
theorem queries : (dats m 0 c).arrAt 7 cfg0.N = Cert.ProjRefIdeal.Read.queries (all m c) := by
  refine (dats m 0 c).arrAt_eq_of_covers 7 _ (by decide +kernel) fun t _ y => ?_
  blk_simp
  rw [after0_7]
  obtain ⟨r, l, hy⟩ := split3 y
  subst hy
  frame_out
  refine Eq.trans (b := Cert.ProjRefIdeal.Read.queries (all m c) (ix3 (seq t) (pos t r) l)) ?_ (by unfold seq pos; blk_ext [idx t])
  rw [Cert.ProjRefIdeal.Read.queries_at]
  refine (qa_at _ _ _ _ _ r l).trans (congrArg (fun z : EReal => z * _) ?_)
  exact (dot_at m c t 512 0 inb_S1024x2816_S1024x512_0_0 r l (by omega)).trans (congrArg (fun z => all m c (ix3 (seq t) (pos t r) z)) (Fin.ext (Nat.zero_add _)))

/-- Its keys. -/
theorem keys : (dats m 0 c).arrAt 8 cfg0.N = Cert.ProjRefIdeal.Read.keys (all m c) := by
  refine (dats m 0 c).arrAt_eq_of_covers 8 _ (by decide +kernel) fun t _ y => ?_
  blk_simp
  rw [after0_8]
  obtain ⟨r, l, hy⟩ := split3 y
  subst hy
  frame_out
  refine Eq.trans (b := Cert.ProjRefIdeal.Read.keys (all m c) (ix3 (seq t) (pos t r) l)) ?_ (by unfold seq pos; blk_ext [idx t])
  rw [Cert.ProjRefIdeal.Read.keys_at]
  refine (ka_at _ _ r l).trans ?_
  rw [pay15_eq]
  exact dot_at m c t 512 512 inb_S1024x2816_S1024x512_0_512 r l (by omega)

/-- Its values. -/
theorem vals : (dats m 0 c).arrAt 9 cfg0.N = Cert.ProjRefIdeal.Read.vals (all m c) := by
  refine (dats m 0 c).arrAt_eq_of_covers 9 _ (by decide +kernel) fun t _ y => ?_
  blk_simp
  rw [after0_9]
  obtain ⟨r, l, hy⟩ := split3 y
  subst hy
  frame_out
  refine Eq.trans (b := Cert.ProjRefIdeal.Read.vals (all m c) (ix3 (seq t) (pos t r) l)) ?_ (by unfold seq pos; blk_ext [idx t])
  rw [Cert.ProjRefIdeal.Read.vals_at]
  refine (va_at _ _ r l).trans ?_
  rw [pay15_eq]
  exact dot_at m c t 512 1024 inb_S1024x2816_S1024x512_0_1024 r l (by omega)

/-- The retention's values. -/
theorem kept : (dats m 0 c).arrAt 13 cfg0.N = Cert.ProjRefIdeal.Read.kept (all m c) := by
  refine (dats m 0 c).arrAt_eq_of_covers 13 _ (by decide +kernel) fun t _ y => ?_
  blk_simp
  rw [after0_13]
  obtain ⟨r, l, hy⟩ := split3 y
  subst hy
  frame_out
  refine Eq.trans (b := Cert.ProjRefIdeal.Read.kept (all m c) (ix3 (seq t) (pos t r) l)) ?_ (by unfold seq pos; blk_ext [idx t])
  rw [Cert.ProjRefIdeal.Read.kept_at]
  refine (vr_at _ _ r l).trans ?_
  rw [pay15_eq]
  exact dot_at m c t 256 2304 inb_S1024x2816_S1024x256_0_2304 r l (by omega)

/-- The retention's gates. -/
theorem gates : (dats m 0 c).arrAt 14 cfg0.N = Cert.ProjRefIdeal.Read.gates (all m c) := by
  refine (dats m 0 c).arrAt_eq_of_covers 14 _ (by decide +kernel) fun t _ y => ?_
  blk_simp
  rw [after0_14]
  obtain ⟨r, l, hy⟩ := split3 y
  subst hy
  frame_out
  refine Eq.trans (b := Cert.ProjRefIdeal.Read.gates (all m c) (ix3 (seq t) (pos t r) l)) ?_ (by unfold seq pos; blk_ext [idx t])
  rw [Cert.ProjRefIdeal.Read.gates_at]
  refine (gr_at _ _ r l).trans ?_
  rw [pay15_eq]
  exact dot_at m c t 256 2560 inb_S1024x2816_S1024x256_0_2560 r l (by omega)

/-- The state space's inputs, time first. -/
theorem inputs : (dats m 0 c).arrAt 10 cfg0.N = Cert.ProjRefIdeal.Read.inputs (all m c) := by
  refine (dats m 0 c).arrAt_eq_of_covers 10 _ (by decide +kernel) fun t _ y => ?_
  blk_simp
  rw [after0_10]
  obtain ⟨r, l, hy⟩ : ∃ (r : Fin 512) (l : Fin 256), y = ix2 r l := ⟨⟨(y 0).val, (y 0).isLt⟩, ⟨(y 1).val, (y 1).isLt⟩, by
    funext a
    match a with
    | ⟨0, _⟩ => rfl
    | ⟨1, _⟩ => rfl⟩
  subst hy
  frame_out
  have ht := seq_lt t
  refine Eq.trans (b := Cert.ProjRefIdeal.Read.inputs (all m c) (ix2 (pos t r) ⟨t.val / 8 * 256 + l.val, by omega⟩)) ?_ (by unfold pos; blk_ext [idx t])
  rw [Cert.ProjRefIdeal.Read.inputs_at]
  refine (us_at _ _ r l).trans ?_
  rw [pay15_eq]
  refine (dot_at m c t 256 1536 inb_S1024x2816_S1024x256_0_1536 r l (by omega)).trans ?_
  have e1 : seq t = ⟨(t.val / 8 * 256 + l.val) / 256, by omega⟩ := Fin.ext (by show t.val / 8 = (t.val / 8 * 256 + l.val) / 256; omega)
  have e2 : (⟨1536 + l.val, by omega⟩ : Fin 2816) = ⟨1536 + (t.val / 8 * 256 + l.val) % 256, by omega⟩ := Fin.ext (by show 1536 + l.val = 1536 + (t.val / 8 * 256 + l.val) % 256; omega)
  rw [e1, e2]

/-- A lane rotated by the staged tables is the reference's rotated lane. -/
theorem lane_eq (t : Fin cfg0.N) (r : Fin 512) (l : Fin 256) (z : Fin 256 → EReal) :
    mixedLane z ((show FVec Ideal S512x256 .f32 from iblk m c 5 t) (ix2 r l)) ((show FVec Ideal S512x256 .f32 from iblk m c 6 t) (ix2 r l)) l = Cert.ProjRefIdeal.Read.spun z (pos t r) l := by
  rw [cos_at, sin_at, V_cos, V_sin]
  unfold mixedLane Cert.ProjRefIdeal.Read.spun
  by_cases h : l.val % 64 < 32
  · rw [dif_pos h, if_pos h, dif_pos h, mul_neg, sub_eq_add_neg]
  · rw [dif_neg h, if_neg h, dif_neg h, add_comm]

/-- The retention's rotated queries. -/
theorem asked : (dats m 0 c).arrAt 11 cfg0.N = Cert.ProjRefIdeal.Read.asked (all m c) := by
  refine (dats m 0 c).arrAt_eq_of_covers 11 _ (by decide +kernel) fun t _ y => ?_
  blk_simp
  rw [after0_11]
  obtain ⟨r, l, hy⟩ := split3 y
  subst hy
  frame_out
  refine Eq.trans (b := Cert.ProjRefIdeal.Read.asked (all m c) (ix3 (seq t) (pos t r) l)) ?_ (by unfold seq pos; blk_ext [idx t])
  rw [Cert.ProjRefIdeal.Read.asked_at]
  refine (qr_at _ _ _ r l).trans ?_
  rw [pay15_eq, pay16_at, pay17_at]
  refine (lane_eq m c t r l _).trans (congrArg (fun z => Cert.ProjRefIdeal.Read.spun z (pos t r) l) (funext fun i => ?_))
  refine (zr_at _ _ r i).trans ?_
  exact dot_at m c t 256 1792 inb_S1024x2816_S1024x256_0_1792 r i (by omega)

/-- The retention's rotated and scaled keys. -/
theorem stored : (dats m 0 c).arrAt 12 cfg0.N = Cert.ProjRefIdeal.Read.stored (all m c) := by
  refine (dats m 0 c).arrAt_eq_of_covers 12 _ (by decide +kernel) fun t _ y => ?_
  blk_simp
  rw [after0_12]
  obtain ⟨r, l, hy⟩ := split3 y
  subst hy
  frame_out
  refine Eq.trans (b := Cert.ProjRefIdeal.Read.stored (all m c) (ix3 (seq t) (pos t r) l)) ?_ (by unfold seq pos; blk_ext [idx t])
  rw [Cert.ProjRefIdeal.Read.stored_at]
  refine (kr_at _ _ _ _ r l).trans (congrArg (fun z : EReal => z * _) ?_)
  rw [pay15_eq, pay16_at, pay17_at]
  refine (lane_eq m c t r l _).trans (congrArg (fun z => Cert.ProjRefIdeal.Read.spun z (pos t r) l) (funext fun i => ?_))
  exact dot_at m c t 256 2048 inb_S1024x2816_S1024x256_0_2048 r i (by omega)

end Cert.ProjIdeal.Result
-- ==== Proof.OutIdealFrame.lean ====
/- The output projection's body and its frame: what a point of the grid leaves in each of the three results' buffers, told from the inputs'
   blocks, that the body leaves just that, and that the call from any memory ends with every argument unchanged. -/
module

public import proofs.«01_k».proof.Proof.Gen.OutIdeal.Frame
public import Idealize.ShloMosaic.Lib.Pipeline.Quiescent
public import Idealize.ShloMosaic.Lib.Exec
public import Idealize.ShloMosaic.Lib.Claim
public import proofs.«01_k».proof.Proof.Gen.OutIdeal.Skeleton

@[expose] public section

set_option maxRecDepth 16384

noncomputable section

namespace Cert.OutIdeal.Tile

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rows of the stream, all of them. -/
abbrev wide : Rect S1x512x1024 := (Rect.unit (s := S1x512x1024) ![0, 0, 0] S1x512x1024.size inb_S1x512x1024_S1x512x1024_0_0_0)
/-- The rows' choices, all of them. -/
abbrev picks : Rect S1x512x128 := (Rect.unit (s := S1x512x128) ![0, 0, 0] S1x512x128.size inb_S1x512x128_S1x512x128_0_0_0)
/-- The eighth part of a tile whose rows leave the remainder `k`. -/
abbrev eighth (k : Fin 8) : Rect S4096x128 := ⟨⟨![k.val, 0], S512x128.size, ![8, 1], by fin_cases k <;> decide⟩, spos_8_1⟩

/-- The body's new rows of the stream, -/
def rows (x0 : Vec F S1x512x1024 .f32) (x1 : Vec F S1x512x512 .bf16) (x2 : Vec F S512x256 .bf16) (x3 : Vec F S1x512x256 .bf16) (x4 : Vec F S1024x1024 .bf16) (x5 : Vec F S1x1x1024 .f32) (x6 : Vec F S1x1x1024 .f32) (x7 : Vec F S1x1x1024 .f32) (x8 : Vec F S1x1024 .f32) (x9 : Vec F S1024x256 .bf16) (x10 : Vec F S1x128 .f32) : FVec F S512x1024 .f32 :=
  k0_pay2 (View.ld x1 (Rect.unit (s := S1x512x512) ![0, 0, 0] S1x512x512.size inb_S1x512x512_S1x512x512_0_0_0)) (View.ld x4 (Rect.unit (s := S1024x1024) ![0, 0] S512x1024.size inb_S1024x1024_S512x1024_0_0))
    (View.ld x2 (Rect.unit (s := S512x256) ![0, 0] S512x256.size inb_S512x256_S512x256_0_0)) (View.ld x4 (Rect.unit (s := S1024x1024) ![512, 0] S256x1024.size inb_S1024x1024_S256x1024_512_0))
    (View.ld x3 (Rect.unit (s := S1x512x256) ![0, 0, 0] S1x512x256.size inb_S1x512x256_S1x512x256_0_0_0)) (View.ld x4 (Rect.unit (s := S1024x1024) ![768, 0] S256x1024.size inb_S1024x1024_S256x1024_768_0))
    (View.ld x0 (Rect.unit (s := S1x512x1024) ![0, 0, 0] S1x512x1024.size inb_S1x512x1024_S1x512x1024_0_0_0)) (View.ld x5 (Rect.unit (s := S1x1x1024) ![0, 0, 0] S1x1x1024.size inb_S1x1x1024_S1x1x1024_0_0_0))

/-- the same as the body stores them, -/
def stream (x0 : Vec F S1x512x1024 .f32) (x1 : Vec F S1x512x512 .bf16) (x2 : Vec F S512x256 .bf16) (x3 : Vec F S1x512x256 .bf16) (x4 : Vec F S1024x1024 .bf16) (x5 : Vec F S1x1x1024 .f32) (x6 : Vec F S1x1x1024 .f32) (x7 : Vec F S1x1x1024 .f32) (x8 : Vec F S1x1024 .f32) (x9 : Vec F S1024x256 .bf16) (x10 : Vec F S1x128 .f32) : Vec F S1x512x1024 .f32 :=
  View.canon [⟨wide, k0_pay3 (View.ld x1 (Rect.unit (s := S1x512x512) ![0, 0, 0] S1x512x512.size inb_S1x512x512_S1x512x512_0_0_0)) (View.ld x4 (Rect.unit (s := S1024x1024) ![0, 0] S512x1024.size inb_S1024x1024_S512x1024_0_0))
    (View.ld x2 (Rect.unit (s := S512x256) ![0, 0] S512x256.size inb_S512x256_S512x256_0_0)) (View.ld x4 (Rect.unit (s := S1024x1024) ![512, 0] S256x1024.size inb_S1024x1024_S256x1024_512_0))
    (View.ld x3 (Rect.unit (s := S1x512x256) ![0, 0, 0] S1x512x256.size inb_S1x512x256_S1x512x256_0_0_0)) (View.ld x4 (Rect.unit (s := S1024x1024) ![768, 0] S256x1024.size inb_S1024x1024_S256x1024_768_0))
    (View.ld x0 (Rect.unit (s := S1x512x1024) ![0, 0, 0] S1x512x1024.size inb_S1x512x1024_S1x512x1024_0_0_0)) (View.ld x5 (Rect.unit (s := S1x1x1024) ![0, 0, 0] S1x1x1024.size inb_S1x1x1024_S1x1x1024_0_0_0))⟩]

/-- their modulated norm, -/
def level (x0 : Vec F S1x512x1024 .f32) (x1 : Vec F S1x512x512 .bf16) (x2 : Vec F S512x256 .bf16) (x3 : Vec F S1x512x256 .bf16) (x4 : Vec F S1024x1024 .bf16) (x5 : Vec F S1x1x1024 .f32) (x6 : Vec F S1x1x1024 .f32) (x7 : Vec F S1x1x1024 .f32) (x8 : Vec F S1x1024 .f32) (x9 : Vec F S1024x256 .bf16) (x10 : Vec F S1x128 .f32) : FVec F S512x1024 .f32 :=
  k0_pay4 (rows x0 x1 x2 x3 x4 x5 x6 x7 x8 x9 x10) (View.ld x8 (Rect.unit (s := S1x1024) ![0, 0] S1x1024.size inb_S1x1024_S1x1024_0_0)) (View.ld x6 (Rect.unit (s := S1x1x1024) ![0, 0, 0] S1x1x1024.size inb_S1x1x1024_S1x1x1024_0_0_0)) (View.ld x7 (Rect.unit (s := S1x1x1024) ![0, 0, 0] S1x1x1024.size inb_S1x1x1024_S1x1x1024_0_0_0))

/-- the norm's eight strided stores, the last one first, -/
def stores (x0 : Vec F S1x512x1024 .f32) (x1 : Vec F S1x512x512 .bf16) (x2 : Vec F S512x256 .bf16) (x3 : Vec F S1x512x256 .bf16) (x4 : Vec F S1024x1024 .bf16) (x5 : Vec F S1x1x1024 .f32) (x6 : Vec F S1x1x1024 .f32) (x7 : Vec F S1x1x1024 .f32) (x8 : Vec F S1x1024 .f32) (x9 : Vec F S1024x256 .bf16) (x10 : Vec F S1x128 .f32) : List (View.Piece (Elt F) S4096x128 .f32) :=
  [⟨eighth 7, k0_pay12 (level x0 x1 x2 x3 x4 x5 x6 x7 x8 x9 x10)⟩, ⟨eighth 6, k0_pay11 (level x0 x1 x2 x3 x4 x5 x6 x7 x8 x9 x10)⟩,
   ⟨eighth 5, k0_pay10 (rows x0 x1 x2 x3 x4 x5 x6 x7 x8 x9 x10) (View.ld x8 (Rect.unit (s := S1x1024) ![0, 0] S1x1024.size inb_S1x1024_S1x1024_0_0)) (View.ld x6 (Rect.unit (s := S1x1x1024) ![0, 0, 0] S1x1x1024.size inb_S1x1x1024_S1x1x1024_0_0_0)) (View.ld x7 (Rect.unit (s := S1x1x1024) ![0, 0, 0] S1x1x1024.size inb_S1x1x1024_S1x1x1024_0_0_0))⟩,
   ⟨eighth 4, k0_pay9 (rows x0 x1 x2 x3 x4 x5 x6 x7 x8 x9 x10) (View.ld x8 (Rect.unit (s := S1x1024) ![0, 0] S1x1024.size inb_S1x1024_S1x1024_0_0)) (View.ld x6 (Rect.unit (s := S1x1x1024) ![0, 0, 0] S1x1x1024.size inb_S1x1x1024_S1x1x1024_0_0_0)) (View.ld x7 (Rect.unit (s := S1x1x1024) ![0, 0, 0] S1x1x1024.size inb_S1x1x1024_S1x1x1024_0_0_0))⟩,
   ⟨eighth 3, k0_pay8 (rows x0 x1 x2 x3 x4 x5 x6 x7 x8 x9 x10) (View.ld x8 (Rect.unit (s := S1x1024) ![0, 0] S1x1024.size inb_S1x1024_S1x1024_0_0)) (View.ld x6 (Rect.unit (s := S1x1x1024) ![0, 0, 0] S1x1x1024.size inb_S1x1x1024_S1x1x1024_0_0_0)) (View.ld x7 (Rect.unit (s := S1x1x1024) ![0, 0, 0] S1x1x1024.size inb_S1x1x1024_S1x1x1024_0_0_0))⟩,
   ⟨eighth 2, k0_pay7 (rows x0 x1 x2 x3 x4 x5 x6 x7 x8 x9 x10) (View.ld x8 (Rect.unit (s := S1x1024) ![0, 0] S1x1024.size inb_S1x1024_S1x1024_0_0)) (View.ld x6 (Rect.unit (s := S1x1x1024) ![0, 0, 0] S1x1x1024.size inb_S1x1x1024_S1x1x1024_0_0_0)) (View.ld x7 (Rect.unit (s := S1x1x1024) ![0, 0, 0] S1x1x1024.size inb_S1x1x1024_S1x1x1024_0_0_0))⟩,
   ⟨eighth 1, k0_pay6 (rows x0 x1 x2 x3 x4 x5 x6 x7 x8 x9 x10) (View.ld x8 (Rect.unit (s := S1x1024) ![0, 0] S1x1024.size inb_S1x1024_S1x1024_0_0)) (View.ld x6 (Rect.unit (s := S1x1x1024) ![0, 0, 0] S1x1x1024.size inb_S1x1x1024_S1x1x1024_0_0_0)) (View.ld x7 (Rect.unit (s := S1x1x1024) ![0, 0, 0] S1x1x1024.size inb_S1x1x1024_S1x1x1024_0_0_0))⟩,
   ⟨eighth 0, k0_pay5 (rows x0 x1 x2 x3 x4 x5 x6 x7 x8 x9 x10) (View.ld x8 (Rect.unit (s := S1x1024) ![0, 0] S1x1024.size inb_S1x1024_S1x1024_0_0)) (View.ld x6 (Rect.unit (s := S1x1x1024) ![0, 0, 0] S1x1x1024.size inb_S1x1x1024_S1x1x1024_0_0_0)) (View.ld x7 (Rect.unit (s := S1x1x1024) ![0, 0, 0] S1x1x1024.size inb_S1x1x1024_S1x1x1024_0_0_0))⟩]

/-- what they make of a tile, -/
def normed (x0 : Vec F S1x512x1024 .f32) (x1 : Vec F S1x512x512 .bf16) (x2 : Vec F S512x256 .bf16) (x3 : Vec F S1x512x256 .bf16) (x4 : Vec F S1024x1024 .bf16) (x5 : Vec F S1x1x1024 .f32) (x6 : Vec F S1x1x1024 .f32) (x7 : Vec F S1x1x1024 .f32) (x8 : Vec F S1x1024 .f32) (x9 : Vec F S1024x256 .bf16) (x10 : Vec F S1x128 .f32) : Vec F S4096x128 .f32 := View.canon (stores x0 x1 x2 x3 x4 x5 x6 x7 x8 x9 x10)

/-- the experts' scores and what the search for the largest ones begins with, -/
def scores (x0 : Vec F S1x512x1024 .f32) (x1 : Vec F S1x512x512 .bf16) (x2 : Vec F S512x256 .bf16) (x3 : Vec F S1x512x256 .bf16) (x4 : Vec F S1024x1024 .bf16) (x5 : Vec F S1x1x1024 .f32) (x6 : Vec F S1x1x1024 .f32) (x7 : Vec F S1x1x1024 .f32) (x8 : Vec F S1x1024 .f32) (x9 : Vec F S1024x256 .bf16) (x10 : Vec F S1x128 .f32) : FVec F S512x128 .f32 :=
  k0_pay13 (level x0 x1 x2 x3 x4 x5 x6 x7 x8 x9 x10) (View.ld x9 (Rect.unit (s := S1024x256) ![0, 0] S1024x256.size inb_S1024x256_S1024x256_0_0)) (View.ld x9 (Rect.unit (s := S1024x256) ![0, 0] S1024x256.size inb_S1024x256_S1024x256_0_0)) (View.ld x10 (Rect.unit (s := S1x128) ![0, 0] S1x128.size inb_S1x128_S1x128_0_0))
def peak (x0 : Vec F S1x512x1024 .f32) (x1 : Vec F S1x512x512 .bf16) (x2 : Vec F S512x256 .bf16) (x3 : Vec F S1x512x256 .bf16) (x4 : Vec F S1024x1024 .bf16) (x5 : Vec F S1x1x1024 .f32) (x6 : Vec F S1x1x1024 .f32) (x7 : Vec F S1x1x1024 .f32) (x8 : Vec F S1x1024 .f32) (x9 : Vec F S1024x256 .bf16) (x10 : Vec F S1x128 .f32) : FVec F S512x1 .f32 :=
  k0_pay17 (level x0 x1 x2 x3 x4 x5 x6 x7 x8 x9 x10) (View.ld x9 (Rect.unit (s := S1024x256) ![0, 0] S1024x256.size inb_S1024x256_S1024x256_0_0)) (View.ld x9 (Rect.unit (s := S1024x256) ![0, 0] S1024x256.size inb_S1024x256_S1024x256_0_0)) (View.ld x10 (Rect.unit (s := S1x128) ![0, 0] S1x128.size inb_S1x128_S1x128_0_0))
def mark (x0 : Vec F S1x512x1024 .f32) (x1 : Vec F S1x512x512 .bf16) (x2 : Vec F S512x256 .bf16) (x3 : Vec F S1x512x256 .bf16) (x4 : Vec F S1024x1024 .bf16) (x5 : Vec F S1x1x1024 .f32) (x6 : Vec F S1x1x1024 .f32) (x7 : Vec F S1x1x1024 .f32) (x8 : Vec F S1x1024 .f32) (x9 : Vec F S1024x256 .bf16) (x10 : Vec F S1x128 .f32) : FVec F S512x128 .f32 :=
  k0_pay15 (level x0 x1 x2 x3 x4 x5 x6 x7 x8 x9 x10) (View.ld x9 (Rect.unit (s := S1024x256) ![0, 0] S1024x256.size inb_S1024x256_S1024x256_0_0)) (View.ld x9 (Rect.unit (s := S1024x256) ![0, 0] S1024x256.size inb_S1024x256_S1024x256_0_0)) (View.ld x10 (Rect.unit (s := S1x128) ![0, 0] S1x128.size inb_S1x128_S1x128_0_0))
def place (x0 : Vec F S1x512x1024 .f32) (x1 : Vec F S1x512x512 .bf16) (x2 : Vec F S512x256 .bf16) (x3 : Vec F S1x512x256 .bf16) (x4 : Vec F S1024x1024 .bf16) (x5 : Vec F S1x1x1024 .f32) (x6 : Vec F S1x1x1024 .f32) (x7 : Vec F S1x1x1024 .f32) (x8 : Vec F S1x1024 .f32) (x9 : Vec F S1024x256 .bf16) (x10 : Vec F S1x128 .f32) : FVec F S512x128 .f32 :=
  k0_pay18 (level x0 x1 x2 x3 x4 x5 x6 x7 x8 x9 x10) (View.ld x9 (Rect.unit (s := S1024x256) ![0, 0] S1024x256.size inb_S1024x256_S1024x256_0_0)) (View.ld x9 (Rect.unit (s := S1024x256) ![0, 0] S1024x256.size inb_S1024x256_S1024x256_0_0)) (View.ld x10 (Rect.unit (s := S1x128) ![0, 0] S1x128.size inb_S1x128_S1x128_0_0))

/-- and the rows' choices of experts. -/
def choice (x0 : Vec F S1x512x1024 .f32) (x1 : Vec F S1x512x512 .bf16) (x2 : Vec F S512x256 .bf16) (x3 : Vec F S1x512x256 .bf16) (x4 : Vec F S1024x1024 .bf16) (x5 : Vec F S1x1x1024 .f32) (x6 : Vec F S1x1x1024 .f32) (x7 : Vec F S1x1x1024 .f32) (x8 : Vec F S1x1024 .f32) (x9 : Vec F S1024x256 .bf16) (x10 : Vec F S1x128 .f32) : Vec F S1x512x128 .f32 :=
  View.canon [⟨picks, k0_pay1 k0_pay14 (k0_pay22 (scores x0 x1 x2 x3 x4 x5 x6 x7 x8 x9 x10) k0_pay14 (peak x0 x1 x2 x3 x4 x5 x6 x7 x8 x9 x10)) (k0_pay25 (scores x0 x1 x2 x3 x4 x5 x6 x7 x8 x9 x10) k0_pay14 (peak x0 x1 x2 x3 x4 x5 x6 x7 x8 x9 x10))
    (k0_pay26 (scores x0 x1 x2 x3 x4 x5 x6 x7 x8 x9 x10) k0_pay14 (peak x0 x1 x2 x3 x4 x5 x6 x7 x8 x9 x10)) (k0_pay27 (scores x0 x1 x2 x3 x4 x5 x6 x7 x8 x9 x10) k0_pay14 (mark x0 x1 x2 x3 x4 x5 x6 x7 x8 x9 x10) (peak x0 x1 x2 x3 x4 x5 x6 x7 x8 x9 x10) (place x0 x1 x2 x3 x4 x5 x6 x7 x8 x9 x10))
    (k0_pay28 (scores x0 x1 x2 x3 x4 x5 x6 x7 x8 x9 x10) k0_pay14 (mark x0 x1 x2 x3 x4 x5 x6 x7 x8 x9 x10) (peak x0 x1 x2 x3 x4 x5 x6 x7 x8 x9 x10) (place x0 x1 x2 x3 x4 x5 x6 x7 x8 x9 x10)) (Scalar.ofBits .f32 0x3F800000#32)⟩]

/-- One store of the whole block covers it, for the stream -/
theorem cover_wide (p : Vec F S1x512x1024 .f32) (y : S1x512x1024.Idx) : ∃ pc ∈ ([⟨wide, p⟩] : List (View.Piece (Elt F) S1x512x1024 .f32)), y ∈ pc.1.set :=
  View.cover_of_tiled [⟨wide, p⟩] S1x512x1024.size (by rfl) y
/-- and for the choices; -/
theorem cover_picks (p : Vec F S1x512x128 .f32) (y : S1x512x128.Idx) : ∃ pc ∈ ([⟨picks, p⟩] : List (View.Piece (Elt F) S1x512x128 .f32)), y ∈ pc.1.set :=
  View.cover_of_tiled [⟨picks, p⟩] S1x512x128.size (by rfl) y

/-- every row of a tile is in the eighth that its remainder names, -/
theorem mem_eighth (y : S4096x128.Idx) (k : Fin 8) (h : (y 0).val % 8 = k.val) : y ∈ (eighth k).set := by
  have hy0 : (y 0).val < 4096 := (y 0).isLt
  rw [LoadRect.mem_set]
  intro a
  fin_cases a
  · refine ⟨(y 0).val / 8, ?_, ?_⟩
    · show (y 0).val / 8 < 512
      omega
    · show (y 0).val = k.val + 8 * ((y 0).val / 8)
      omega
  · refine ⟨(y 1).val, (y 1).isLt, ?_⟩
    show (y 1).val = 0 + 1 * (y 1).val
    omega

/-- and the eight strided stores cover a tile. -/
theorem cover_eighths (p0 : FVec F S512x128 .f32) (p1 : FVec F S512x128 .f32) (p2 : FVec F S512x128 .f32) (p3 : FVec F S512x128 .f32) (p4 : FVec F S512x128 .f32) (p5 : FVec F S512x128 .f32) (p6 : FVec F S512x128 .f32) (p7 : FVec F S512x128 .f32) (y : S4096x128.Idx) :
    ∃ pc ∈ ([⟨eighth 7, p7⟩, ⟨eighth 6, p6⟩, ⟨eighth 5, p5⟩, ⟨eighth 4, p4⟩, ⟨eighth 3, p3⟩, ⟨eighth 2, p2⟩, ⟨eighth 1, p1⟩, ⟨eighth 0, p0⟩] : List (View.Piece (Elt F) S4096x128 .f32)), y ∈ pc.1.set := by
  obtain ⟨k, hk⟩ : ∃ k : Fin 8, (y 0).val % 8 = k.val := ⟨⟨(y 0).val % 8, Nat.mod_lt _ (by decide)⟩, rfl⟩
  have hm := mem_eighth y k hk
  fin_cases k
  · exact ⟨⟨eighth 0, p0⟩, by simp, hm⟩
  · exact ⟨⟨eighth 1, p1⟩, by simp, hm⟩
  · exact ⟨⟨eighth 2, p2⟩, by simp, hm⟩
  · exact ⟨⟨eighth 3, p3⟩, by simp, hm⟩
  · exact ⟨⟨eighth 4, p4⟩, by simp, hm⟩
  · exact ⟨⟨eighth 5, p5⟩, by simp, hm⟩
  · exact ⟨⟨eighth 6, p6⟩, by simp, hm⟩
  · exact ⟨⟨eighth 7, p7⟩, by simp, hm⟩

set_option maxHeartbeats 4000000 in
/-- The body, on any whole buffers that hold the inputs' blocks, keeps these and leaves the three results'. -/
theorem body_runs (c : Dev nD) (i : grid0.Coords) (b0 : Memref sig .tc .vmem S1x512x1024 .f32) (h0 : b0.IsWhole) (b1 : Memref sig .tc .vmem S1x512x512 .bf16) (h1 : b1.IsWhole) (b2 : Memref sig .tc .vmem S512x256 .bf16) (h2 : b2.IsWhole) (b3 : Memref sig .tc .vmem S1x512x256 .bf16) (h3 : b3.IsWhole) (b4 : Memref sig .tc .vmem S1024x1024 .bf16) (h4 : b4.IsWhole) (b5 : Memref sig .tc .vmem S1x1x1024 .f32) (h5 : b5.IsWhole) (b6 : Memref sig .tc .vmem S1x1x1024 .f32) (h6 : b6.IsWhole) (b7 : Memref sig .tc .vmem S1x1x1024 .f32) (h7 : b7.IsWhole) (b8 : Memref sig .tc .vmem S1x1024 .f32) (h8 : b8.IsWhole) (b9 : Memref sig .tc .vmem S1024x256 .bf16) (h9 : b9.IsWhole) (b10 : Memref sig .tc .vmem S1x128 .f32) (h10 : b10.IsWhole) (b11 : Memref sig .tc .vmem S1x512x1024 .f32) (h11 : b11.IsWhole) (b12 : Memref sig .tc .vmem S4096x128 .f32) (h12 : b12.IsWhole) (b13 : Memref sig .tc .vmem S1x512x128 .f32) (h13 : b13.IsWhole) (x0 : Vec F S1x512x1024 .f32) (x1 : Vec F S1x512x512 .bf16) (x2 : Vec F S512x256 .bf16) (x3 : Vec F S1x512x256 .bf16) (x4 : Vec F S1024x1024 .bf16) (x5 : Vec F S1x1x1024 .f32) (x6 : Vec F S1x1x1024 .f32) (x7 : Vec F S1x1x1024 .f32) (x8 : Vec F S1x1024 .f32) (x9 : Vec F S1024x256 .bf16) (x10 : Vec F S1x128 .f32)
    (K : PUnit → sProp (MT nD τ sig Unit (Elt F) ℕ (UR sig nD τ) ℕ)) :
    iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6 ∗ owns (c : Thread nD τ) b7 fullShare x7 ∗ owns (c : Thread nD τ) b8 fullShare x8 ∗ owns (c : Thread nD τ) b9 fullShare x9 ∗ owns (c : Thread nD τ) b10 fullShare x10
        ∗ (∃ d, owns (c : Thread nD τ) b11 fullShare d) ∗ (∃ d, owns (c : Thread nD τ) b12 fullShare d) ∗ (∃ d, owns (c : Thread nD τ) b13 fullShare d)
        ∗ (iprop(owns (c : Thread nD τ) b0 fullShare x0 ∗ owns (c : Thread nD τ) b1 fullShare x1 ∗ owns (c : Thread nD τ) b2 fullShare x2 ∗ owns (c : Thread nD τ) b3 fullShare x3 ∗ owns (c : Thread nD τ) b4 fullShare x4 ∗ owns (c : Thread nD τ) b5 fullShare x5 ∗ owns (c : Thread nD τ) b6 fullShare x6 ∗ owns (c : Thread nD τ) b7 fullShare x7 ∗ owns (c : Thread nD τ) b8 fullShare x8 ∗ owns (c : Thread nD τ) b9 fullShare x9 ∗ owns (c : Thread nD τ) b10 fullShare x10
            ∗ owns (c : Thread nD τ) b11 fullShare (stream x0 x1 x2 x3 x4 x5 x6 x7 x8 x9 x10) ∗ owns (c : Thread nD τ) b12 fullShare (normed x0 x1 x2 x3 x4 x5 x6 x7 x8 x9 x10) ∗ owns (c : Thread nD τ) b13 fullShare (choice x0 x1 x2 x3 x4 x5 x6 x7 x8 x9 x10)) -∗ K ⟨⟩))
      ⊢ wp frame (wpE (defs₀ (F := F)) Variants.none c none) Set.univ (cc0_outproj_router i b0 h0 b1 h1 b2 h2 b3 h3 b4 h4 b5 h5 b6 h6 b7 h7 b8 h8 b9 h9 b10 h10 b11 h11 b12 h12 b13 h13) K := by
  simp only [cc0_outproj_router_eq_skeleton]; unfold cc0_outproj_router_skel
  simp only [k0_part1_eq_skeleton, k0_part2_eq_skeleton, k0_part3_eq_skeleton, k0_part4_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, ⟨%d13, %f13, -, H13⟩, Hk⟩
  subst e0 e1 e2 e3 e4 e5 e6 e7 e8 e9 e10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact (View.read_writes_eq_canon _ _ _ (cover_wide _)).trans rfl
  isplitl [H12]
  · iexists _; isplitr
    swap; · iexact H12
    ipureintro
    exact (View.read_writes_eq_canon _ _ _ (cover_eighths _ _ _ _ _ _ _ _)).trans rfl
  iexists _; isplitr
  swap; · iexact H13
  ipureintro
  exact (View.read_writes_eq_canon _ _ _ (cover_picks _)).trans rfl

variable (m : (ℓ : Loc nD τ sig) → Buf (Elt F) ℓ) (ρ : Dev nD → PrngReg)

/-- What the pipeline's data are on a core: the arrays as the call finds them, each input's block kept, each result's as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => stream (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => normed (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => choice (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The data's arrays are those that the call finds. -/
theorem found (c : Dev nD) (w : Fin cfg0.W) : (dats m 0 c).A w = V m c (Pipeline.arrRef spec0 w) := by dsimp only [dats]

/-- After the body each input's buffer has its block, -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
/-- and each result's what the body leaves. -/
theorem after_11 (c : Dev nD) (t : Fin cfg0.N) : (dats m 0 c).after 11 t = stream (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after_12 (c : Dev nD) (t : Fin cfg0.N) : (dats m 0 c).after 12 t = normed (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after_13 (c : Dev nD) (t : Fin cfg0.N) : (dats m 0 c).after 13 t = choice (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Before the body each input's buffer has its block. -/
theorem before_0 (c : Dev nD) (t : Fin cfg0.N) (d) : (dats m 0 c).before 0 t d = iblk m c 0 t := before0_0_of m (dats m 0 c) (found m c 0) (after_0 m c) t d
theorem before_1 (c : Dev nD) (t : Fin cfg0.N) (d) : (dats m 0 c).before 1 t d = iblk m c 1 t := before0_1_of m (dats m 0 c) (found m c 1) (after_1 m c) t d
theorem before_2 (c : Dev nD) (t : Fin cfg0.N) (d) : (dats m 0 c).before 2 t d = iblk m c 2 t := before0_2_of m (dats m 0 c) (found m c 2) (after_2 m c) t d
theorem before_3 (c : Dev nD) (t : Fin cfg0.N) (d) : (dats m 0 c).before 3 t d = iblk m c 3 t := before0_3_of m (dats m 0 c) (found m c 3) (after_3 m c) t d
theorem before_4 (c : Dev nD) (t : Fin cfg0.N) (d) : (dats m 0 c).before 4 t d = iblk m c 4 t := before0_4_of m (dats m 0 c) (found m c 4) (after_4 m c) t d
theorem before_5 (c : Dev nD) (t : Fin cfg0.N) (d) : (dats m 0 c).before 5 t d = iblk m c 5 t := before0_5_of m (dats m 0 c) (found m c 5) (after_5 m c) t d
theorem before_6 (c : Dev nD) (t : Fin cfg0.N) (d) : (dats m 0 c).before 6 t d = iblk m c 6 t := before0_6_of m (dats m 0 c) (found m c 6) (after_6 m c) t d
theorem before_7 (c : Dev nD) (t : Fin cfg0.N) (d) : (dats m 0 c).before 7 t d = iblk m c 7 t := before0_7_of m (dats m 0 c) (found m c 7) (after_7 m c) t d
theorem before_8 (c : Dev nD) (t : Fin cfg0.N) (d) : (dats m 0 c).before 8 t d = iblk m c 8 t := before0_8_of m (dats m 0 c) (found m c 8) (after_8 m c) t d
theorem before_9 (c : Dev nD) (t : Fin cfg0.N) (d) : (dats m 0 c).before 9 t d = iblk m c 9 t := before0_9_of m (dats m 0 c) (found m c 9) (after_9 m c) t d
theorem before_10 (c : Dev nD) (t : Fin cfg0.N) (d) : (dats m 0 c).before 10 t d = iblk m c 10 t := before0_10_of m (dats m 0 c) (found m c 10) (after_10 m c) t d

set_option maxHeartbeats 1000000 in
/-- The body at a point keeps the pipeline's bargain. -/
theorem sound (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d))
        ∗ (∃ d, owns (c : Thread nD τ) (st0_8 t) fullShare ((dats m 0 c).before 8 t d))
        ∗ (∃ d, owns (c : Thread nD τ) (st0_9 t) fullShare ((dats m 0 c).before 9 t d))
        ∗ (∃ d, owns (c : Thread nD τ) (st0_10 t) fullShare ((dats m 0 c).before 10 t d))
        ∗ (∃ d, owns (c : Thread nD τ) (st0_11 t) fullShare ((dats m 0 c).before 11 t d))
        ∗ (∃ d, owns (c : Thread nD τ) (st0_12 t) fullShare ((dats m 0 c).before 12 t d))
        ∗ (∃ d, owns (c : Thread nD τ) (st0_13 t) fullShare ((dats m 0 c).before 13 t d)))
      ⊢ wp frame (wpE (defs₀ (F := F)) Variants.none c none) Set.univ (bodyAt0 t) fun _ =>
        iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t)
        ∗ owns (c : Thread nD τ) (st0_8 t) fullShare ((dats m 0 c).after 8 t)
        ∗ owns (c : Thread nD τ) (st0_9 t) fullShare ((dats m 0 c).after 9 t)
        ∗ owns (c : Thread nD τ) (st0_10 t) fullShare ((dats m 0 c).after 10 t)
        ∗ owns (c : Thread nD τ) (st0_11 t) fullShare ((dats m 0 c).after 11 t)
        ∗ owns (c : Thread nD τ) (st0_12 t) fullShare ((dats m 0 c).after 12 t)
        ∗ owns (c : Thread nD τ) (st0_13 t) fullShare ((dats m 0 c).after 13 t)) := by
  unfold bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_runs c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The same, as the pipeline asks for it. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound m c t) rfl .rfl fun _ => .rfl

set_option backward.isDefEq.respectTransparency.types false in
set_option maxHeartbeats 800000 in
/-- The call from any memory: it ends, every array is as the points leave it, and every semaphore is at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := found m) (hΦ := fun _ _ => rfl)

/-- The frame: the arguments are unchanged, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (found m) ((θ_run defs _ _).mono (fun _ h => h.1) (run m ρ))) ((θ_run defs _ _).mono (fun _ h => h.2) (run m ρ))

end Cert.OutIdeal.Tile

end
-- ==== Proof.OutTile.lean ====
/- The output projection's tile at an index of its blocks: the stream's rows, and their modulated norm as the eight stores lay it out. -/
module

public import proofs.«01_k».proof.Proof.OutIdealFrame
public import Idealize.ShloMosaic.Lib.Pipeline.ValueKit
public import Idealize.ShloMosaic.Lib.Pointwise
public import Idealize.ShloMosaic.Lib.Tactic.IndexArith
public import Idealize.ShloMosaic.Lib.Tactic.WordOmega
public import Idealize.ShloMosaic.Lib.Affine

@[expose] public section

set_option maxRecDepth 16384

noncomputable section

namespace Cert.OutIdeal.Tile

open Cert.OutIdeal Cert.OutIdeal.Gen Idealize.ShloMosaic Idealize.ShloMosaic.TcCoe Idealize.SL.Sem

/-- The new rows of a tile, from what the body loads. -/
theorem pay2_at (v0 : Vec Ideal S1x512x512 .bf16) (v2 : Vec Ideal S512x1024 .bf16) (v5 : Vec Ideal S512x256 .bf16) (v7 : Vec Ideal S256x1024 .bf16) (v11 : Vec Ideal S1x512x256 .bf16) (v13 : Vec Ideal S256x1024 .bf16)
    (v17 : Vec Ideal S1x512x1024 .f32) (v19 : Vec Ideal S1x1x1024 .f32) (r : Fin 512) (k : Fin 1024) :
    k0_pay2 v0 v2 v5 v7 v11 v13 v17 v19 (ix2 r k) = v17 (ix3 0 r k) + v19 (ix3 0 0 k) * ((∑ i : Fin 512, v0 (ix3 0 r i) * v2 (ix2 i k)) + (∑ i : Fin 256, v5 (ix2 r i) * v7 (ix2 i k)) + ∑ i : Fin 256, v11 (ix3 0 r i) * v13 (ix2 i k)) := by
  unfold k0_pay2
  pointwise

/-- The same as they are stored. -/
theorem pay3_at (v0 : Vec Ideal S1x512x512 .bf16) (v2 : Vec Ideal S512x1024 .bf16) (v5 : Vec Ideal S512x256 .bf16) (v7 : Vec Ideal S256x1024 .bf16) (v11 : Vec Ideal S1x512x256 .bf16) (v13 : Vec Ideal S256x1024 .bf16)
    (v17 : Vec Ideal S1x512x1024 .f32) (v19 : Vec Ideal S1x1x1024 .f32) (r : Fin 512) (k : Fin 1024) :
    k0_pay3 v0 v2 v5 v7 v11 v13 v17 v19 (ix3 0 r k) = k0_pay2 v0 v2 v5 v7 v11 v13 v17 v19 (ix2 r k) := by
  unfold k0_pay3
  generalize k0_pay2 v0 v2 v5 v7 v11 v13 v17 v19 = z
  pointwise

/-- Their modulated norm. -/
theorem pay4_at (v : FVec Ideal S512x1024 .f32) (g : Vec Ideal S1x1024 .f32) (sc sh : Vec Ideal S1x1x1024 .f32) (r : Fin 512) (k : Fin 1024) :
    k0_pay4 v g sc sh (ix2 r k) = v (ix2 r k) * Ideal.rsqrt (Ideal.div (∑ j : Fin 1024, v (ix2 r j) * v (ix2 r j)) (Ideal.ofBits FTy.f32 0x44800000#32) + Ideal.ofBits FTy.f32 0x358637BD#32)
      * g (ix2 0 k) * (Ideal.ofBits FTy.f32 0x3F800000#32 + sc (ix3 0 0 k)) + sh (ix3 0 0 k) := by
  unfold k0_pay4
  pointwise

/-- An entry of some rows of the weights. -/
theorem band_at (w : Vec Ideal S1024x1024 .bf16) (n o : ℕ) (h : ∀ a, (![o, 0] : Fin 2 → ℕ) a + (![n, 1024] : Fin 2 → ℕ) a ≤ S1024x1024.size a) (i : Fin n) (k : Fin 1024) (ho : o + i.val < 1024) :
    (View.ld w (Rect.unit (s := S1024x1024) ![o, 0] ![n, 1024] h) : (⟨2, ![n, 1024]⟩ : Shape).Idx → EReal) (ix2 i k) = w (ix2 ⟨o + i.val, ho⟩ k) := by
  show w _ = w _
  congr 1
  funext a
  match a with
  | ⟨0, _⟩ => exact Fin.ext (by show o + 1 * i.val = o + i.val; omega)
  | ⟨1, _⟩ => exact Fin.ext (by show 0 + 1 * k.val = k.val; omega)

variable (x0 : Vec Ideal S1x512x1024 .f32) (x1 : Vec Ideal S1x512x512 .bf16) (x2 : Vec Ideal S512x256 .bf16) (x3 : Vec Ideal S1x512x256 .bf16) (x4 : Vec Ideal S1024x1024 .bf16) (x5 x6 x7 : Vec Ideal S1x1x1024 .f32)
  (x8 : Vec Ideal S1x1024 .f32) (x9 : Vec Ideal S1024x256 .bf16) (x10 : Vec Ideal S1x128 .f32)

/-- The new rows of a tile, from its blocks. -/
theorem rows_at (r : Fin 512) (k : Fin 1024) : rows x0 x1 x2 x3 x4 x5 x6 x7 x8 x9 x10 (ix2 r k)
    = x0 (ix3 0 r k) + x5 (ix3 0 0 k) * ((∑ i : Fin 512, x1 (ix3 0 r i) * x4 (ix2 ⟨i.val, by omega⟩ k)) + (∑ i : Fin 256, x2 (ix2 r i) * x4 (ix2 ⟨512 + i.val, by omega⟩ k)) + ∑ i : Fin 256, x3 (ix3 0 r i) * x4 (ix2 ⟨768 + i.val, by omega⟩ k)) := by
  unfold rows
  rw [View.ld_unit_zero (S := S1x512x512) (by decide), View.ld_unit_zero (S := S512x256) (by decide), View.ld_unit_zero (S := S1x512x256) (by decide), View.ld_unit_zero (S := S1x512x1024) (by decide), View.ld_unit_zero (S := S1x1x1024) (by decide)]
  refine (pay2_at _ _ _ _ _ _ _ _ r k).trans (congrArg (fun z : EReal => _ + _ * z) (congrArg₂ (· + ·) (congrArg₂ (· + ·) ?_ ?_) ?_))
  · exact Finset.sum_congr rfl fun i _ => congrArg (fun z : EReal => _ * z) ((band_at x4 512 0 inb_S1024x1024_S512x1024_0_0 i k (by omega)).trans (congrArg (fun z => x4 (ix2 z k)) (Fin.ext (Nat.zero_add _))))
  · exact Finset.sum_congr rfl fun i _ => congrArg (fun z : EReal => _ * z) (band_at x4 256 512 inb_S1024x1024_S256x1024_512_0 i k (by omega))
  · exact Finset.sum_congr rfl fun i _ => congrArg (fun z : EReal => _ * z) (band_at x4 256 768 inb_S1024x1024_S256x1024_768_0 i k (by omega))

/-- What the body stores of the stream is these rows. -/
theorem stream_at (r : Fin 512) (k : Fin 1024) : stream x0 x1 x2 x3 x4 x5 x6 x7 x8 x9 x10 (ix3 0 r k) = rows x0 x1 x2 x3 x4 x5 x6 x7 x8 x9 x10 (ix2 r k) := by
  unfold stream rows
  rw [View.canon_unit_zero (S := S1x512x1024) (by decide)]
  exact pay3_at _ _ _ _ _ _ _ _ r k

/-- The modulated norm of the new rows. -/
theorem level_at (r : Fin 512) (k : Fin 1024) : level x0 x1 x2 x3 x4 x5 x6 x7 x8 x9 x10 (ix2 r k)
    = rows x0 x1 x2 x3 x4 x5 x6 x7 x8 x9 x10 (ix2 r k) * Ideal.rsqrt (Ideal.div (∑ j : Fin 1024, rows x0 x1 x2 x3 x4 x5 x6 x7 x8 x9 x10 (ix2 r j) * rows x0 x1 x2 x3 x4 x5 x6 x7 x8 x9 x10 (ix2 r j)) (Ideal.ofBits FTy.f32 0x44800000#32) + Ideal.ofBits FTy.f32 0x358637BD#32)
      * x8 (ix2 0 k) * (Ideal.ofBits FTy.f32 0x3F800000#32 + x6 (ix3 0 0 k)) + x7 (ix3 0 0 k) := by
  unfold level
  rw [View.ld_unit_zero (S := S1x1024) (by decide), View.ld_unit_zero (S := S1x1x1024) (by decide), View.ld_unit_zero (S := S1x1x1024) (by decide)]
  exact pay4_at _ _ _ _ r k

/-- The norm's entries, laid out as the tile is: eight of its rows to one of the model's. -/
def folded (v : FVec Ideal S512x1024 .f32) : S4096x128.Idx → EReal := fun y =>
  v (ix2 ⟨(y 0).val / 8, by have : (y 0).val < 4096 := (y 0).isLt; omega⟩ ⟨128 * ((y 0).val % 8) + (y 1).val, by have : (y 1).val < 128 := (y 1).isLt; omega⟩)

/-- A slice of lanes, stored at every eighth row, is the tile's. -/
theorem slice_at (v : FVec Ideal S512x1024 .f32) (k : Fin 8) (o : ℕ) (ho : o = 128 * k.val) (h : S512x1024.Slices ![0, o] S512x128) (x : S512x128.Idx) :
    (extractStridedSlice S512x128 ![0, o] v h : FVec Ideal S512x128 .f32) x = folded v ((eighth k).emb x) := by
  have h0 : (x 0).val < 512 := (x 0).isLt
  have h1 : (x 1).val < 128 := (x 1).isLt
  have hk : k.val < 8 := k.isLt
  unfold folded
  refine congrArg v (funext fun a => Fin.ext ?_)
  match a with
  | ⟨0, _⟩ =>
    show 0 + (x 0).val = (k.val + 8 * (x 0).val) / 8
    omega
  | ⟨1, _⟩ =>
    show o + (x 1).val = 128 * ((k.val + 8 * (x 0).val) % 8) + (0 + 1 * (x 1).val)
    omega

/-- What the eight stores make of a tile is the norm, so laid out. -/
theorem normed_eq : normed x0 x1 x2 x3 x4 x5 x6 x7 x8 x9 x10 = folded (level x0 x1 x2 x3 x4 x5 x6 x7 x8 x9 x10) := by
  funext y
  unfold normed
  refine View.canon_apply_of_pieces (Val := Elt Ideal) (e := .f32) (folded (level x0 x1 x2 x3 x4 x5 x6 x7 x8 x9 x10)) _ ?_ y (cover_eighths _ _ _ _ _ _ _ _ y)
  intro p hp
  simp only [stores, List.mem_cons, List.not_mem_nil, or_false] at hp
  rcases hp with rfl | rfl | rfl | rfl | rfl | rfl | rfl | rfl <;> intro x
  · exact slice_at (level x0 x1 x2 x3 x4 x5 x6 x7 x8 x9 x10) 7 896 rfl slices_S512x1024_o0_896_S512x128 x
  · exact slice_at (level x0 x1 x2 x3 x4 x5 x6 x7 x8 x9 x10) 6 768 rfl slices_S512x1024_o0_768_S512x128 x
  · exact slice_at (level x0 x1 x2 x3 x4 x5 x6 x7 x8 x9 x10) 5 640 rfl slices_S512x1024_o0_640_S512x128 x
  · exact slice_at (level x0 x1 x2 x3 x4 x5 x6 x7 x8 x9 x10) 4 512 rfl slices_S512x1024_o0_512_S512x128 x
  · exact slice_at (level x0 x1 x2 x3 x4 x5 x6 x7 x8 x9 x10) 3 384 rfl slices_S512x1024_o0_384_S512x128 x
  · exact slice_at (level x0 x1 x2 x3 x4 x5 x6 x7 x8 x9 x10) 2 256 rfl slices_S512x1024_o0_256_S512x128 x
  · exact slice_at (level x0 x1 x2 x3 x4 x5 x6 x7 x8 x9 x10) 1 128 rfl slices_S512x1024_o0_128_S512x128 x
  · exact slice_at (level x0 x1 x2 x3 x4 x5 x6 x7 x8 x9 x10) 0 0 rfl slices_S512x1024_o0_0_S512x128 x

end Cert.OutIdeal.Tile

end
-- ==== Proof.OutRef.lean ====
/- The reference of the output projection, in named parts, each read at an index. -/
module

public import proofs.«01_k».proof.Proof.Gen.OutRefIdeal.Run
public import Idealize.ShloMosaic.Lib.Pipeline.ValueKit
public import Idealize.ShloMosaic.Lib.Pointwise
public import Idealize.ShloMosaic.Lib.Tactic.IndexArith
public import Idealize.ShloMosaic.Lib.Tactic.WordOmega
public import Idealize.ShloMosaic.Lib.Affine

@[expose] public section

set_option maxRecDepth 16384

noncomputable section

namespace Cert.OutRefIdeal.Read

open Cert.OutRefIdeal Cert.OutRefIdeal.Gen Idealize.ShloMosaic Idealize.ShloMosaic.TcCoe Idealize.SL.Sem

/-- The three mixers' outputs, side by side. -/
def side (ya : FVec Ideal S8x4096x512 .f32) (ys : FVec Ideal S4096x2048 .f32) (yr : FVec Ideal S8x4096x256 .f32) : FVec Ideal S8x4096x1024 .f32 :=
  ((concatenate S8x4096x1024 2 [⟨S8x4096x512, (ya : (⟨S8x4096x512, .f32⟩ : BufTy).Contents (Elt Ideal))⟩, ⟨S8x4096x256, ((transpose S8x4096x256 [1, 0, 2] (shapeCast _ ys shapeCasts_S4096x2048_S4096x8x256) transposes_S4096x8x256_S8x4096x256_1_0_2) : (⟨S8x4096x256, .f32⟩ : BufTy).Contents (Elt Ideal))⟩, ⟨S8x4096x256, (yr : (⟨S8x4096x256, .f32⟩ : BufTy).Contents (Elt Ideal))⟩] concatenates_S8x4096x512_S8x4096x256_S8x4096x256_S8x4096x1024_d2 : (⟨S8x4096x1024, .f32⟩ : BufTy).Contents (Elt Ideal)))

/-- The stream after the mixers: the rows and the gated projection of what the mixers give. -/
def stream (x : FVec Ideal S8x4096x1024 .f32) (ya : FVec Ideal S8x4096x512 .f32) (ys : FVec Ideal S4096x2048 .f32) (yr : FVec Ideal S8x4096x256 .f32) (w : FVec Ideal S1024x1024 .f32)
    (g1 : FVec Ideal S8x1x1024 .f32) : FVec Ideal S8x4096x1024 .f32 :=
  addf x (mulf (broadcastInDim S8x4096x1024 ![0, 1, 2] bcast_S8x1x1024_S8x4096x1024_0_1_2 g1) (Host.dotGeneral dot_S8x4096x1024_S1024x1024_S8x4096x1024_2_0_01_1_n_n none (side ya ys yr) w))

/-- The modulated norm of the stream's rows. -/
def hidden (x : FVec Ideal S8x4096x1024 .f32) (sc sh : FVec Ideal S8x1x1024 .f32) (g : FVec Ideal S1x1024 .f32) : FVec Ideal S8x4096x1024 .f32 := addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh)

/-- The rows cut into eight parts of 128 lanes, one part below the other. -/
def parts (h : FVec Ideal S8x4096x1024 .f32) : FVec Ideal S262144x128 .f32 := shapeCast _ h shapeCasts_S8x4096x1024_S262144x128

/-- The stream that an argument memory gives. -/
def all (m : (ℓ : Loc nD τ sig) → Buf (Elt Ideal) ℓ) (c : Dev nD) : FVec Ideal S8x4096x1024 .f32 :=
  stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The reference returns the parts named here and leaves its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = all m c
      ∧ r.2.mem ((c.tc : Thread nD τ).loc main_v27) = parts (hidden (all m c) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ?_) (Value.run (F := Ideal) m ρ)
  obtain ⟨h0, h1, hk⟩ := h c
  exact ⟨h0, h1, hk⟩

variable (x : FVec Ideal S8x4096x1024 .f32) (ya : FVec Ideal S8x4096x512 .f32) (ys : FVec Ideal S4096x2048 .f32) (yr : FVec Ideal S8x4096x256 .f32) (w : FVec Ideal S1024x1024 .f32)
  (g1 sc sh : FVec Ideal S8x1x1024 .f32) (g : FVec Ideal S1x1024 .f32)

/-- A lane of the attention's output, -/
theorem side_a (b : Fin 8) (s : Fin 4096) (i : Fin 512) : side ya ys yr (ix3 b s ⟨i.val, by omega⟩) = ya (ix3 b s i) := by
  have h : i.val < 512 := i.isLt
  unfold side
  pointwise

/-- of the state space's -/
theorem side_s (b : Fin 8) (s : Fin 4096) (i : Fin 256) : side ya ys yr (ix3 b s ⟨512 + i.val, by omega⟩) = ys (ix2 s ⟨256 * b.val + i.val, by omega⟩) := by
  have h : ¬ 512 + i.val < 512 := by omega
  have h' : 512 + i.val - 512 < 256 := by omega
  unfold side
  pointwise
  exact congrArg (fun z => ys (ix2 s z)) (Fin.ext (by show b.val * 256 + i.val = 256 * b.val + i.val; omega))

/-- and of the retention's. -/
theorem side_r (b : Fin 8) (s : Fin 4096) (i : Fin 256) : side ya ys yr (ix3 b s ⟨768 + i.val, by omega⟩) = yr (ix3 b s i) := by
  have h : ¬ 768 + i.val < 512 := by omega
  have h' : ¬ 768 + i.val - 512 < 256 := by omega
  unfold side
  pointwise
  rw [dif_neg h, dif_neg h']
  exact congrArg (fun z => yr (ix3 b s z)) (Fin.ext (by show 768 + i.val - 512 - 256 = i.val; omega))

/-- A sum over the model's width, in the three mixers' parts. -/
theorem three (f : Fin 1024 → EReal) : ∑ k, f k = (∑ i : Fin 512, f ⟨i.val, by omega⟩) + (∑ i : Fin 256, f ⟨512 + i.val, by omega⟩) + ∑ i : Fin 256, f ⟨768 + i.val, by omega⟩ :=
  (Fin.sum_univ_add (a := 768) (b := 256) f).trans (congrArg (fun z : EReal => z + _) (Fin.sum_univ_add (a := 512) (b := 256) fun i : Fin 768 => f ⟨i.val, by omega⟩))

/-- An entry of the stream. -/
theorem stream_at (b : Fin 8) (s : Fin 4096) (l : Fin 1024) : stream x ya ys yr w g1 (ix3 b s l)
    = x (ix3 b s l) + g1 (ix3 b 0 l) * ((∑ i : Fin 512, ya (ix3 b s i) * w (ix2 ⟨i.val, by omega⟩ l)) + (∑ i : Fin 256, ys (ix2 s ⟨256 * b.val + i.val, by omega⟩) * w (ix2 ⟨512 + i.val, by omega⟩ l))
      + ∑ i : Fin 256, yr (ix3 b s i) * w (ix2 ⟨768 + i.val, by omega⟩ l)) := by
  have e : stream x ya ys yr w g1 (ix3 b s l) = x (ix3 b s l) + g1 (ix3 b 0 l) * ∑ k : Fin 1024, side ya ys yr (ix3 b s k) * w (ix2 k l) := by
    unfold stream
    generalize side ya ys yr = z
    pointwise
  rw [e, three]
  simp only [side_a, side_s, side_r]

/-- An entry of the modulated norm. -/
theorem hidden_at (b : Fin 8) (s : Fin 4096) (k : Fin 1024) :
    hidden x sc sh g (ix3 b s k) = x (ix3 b s k) * Ideal.rsqrt (Ideal.div (∑ j : Fin 1024, x (ix3 b s j) * x (ix3 b s j)) (Ideal.ofBits FTy.f32 0x44800000#32) + Ideal.ofBits FTy.f32 0x358637BD#32)
      * g (ix2 0 k) * (Ideal.ofBits FTy.f32 0x3F800000#32 + sc (ix3 b 0 k)) + sh (ix3 b 0 k) := by
  unfold hidden
  pointwise

/-- A lane of a row's part. -/
theorem parts_at (b : Fin 8) (s : Fin 4096) (e : Fin 8) (l : Fin 128) :
    parts x (ix2 ⟨(b.val * 4096 + s.val) * 8 + e.val, by omega⟩ l) = x (ix3 b s ⟨128 * e.val + l.val, by omega⟩) := by
  unfold parts
  pointwise
  exact congrArg (fun z => x (ix3 b s z)) (Fin.ext (by show ((b.val * 4096 + s.val) * 8 + e.val) % 8 * 128 + l.val = 128 * e.val + l.val; omega))

end Cert.OutRefIdeal.Read

end
-- ==== Proof.OutValue.lean ====
/- The output projection's call computes the reference's stream and its modulated norm: every tile, then the whole arrays. -/
module

public import proofs.«01_k».proof.Proof.OutTile
public import proofs.«01_k».proof.Proof.OutRef
public import Idealize.ShloMosaic.Lib.StableHlo.ReadAt

@[expose] public section

set_option maxRecDepth 16384

noncomputable section

namespace Cert.OutIdeal.Result

open Cert.OutIdeal Cert.OutIdeal.Gen Idealize.ShloMosaic Idealize.ShloMosaic.TcCoe Idealize.SL.Sem Cert.OutIdeal.Tile

variable (m : (ℓ : Loc nD τ sig) → Buf (Elt Ideal) ℓ) (c : Dev nD)

/-- The staged outputs of the attention are the argument's, -/
theorem V_ya (i : S8x4096x512.Idx) : (show FVec Ideal S8x4096x512 .bf16 from V m c main_v9) i = (show FVec Ideal S8x4096x512 .f32 from m ((c : Thread nD τ).loc main_arg1)) i := by
  unfold V
  after_reads_at

/-- those of the state space, -/
theorem V_ys (i : S4096x2048.Idx) : (show FVec Ideal S4096x2048 .bf16 from V m c main_v10) i = (show FVec Ideal S4096x2048 .f32 from m ((c : Thread nD τ).loc main_arg2)) i := by
  unfold V
  after_reads_at

/-- those of the retention -/
theorem V_yr (i : S8x4096x256.Idx) : (show FVec Ideal S8x4096x256 .bf16 from V m c main_v11) i = (show FVec Ideal S8x4096x256 .f32 from m ((c : Thread nD τ).loc main_arg3)) i := by
  unfold V
  after_reads_at

/-- and the weights. -/
theorem V_w (i : S1024x1024.Idx) : (show FVec Ideal S1024x1024 .bf16 from V m c main_v12) i = (show FVec Ideal S1024x1024 .f32 from m ((c : Thread nD τ).loc main_arg4)) i := by
  unfold V
  after_reads_at

/-- The blocks of every grid point: eight tiles a sequence. -/
theorem idx : ∀ t : Fin cfg0.N, win0_0.index t = ![t.val / 8, t.val % 8, 0] ∧ win0_1.index t = ![t.val / 8, t.val % 8, 0] ∧ win0_2.index t = ![t.val % 8, t.val / 8] ∧ win0_3.index t = ![t.val / 8, t.val % 8, 0]
    ∧ win0_4.index t = ![0, 0] ∧ win0_5.index t = ![t.val / 8, 0, 0] ∧ win0_6.index t = ![t.val / 8, 0, 0] ∧ win0_7.index t = ![t.val / 8, 0, 0] ∧ win0_8.index t = ![0, 0]
    ∧ win0_11.index t = ![t.val / 8, t.val % 8, 0] ∧ win0_12.index t = ![t.val, 0] :=
  (by decide +kernel : ∀ t : Fin grid0.N, _)

variable (t : Fin cfg0.N)

/-- The sequence of a grid point is one of the eight. -/
theorem seq_lt : t.val / 8 < 8 := by
  have h : t.val < 64 := t.isLt
  omega

/-- The sequence of a grid point. -/
def seq : Fin 8 := ⟨t.val / 8, seq_lt t⟩

/-- The position of a tile's row. -/
def pos (r : Fin 512) : Fin 4096 := ⟨t.val % 8 * 512 + r.val, by omega⟩

/-- The staged rows are the tile's, -/
theorem x_at (r : Fin 512) (k : Fin 1024) : (show FVec Ideal S1x512x1024 .f32 from iblk m c 0 t) (ix3 0 r k)
    = (show FVec Ideal S8x4096x1024 .f32 from V m c main_arg0) (ix3 (seq t) (pos t r) k) := by
  unfold seq pos
  blk_ext [iblk, idx t]

/-- the attention's too, -/
theorem ya_at (r : Fin 512) (i : Fin 512) : (show FVec Ideal S1x512x512 .bf16 from iblk m c 1 t) (ix3 0 r i)
    = (show FVec Ideal S8x4096x512 .bf16 from V m c main_v9) (ix3 (seq t) (pos t r) i) := by
  unfold seq pos
  blk_ext [iblk, idx t]

/-- the state space's, time first, -/
theorem ys_at (r : Fin 512) (i : Fin 256) : (show FVec Ideal S512x256 .bf16 from iblk m c 2 t) (ix2 r i)
    = (show FVec Ideal S4096x2048 .bf16 from V m c main_v10) (ix2 (pos t r) ⟨256 * (seq t).val + i.val, by have := (seq t).isLt; omega⟩) := by
  unfold seq pos
  blk_ext [iblk, idx t]

/-- and the retention's. -/
theorem yr_at (r : Fin 512) (i : Fin 256) : (show FVec Ideal S1x512x256 .bf16 from iblk m c 3 t) (ix3 0 r i)
    = (show FVec Ideal S8x4096x256 .bf16 from V m c main_v11) (ix3 (seq t) (pos t r) i) := by
  unfold seq pos
  blk_ext [iblk, idx t]

/-- The staged weights are the whole array. -/
theorem w_at (k l : Fin 1024) : (show FVec Ideal S1024x1024 .bf16 from iblk m c 4 t) (ix2 k l)
    = (show FVec Ideal S1024x1024 .bf16 from V m c main_v12) (ix2 k l) := by
  blk_ext [iblk, idx t]

/-- The staged gates are the sequence's, -/
theorem g1_at (k : Fin 1024) : (show FVec Ideal S1x1x1024 .f32 from iblk m c 5 t) (ix3 0 0 k)
    = (show FVec Ideal S8x1x1024 .f32 from V m c main_arg5) (ix3 (seq t) 0 k) := by
  unfold seq
  blk_ext [iblk, idx t]

/-- the factors -/
theorem sc_at (k : Fin 1024) : (show FVec Ideal S1x1x1024 .f32 from iblk m c 6 t) (ix3 0 0 k)
    = (show FVec Ideal S8x1x1024 .f32 from V m c main_arg6) (ix3 (seq t) 0 k) := by
  unfold seq
  blk_ext [iblk, idx t]

/-- and the shifts too. -/
theorem sh_at (k : Fin 1024) : (show FVec Ideal S1x1x1024 .f32 from iblk m c 7 t) (ix3 0 0 k)
    = (show FVec Ideal S8x1x1024 .f32 from V m c main_arg7) (ix3 (seq t) 0 k) := by
  unfold seq
  blk_ext [iblk, idx t]

/-- The staged weights of the norm are the whole array. -/
theorem g_at (k : Fin 1024) : (show FVec Ideal S1x1024 .f32 from iblk m c 8 t) (ix2 0 k)
    = (show FVec Ideal S1x1024 .f32 from V m c main_arg8) (ix2 0 k) := by
  blk_ext [iblk, idx t]

/-- The reference's stream of the arguments. -/
def all : FVec Ideal Cert.OutRefIdeal.S8x4096x1024 .f32 :=
  Cert.OutRefIdeal.Read.stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The reference's modulated norm of it. -/
def norm : FVec Ideal Cert.OutRefIdeal.S8x4096x1024 .f32 :=
  Cert.OutRefIdeal.Read.hidden (all m c) (m ((c : Thread nD τ).loc main_arg6)) (m ((c : Thread nD τ).loc main_arg7)) (m ((c : Thread nD τ).loc main_arg8))

/-- A row of the tile is the reference's row. -/
theorem row_eq (r : Fin 512) (k : Fin 1024) :
    rows (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) = all m c (ix3 (seq t) (pos t r) k) := by
  have hx : (show FVec Ideal S1x512x1024 .f32 from iblk m c 0 t) (ix3 0 r k) = (show FVec Ideal S8x4096x1024 .f32 from m ((c : Thread nD τ).loc main_arg0)) (ix3 (seq t) (pos t r) k) := by
    rw [x_at, V_main_arg0]
  have hg : (show FVec Ideal S1x1x1024 .f32 from iblk m c 5 t) (ix3 0 0 k) = (show FVec Ideal S8x1x1024 .f32 from m ((c : Thread nD τ).loc main_arg5)) (ix3 (seq t) 0 k) := by
    rw [g1_at, V_main_arg5]
  unfold all
  rw [Cert.OutRefIdeal.Read.stream_at]
  refine (rows_at _ _ _ _ _ _ _ _ _ _ _ r k).trans (congrArg₂ (· + ·) hx (congrArg₂ (· * ·) hg (congrArg₂ (· + ·) (congrArg₂ (· + ·) ?_ ?_) ?_)))
  · exact Finset.sum_congr rfl fun i _ => congrArg₂ (· * ·) ((ya_at m c t r i).trans (V_ya m c _)) ((w_at m c t _ k).trans (V_w m c _))
  · exact Finset.sum_congr rfl fun i _ => congrArg₂ (· * ·) ((ys_at m c t r i).trans (V_ys m c _)) ((w_at m c t _ k).trans (V_w m c _))
  · exact Finset.sum_congr rfl fun i _ => congrArg₂ (· * ·) ((yr_at m c t r i).trans (V_yr m c _)) ((w_at m c t _ k).trans (V_w m c _))

/-- A row of the tile's norm is the reference's. -/
theorem level_eq (r : Fin 512) (k : Fin 1024) :
    level (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) = norm m c (ix3 (seq t) (pos t r) k) := by
  have hs : (show FVec Ideal S1x1x1024 .f32 from iblk m c 6 t) (ix3 0 0 k) = (show FVec Ideal S8x1x1024 .f32 from m ((c : Thread nD τ).loc main_arg6)) (ix3 (seq t) 0 k) := by
    rw [sc_at, V_main_arg6]
  have hh : (show FVec Ideal S1x1x1024 .f32 from iblk m c 7 t) (ix3 0 0 k) = (show FVec Ideal S8x1x1024 .f32 from m ((c : Thread nD τ).loc main_arg7)) (ix3 (seq t) 0 k) := by
    rw [sh_at, V_main_arg7]
  have hg : (show FVec Ideal S1x1024 .f32 from iblk m c 8 t) (ix2 0 k) = (show FVec Ideal S1x1024 .f32 from m ((c : Thread nD τ).loc main_arg8)) (ix2 0 k) := by
    rw [g_at, V_main_arg8]
  unfold norm
  rw [Cert.OutRefIdeal.Read.hidden_at]
  refine (level_at _ _ _ _ _ _ _ _ _ _ _ r k).trans ?_
  simp only [row_eq]
  exact congrArg₂ (· + ·) (congrArg₂ (· * ·) (congrArg (fun z : EReal => _ * z) hg) (congrArg (fun z : EReal => _ + z) hs)) hh

/-- The whole stream. -/
theorem streams : (dats m 0 c).arrAt 11 cfg0.N = all m c := by
  refine (dats m 0 c).arrAt_eq_of_covers 11 _ (by decide +kernel) fun t _ y => ?_
  blk_simp
  rw [after_11]
  obtain ⟨r, l, hy⟩ : ∃ (r : Fin 512) (l : Fin 1024), y = ix3 0 r l := ⟨⟨(y 1).val, (y 1).isLt⟩, ⟨(y 2).val, (y 2).isLt⟩, by
    funext a
    match a with
    | ⟨0, _⟩ => exact Subsingleton.elim (α := Fin 1) _ _
    | ⟨1, _⟩ => rfl
    | ⟨2, _⟩ => rfl⟩
  subst hy
  refine Eq.trans (b := all m c (ix3 (seq t) (pos t r) l)) ?_ (by unfold seq pos; blk_ext [idx t])
  exact (stream_at _ _ _ _ _ _ _ _ _ _ _ r l).trans (row_eq m c t r l)

/-- The whole norm, its rows cut into eight parts. -/
theorem norms : (dats m 0 c).arrAt 12 cfg0.N = Cert.OutRefIdeal.Read.parts (norm m c) := by
  refine (dats m 0 c).arrAt_eq_of_covers 12 _ (by decide +kernel) fun t _ y => ?_
  blk_simp
  rw [after_12, normed_eq]
  obtain ⟨q, l, hy⟩ : ∃ (q : Fin 4096) (l : Fin 128), y = ix2 q l := ⟨⟨(y 0).val, (y 0).isLt⟩, ⟨(y 1).val, (y 1).isLt⟩, by
    funext a
    match a with
    | ⟨0, _⟩ => rfl
    | ⟨1, _⟩ => rfl⟩
  subst hy
  have ht : t.val < 64 := t.isLt
  refine Eq.trans (b := norm m c (ix3 (seq t) (pos t ⟨q.val / 8, by omega⟩) ⟨128 * (q.val % 8) + l.val, by omega⟩)) (level_eq m c t _ _) ?_
  refine (Cert.OutRefIdeal.Read.parts_at (norm m c) (seq t) (pos t ⟨q.val / 8, by omega⟩) ⟨q.val % 8, by omega⟩ l).symm.trans ?_
  have e : (⟨((seq t).val * 4096 + (pos t ⟨q.val / 8, by omega⟩).val) * 8 + q.val % 8, by unfold seq pos; dsimp only; omega⟩ : Fin 262144) = ⟨t.val * 4096 + q.val, by omega⟩ :=
    Fin.ext (by show (t.val / 8 * 4096 + (t.val % 8 * 512 + q.val / 8)) * 8 + q.val % 8 = t.val * 4096 + q.val; omega)
  refine (congrArg (fun z => Cert.OutRefIdeal.Read.parts (norm m c) (ix2 z l)) e).trans ?_
  blk_ext [idx t]

end Cert.OutIdeal.Result

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_attn_finite
public import proofs.«01_k».proof.Proof.Gen.AttnIdeal.Value
public import proofs.«01_k».proof.Proof.Gen.AttnRefIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Pre_experts_in_range
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.AttnValue
public import proofs.«01_k».proof.Proof.AttnPre
public import proofs.«01_k».proof.Proof.ExpertsFrame
public import proofs.«01_k».proof.Proof.ExpertsIdealValue
public import proofs.«01_k».proof.Proof.ExpertsRef
public import proofs.«01_k».proof.Proof.ExpertsPre
public import proofs.«01_k».proof.Proof.ProjValue
public import proofs.«01_k».proof.Proof.OutFrame
public import proofs.«01_k».proof.Proof.OutValue
public import Idealize.ShloMosaic.Adequacy
public import Idealize.ShloMosaic.Init

@[expose] public section

noncomputable section

namespace Cert.Proof

open Idealize.ShloMosaic Idealize.SL.Sem Cert.Attn

/-- The reference runs, keeps its arguments and ends quiescent. -/
theorem frame_ref : Cert.quiescent_AttnRefIdeal (hAttnRefIdeal := Cert.AttnRefIdeal.Gen.facts) := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

/-- The idealized call and the idealized reference leave the same attention. -/
theorem value : Cert.algebraic_AttnIdeal_AttnRefIdeal_pre_attn_finite (hAttnIdeal := Cert.AttnIdeal.Gen.facts) (hAttnRefIdeal := Cert.AttnRefIdeal.Gen.facts)
    (hPre_attn_finite := Cert.Pre_attn_finite.Gen.facts) := fun m ρ m' ρ' hp hag => by
  refine ⟨fun c => Cert.AttnRefIdeal.Read.attn (m ((c.tc : Thread Cert.AttnIdeal.nD Cert.AttnIdeal.τ).loc Cert.AttnIdeal.main_arg0)) (m ((c.tc : Thread Cert.AttnIdeal.nD Cert.AttnIdeal.τ).loc Cert.AttnIdeal.main_arg1))
    (m ((c.tc : Thread Cert.AttnIdeal.nD Cert.AttnIdeal.τ).loc Cert.AttnIdeal.main_arg2)) (m ((c.tc : Thread Cert.AttnIdeal.nD Cert.AttnIdeal.τ).loc Cert.AttnIdeal.main_arg3)), ?_, ?_⟩
  · refine (θ_run _ _ _).mono (fun r h c => ?_) (Cert.AttnIdeal.Value.run_blocks m ρ)
    obtain ⟨h0, h1⟩ := h c
    obtain ⟨hq, hk, ht⟩ := Cert.Pre_attn_finite.Read.real _ _ _ _ (hp c)
    exact ⟨h0.trans (Cert.AttnIdeal.Result.final m c hq hk ht), h1⟩
  · refine (θ_run _ _ _).mono (fun r h c => ?_) (Cert.AttnRefIdeal.Value.run m' ρ')
    obtain ⟨h0, h1⟩ := h c
    obtain ⟨a0, a1, a2, a3⟩ := hag c
    refine ⟨h0.trans ((Cert.AttnRefIdeal.Read.result_eq m' c).trans ?_), h1⟩
    rw [a0, a1, a2, a3]

/-- The tables of a memory whose tiles have one of the experts each. -/
def tables (m : (ℓ : Loc Cert.Experts.nD Cert.Experts.τ Cert.Experts.sig) → Buf (Elt Bits) ℓ) (hp : Cert.Pre_Experts (hPre_experts_in_range := Cert.Pre_experts_in_range.Gen.facts) m) : Cert.Experts.Tile.Tables :=
  ⟨m (((0 : Dev Cert.Experts.nD).tc : Thread Cert.Experts.nD Cert.Experts.τ).loc Cert.Experts.main_arg0), m (((0 : Dev Cert.Experts.nD).tc : Thread Cert.Experts.nD Cert.Experts.τ).loc Cert.Experts.main_arg1),
    fun x => Cert.Pre_experts_in_range.Read.range (F := Bits) _ _ _ _ _ _ (hp 0) x⟩

/-- They are what the memory holds. -/
theorem holds (m : (ℓ : Loc Cert.Experts.nD Cert.Experts.τ Cert.Experts.sig) → Buf (Elt Bits) ℓ) (hp : Cert.Pre_Experts (hPre_experts_in_range := Cert.Pre_experts_in_range.Gen.facts) m) :
    Cert.Experts.Tile.Holds (tables m hp) m :=
  ⟨fun c => by rw [Subsingleton.elim (α := Fin 1) c 0]; rfl, fun c => by rw [Subsingleton.elim (α := Fin 1) c 0]; rfl⟩

/-- The experts' call runs, keeps its arguments and ends quiescent. -/
theorem frame_experts : Cert.quiescent_Experts (hExperts := Cert.Experts.Gen.facts) (hPre_experts_in_range := Cert.Pre_experts_in_range.Gen.facts) := fun m ρ hp =>
  (θ_run Cert.Experts.defs _ _).mono (fun r h => ⟨fun c => Cert.Experts.Tile.kept _ m ρ (holds m hp) r h.1 c, h.2⟩)
    (Cert.Experts.Tile.run (tables m hp) m ρ (holds m hp))

/-- The tables of a memory whose tiles have one of the experts each. -/
def tables_ideal (m : (ℓ : Loc Cert.ExpertsIdeal.nD Cert.ExpertsIdeal.τ Cert.ExpertsIdeal.sig) → Buf (Elt Ideal) ℓ) (hp : Cert.Pre_ExpertsIdeal (hPre_experts_in_range := Cert.Pre_experts_in_range.Gen.facts) m) : Cert.ExpertsIdeal.Tile.Tables :=
  ⟨m (((0 : Dev Cert.ExpertsIdeal.nD).tc : Thread Cert.ExpertsIdeal.nD Cert.ExpertsIdeal.τ).loc Cert.ExpertsIdeal.main_arg0), m (((0 : Dev Cert.ExpertsIdeal.nD).tc : Thread Cert.ExpertsIdeal.nD Cert.ExpertsIdeal.τ).loc Cert.ExpertsIdeal.main_arg1),
    fun x => Cert.Pre_experts_in_range.Read.range (F := Ideal) _ _ _ _ _ _ (hp 0) x⟩

/-- They are what the memory holds. -/
theorem holds_ideal (m : (ℓ : Loc Cert.ExpertsIdeal.nD Cert.ExpertsIdeal.τ Cert.ExpertsIdeal.sig) → Buf (Elt Ideal) ℓ) (hp : Cert.Pre_ExpertsIdeal (hPre_experts_in_range := Cert.Pre_experts_in_range.Gen.facts) m) :
    Cert.ExpertsIdeal.Tile.Holds (tables_ideal m hp) m :=
  ⟨fun c => by rw [Subsingleton.elim (α := Fin 1) c 0]; rfl, fun c => by rw [Subsingleton.elim (α := Fin 1) c 0]; rfl⟩

/-- The idealized experts' call runs, keeps its arguments and ends quiescent. -/
theorem frame_experts_ideal : Cert.quiescent_ExpertsIdeal (hExpertsIdeal := Cert.ExpertsIdeal.Gen.facts) (hPre_experts_in_range := Cert.Pre_experts_in_range.Gen.facts) := fun m ρ hp =>
  (θ_run Cert.ExpertsIdeal.defs _ _).mono (fun r h => ⟨fun c => Cert.ExpertsIdeal.Tile.kept _ m ρ (holds_ideal m hp) r h.1 c, h.2⟩)
    (Cert.ExpertsIdeal.Tile.run (tables_ideal m hp) m ρ (holds_ideal m hp))

/-- The experts' reference runs, keeps its arguments and ends quiescent. -/
theorem frame_experts_ref : Cert.quiescent_ExpertsRefIdeal (hExpertsRefIdeal := Cert.ExpertsRefIdeal.Gen.facts) := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)

/-- The idealized experts' call and its reference leave the same rows. -/
theorem value_experts : Cert.algebraic_ExpertsIdeal_ExpertsRefIdeal (hExpertsIdeal := Cert.ExpertsIdeal.Gen.facts) (hExpertsRefIdeal := Cert.ExpertsRefIdeal.Gen.facts)
    (hPre_experts_in_range := Cert.Pre_experts_in_range.Gen.facts) := fun m ρ m' ρ' hp hag => by
  have hh := holds_ideal m hp
  refine ⟨fun c => Cert.ExpertsIdeal.Tile.spec (tables_ideal m hp) m c, ?_, ?_⟩
  · refine (θ_run _ _ _).mono (fun r h c => ?_) (Cert.ExpertsIdeal.Tile.run (tables_ideal m hp) m ρ hh)
    exact ⟨((h.1 c).1 (4 : Fin 5)).trans (Cert.ExpertsIdeal.Tile.final (tables_ideal m hp) m ρ c), Cert.ExpertsIdeal.Tile.kept _ m ρ hh r h.1 c⟩
  · refine (θ_run _ _ _).mono (fun r h c => ?_) (Cert.ExpertsRefIdeal.Value.run m' ρ')
    obtain ⟨h0, h1⟩ := h c
    obtain ⟨a0, a1, a2, a3, a4, a5⟩ := hag c
    refine ⟨h0.trans ((Cert.ExpertsRefIdeal.Read.result_eq m' c).trans ?_), h1⟩
    rw [a0, a1, a2, a3, a4, a5]
    funext y
    obtain ⟨p, l, hy⟩ : ∃ (p : Fin 655360) (l : Fin 128), y = ix2 p l := ⟨y 0, y 1, by
      funext a
      match a with
      | ⟨0, _⟩ => rfl
      | ⟨1, _⟩ => rfl⟩
    subst hy
    have e0 := hh.1 c
    have e1 := hh.2 c
    refine (Cert.ExpertsRefIdeal.Read.experts_at _ _ _ _ _ _ (Cert.ExpertsIdeal.Tile.expert (tables_ideal m hp)) (fun i => ?_) p l).trans ?_
    · rw [e0]
      rfl
    · rw [e1]
      rfl

/-- The projection's reference runs, keeps its arguments and ends quiescent. -/
theorem frame_proj_ref : Cert.quiescent_ProjRefIdeal (hProjRefIdeal := Cert.ProjRefIdeal.Gen.facts) := fun m ρ _ =>
  (θ_run Cert.ProjRefIdeal.defs _ _).mono (fun r h => ⟨fun c => (h c).2.2.2.2.2.2.2.2, Idealize.ShloMosaic.sem_eq_zero_of_no_sems (by decide) r.2⟩)
    (Cert.ProjRefIdeal.Read.run m ρ)

/-- The projections are the same in two memories that hold the same arguments. -/
theorem same_proj (m : (ℓ : Loc Cert.ProjIdeal.nD Cert.ProjIdeal.τ Cert.ProjIdeal.sig) → Buf (Elt Ideal) ℓ) (m' : (ℓ : Loc Cert.ProjRefIdeal.nD Cert.ProjRefIdeal.τ Cert.ProjRefIdeal.sig) → Buf (Elt Ideal) ℓ) (c : Dev Cert.ProjIdeal.nD)
    (a0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (a1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (a2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))
    (a3 : m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3))
    (a4 : m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.all m' c = Cert.ProjIdeal.Result.all m c := by
  unfold Cert.ProjRefIdeal.Read.all Cert.ProjIdeal.Result.all
  rw [a0, a1, a2, a3, a4]

/-- The idealized projection call and its reference leave the same eight arrays. -/
theorem value_proj : Cert.algebraic_ProjIdeal_ProjRefIdeal (hProjIdeal := Cert.ProjIdeal.Gen.facts) (hProjRefIdeal := Cert.ProjRefIdeal.Gen.facts) := fun m ρ m' ρ' _ hag => by
  refine ⟨fun c => Cert.ProjRefIdeal.Read.queries (Cert.ProjIdeal.Result.all m c),
    fun c => Cert.ProjRefIdeal.Read.keys (Cert.ProjIdeal.Result.all m c),
    fun c => Cert.ProjRefIdeal.Read.vals (Cert.ProjIdeal.Result.all m c),
    fun c => Cert.ProjRefIdeal.Read.inputs (Cert.ProjIdeal.Result.all m c),
    fun c => Cert.ProjRefIdeal.Read.asked (Cert.ProjIdeal.Result.all m c),
    fun c => Cert.ProjRefIdeal.Read.stored (Cert.ProjIdeal.Result.all m c),
    fun c => Cert.ProjRefIdeal.Read.kept (Cert.ProjIdeal.Result.all m c),
    fun c => Cert.ProjRefIdeal.Read.gates (Cert.ProjIdeal.Result.all m c), ?_, ?_⟩
  · refine (θ_run _ _ _).mono (fun r h c => ?_) (Cert.ProjIdeal.Value.run_blocks m ρ)
    obtain ⟨h0, h1, h2, h3, h4, h5, h6, h7, hk⟩ := h c
    exact ⟨h0.trans (Cert.ProjIdeal.Result.queries m c), h1.trans (Cert.ProjIdeal.Result.keys m c), h2.trans (Cert.ProjIdeal.Result.vals m c), h3.trans (Cert.ProjIdeal.Result.inputs m c), h4.trans (Cert.ProjIdeal.Result.asked m c), h5.trans (Cert.ProjIdeal.Result.stored m c), h6.trans (Cert.ProjIdeal.Result.kept m c), h7.trans (Cert.ProjIdeal.Result.gates m c), hk⟩
  · refine (θ_run _ _ _).mono (fun r h c => ?_) (Cert.ProjRefIdeal.Read.run m' ρ')
    obtain ⟨h0, h1, h2, h3, h4, h5, h6, h7, hk⟩ := h c
    obtain ⟨a0, a1, a2, a3, a4⟩ := hag c
    have e := same_proj m m' c a0 a1 a2 a3 a4
    exact ⟨h0.trans (congrArg Cert.ProjRefIdeal.Read.queries e), h1.trans (congrArg Cert.ProjRefIdeal.Read.keys e), h2.trans (congrArg Cert.ProjRefIdeal.Read.vals e), h3.trans (congrArg Cert.ProjRefIdeal.Read.inputs e), h4.trans (congrArg Cert.ProjRefIdeal.Read.asked e), h5.trans (congrArg Cert.ProjRefIdeal.Read.stored e), h6.trans (congrArg Cert.ProjRefIdeal.Read.kept e), h7.trans (congrArg Cert.ProjRefIdeal.Read.gates e), hk⟩

/-- The output projection's reference runs, keeps its arguments and ends quiescent. -/
theorem frame_out_ref : Cert.quiescent_OutRefIdeal (hOutRefIdeal := Cert.OutRefIdeal.Gen.facts) := fun m ρ _ =>
  (θ_run Cert.OutRefIdeal.defs _ _).mono (fun r h => ⟨fun c => (h c).2.2, Idealize.ShloMosaic.sem_eq_zero_of_no_sems (by decide) r.2⟩)
    (Cert.OutRefIdeal.Read.run m ρ)

/-- The stream and its norm are the same in two memories that hold the same arguments. -/
theorem same_out (m : (ℓ : Loc Cert.OutIdeal.nD Cert.OutIdeal.τ Cert.OutIdeal.sig) → Buf (Elt Ideal) ℓ) (m' : (ℓ : Loc Cert.OutRefIdeal.nD Cert.OutRefIdeal.τ Cert.OutRefIdeal.sig) → Buf (Elt Ideal) ℓ) (c : Dev Cert.OutIdeal.nD)
    (a0 : m' ((c.tc : Thread Cert.OutRefIdeal.nD Cert.OutRefIdeal.τ).loc Cert.OutRefIdeal.main_arg0) = m ((c.tc : Thread Cert.OutIdeal.nD Cert.OutIdeal.τ).loc Cert.OutIdeal.main_arg0))
    (a1 : m' ((c.tc : Thread Cert.OutRefIdeal.nD Cert.OutRefIdeal.τ).loc Cert.OutRefIdeal.main_arg1) = m ((c.tc : Thread Cert.OutIdeal.nD Cert.OutIdeal.τ).loc Cert.OutIdeal.main_arg1))
    (a2 : m' ((c.tc : Thread Cert.OutRefIdeal.nD Cert.OutRefIdeal.τ).loc Cert.OutRefIdeal.main_arg2) = m ((c.tc : Thread Cert.OutIdeal.nD Cert.OutIdeal.τ).loc Cert.OutIdeal.main_arg2))
    (a3 : m' ((c.tc : Thread Cert.OutRefIdeal.nD Cert.OutRefIdeal.τ).loc Cert.OutRefIdeal.main_arg3) = m ((c.tc : Thread Cert.OutIdeal.nD Cert.OutIdeal.τ).loc Cert.OutIdeal.main_arg3))
    (a4 : m' ((c.tc : Thread Cert.OutRefIdeal.nD Cert.OutRefIdeal.τ).loc Cert.OutRefIdeal.main_arg4) = m ((c.tc : Thread Cert.OutIdeal.nD Cert.OutIdeal.τ).loc Cert.OutIdeal.main_arg4))
    (a5 : m' ((c.tc : Thread Cert.OutRefIdeal.nD Cert.OutRefIdeal.τ).loc Cert.OutRefIdeal.main_arg5) = m ((c.tc : Thread Cert.OutIdeal.nD Cert.OutIdeal.τ).loc Cert.OutIdeal.main_arg5))
    (a6 : m' ((c.tc : Thread Cert.OutRefIdeal.nD Cert.OutRefIdeal.τ).loc Cert.OutRefIdeal.main_arg6) = m ((c.tc : Thread Cert.OutIdeal.nD Cert.OutIdeal.τ).loc Cert.OutIdeal.main_arg6))
    (a7 : m' ((c.tc : Thread Cert.OutRefIdeal.nD Cert.OutRefIdeal.τ).loc Cert.OutRefIdeal.main_arg7) = m ((c.tc : Thread Cert.OutIdeal.nD Cert.OutIdeal.τ).loc Cert.OutIdeal.main_arg7))
    (a8 : m' ((c.tc : Thread Cert.OutRefIdeal.nD Cert.OutRefIdeal.τ).loc Cert.OutRefIdeal.main_arg8) = m ((c.tc : Thread Cert.OutIdeal.nD Cert.OutIdeal.τ).loc Cert.OutIdeal.main_arg8)) :
    Cert.OutRefIdeal.Read.all m' c = Cert.OutIdeal.Result.all m c
      ∧ Cert.OutRefIdeal.Read.hidden (Cert.OutRefIdeal.Read.all m' c) (m' ((c.tc : Thread Cert.OutRefIdeal.nD Cert.OutRefIdeal.τ).loc Cert.OutRefIdeal.main_arg6)) (m' ((c.tc : Thread Cert.OutRefIdeal.nD Cert.OutRefIdeal.τ).loc Cert.OutRefIdeal.main_arg7)) (m' ((c.tc : Thread Cert.OutRefIdeal.nD Cert.OutRefIdeal.τ).loc Cert.OutRefIdeal.main_arg8)) = Cert.OutIdeal.Result.norm m c := by
  have e : Cert.OutRefIdeal.Read.all m' c = Cert.OutIdeal.Result.all m c := by
    unfold Cert.OutRefIdeal.Read.all Cert.OutIdeal.Result.all
    rw [a0, a1, a2, a3, a4, a5]
  refine ⟨e, ?_⟩
  unfold Cert.OutIdeal.Result.norm
  rw [e, a6, a7, a8]

/-- The idealized output projection and its reference leave the same stream and the same norm of it. -/
theorem value_out : Cert.algebraic_OutIdeal_OutRefIdeal (hOutIdeal := Cert.OutIdeal.Gen.facts) (hOutRefIdeal := Cert.OutRefIdeal.Gen.facts) := fun m ρ m' ρ' _ hag => by
  refine ⟨fun c => Cert.OutIdeal.Result.all m c, fun c => Cert.OutRefIdeal.Read.parts (Cert.OutIdeal.Result.norm m c), ?_, ?_⟩
  · refine (θ_run _ _ _).mono (fun r h c => ?_) (θ_run_and (Cert.OutIdeal.Tile.run m ρ) (Cert.OutIdeal.Tile.frame m ρ))
    exact ⟨((h.1.1 c).1 11).trans (Cert.OutIdeal.Result.streams m c), ((h.1.1 c).1 12).trans (Cert.OutIdeal.Result.norms m c), h.2.1 c⟩
  · refine (θ_run _ _ _).mono (fun r h c => ?_) (Cert.OutRefIdeal.Read.run m' ρ')
    obtain ⟨h0, h1, hk⟩ := h c
    obtain ⟨a0, a1, a2, a3, a4, a5, a6, a7, a8, -⟩ := hag c
    obtain ⟨e0, e1⟩ := same_out m m' c a0 a1 a2 a3 a4 a5 a6 a7 a8
    exact ⟨h0.trans e0, h1.trans (congrArg Cert.OutRefIdeal.Read.parts e1), hk⟩

/-- Everything claimed. -/
theorem claim : Cert.Claim := ⟨Cert.Attn.Gen.facts, Cert.AttnIdeal.Gen.facts, Cert.AttnRefIdeal.Gen.facts, Cert.Experts.Gen.facts, Cert.ExpertsIdeal.Gen.facts, Cert.ExpertsRefIdeal.Gen.facts,
  Cert.Proj.Gen.facts, Cert.ProjIdeal.Gen.facts, Cert.ProjRefIdeal.Gen.facts, Cert.Out.Gen.facts, Cert.OutIdeal.Gen.facts, Cert.OutRefIdeal.Gen.facts, Cert.Pre_attn_finite.Gen.facts, Cert.Pre_experts_in_range.Gen.facts,
  fun m ρ _ => Cert.Attn.Gen.frame m ρ, fun m ρ _ => Cert.AttnIdeal.Gen.frame m ρ, fun m ρ _ => Cert.AttnIdeal.Gen.frame m ρ,
  frame_ref, fun m ρ _ => frame_ref m ρ trivial, frame_experts, frame_experts_ideal, frame_experts_ref, fun m ρ _ => frame_experts_ref m ρ trivial,
  fun m ρ _ => Cert.Proj.Gen.frame m ρ, fun m ρ _ => Cert.ProjIdeal.Gen.frame m ρ, frame_proj_ref,
  fun m ρ _ => Cert.Out.Tile.frame m ρ, fun m ρ _ => Cert.OutIdeal.Tile.frame m ρ, frame_out_ref,
  IdealRules.named_const.statement Cert.AttnIdeal.κ "mask" .f32 0xF149F2CA#32 ⊥ rfl, value, trivial, value_experts, trivial, value_proj, trivial, value_out⟩

end Cert.Proof

end
